-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2 = (fun _ => 1#1)

def Pre_Kernel2 [hPre_rows_in_range : Cert.Pre_rows_in_range.Facts] (m : (ℓ : Loc Cert.Kernel2.nD Cert.Kernel2.τ Cert.Kernel2.sig) → Buf (Elt Bits) ℓ) : Prop :=
  ∀ c : Dev Cert.Kernel2.nD,
    (Cert.Pre_rows_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_rows_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2 = (fun _ => 1#1)

def Pre_Kernel2Ideal [hPre_rows_in_range : Cert.Pre_rows_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_rows_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2 = (fun _ => 1#1)

def Pre_Reference2Ideal [hPre_rows_in_range : Cert.Pre_rows_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_rows_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] [hPre_rows_in_range : Cert.Pre_rows_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_rows_in_range : Cert.Pre_rows_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_rows_in_range : Cert.Pre_rows_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v82_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] [hPre_rows_in_range : Cert.Pre_rows_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts) (hPre_rows_in_range : Cert.Pre_rows_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_rows_in_range := hPre_rows_in_range)
    ∧ quiescent_Kernel2Ideal (hKernel2Ideal := hKernel2Ideal) (hPre_rows_in_range := hPre_rows_in_range)
    ∧ quiescent_Reference2Ideal (hReference2Ideal := hReference2Ideal) (hPre_rows_in_range := hPre_rows_in_range)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_rows_in_range := hPre_rows_in_range)
-- ==== Pre_finite_scores.lean ====
abbrev S8x4096x1024 : Shape := ⟨3, ![8, 4096, 1024]⟩
abbrev S1x1024 : Shape := ⟨2, ![1, 1024]⟩
abbrev S1x1024x3840 : Shape := ⟨3, ![1, 1024, 3840]⟩
abbrev S1x64 : Shape := ⟨2, ![1, 64]⟩
abbrev S1x8 : Shape := ⟨2, ![1, 8]⟩
abbrev S1x8x64 : Shape := ⟨3, ![1, 8, 64]⟩
abbrev S1x8x128x128 : Shape := ⟨4, ![1, 8, 128, 128]⟩
abbrev S1x8x128 : Shape := ⟨3, ![1, 8, 128]⟩
abbrev S1x2x512x1024 : Shape := ⟨4, ![1, 2, 512, 1024]⟩
abbrev S1x1024x1024 : Shape := ⟨3, ![1, 1024, 1024]⟩
abbrev S1x1024x32 : Shape := ⟨3, ![1, 1024, 32]⟩
abbrev S1x32 : Shape := ⟨2, ![1, 32]⟩
abbrev S_ : Shape := ⟨0, ![]⟩

class Facts : Prop where
  bcast_S_S1x64 : S_.BroadcastsInDim S1x64 (![] : Fin 0 → Fin S1x64.rank)
  bcast_S_S1x8 : S_.BroadcastsInDim S1x8 (![] : Fin 0 → Fin S1x8.rank)

variable [Facts]

def fn {F : FTy → Type} [FloatOps F] (main_arg0 : FVec F S8x4096x1024 .f32) (main_arg1 : FVec F S1x1024 .f32) (main_arg2 : FVec F S1x1024x3840 .f32) (main_arg3 : FVec F S1x64 .f32) (main_arg4 : FVec F S1x64 .f32) (main_arg5 : FVec F S1x8 .f32) (main_arg6 : FVec F S1x8x64 .f32) (main_arg7 : FVec F S1x8x128x128 .f32) (main_arg8 : FVec F S1x8x128 .f32) (main_arg9 : FVec F S1x2x512x1024 .f32) (main_arg10 : FVec F S1x1024x1024 .f32) (main_arg11 : FVec F S1x1024 .f32) (main_arg12 : FVec F S1x1024x32 .f32) (main_arg13 : FVec F S1x32 .f32) : IVec S1x64 1 × IVec S1x64 1 × IVec S1x8 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg4
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_cst_1 : FVec F S_ .f32 := constant S_ .f32 0x7F800000#32
  let main_v6 : FVec F S1x8 .f32 := broadcastInDim S1x8 ![] bcast_S_S1x8 main_cst_1
  let main_v7 : IVec S1x8 1 := cmpf .olt main_arg5 main_v6
  (main_v2, main_v5, main_v7)
-- ==== Pre_rows_in_range.lean ====
abbrev S544 : Shape := ⟨1, ![544]⟩
abbrev S544x1x256 : Shape := ⟨3, ![544, 1, 256]⟩
abbrev S32768x1024 : Shape := ⟨2, ![32768, 1024]⟩
abbrev S1x1024 : Shape := ⟨2, ![1, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S544 : S_.BroadcastsInDim S544 (![] : Fin 0 → Fin S544.rank)
  bcast_S_S544x1x256 : S_.BroadcastsInDim S544x1x256 (![] : Fin 0 → Fin S544x1x256.rank)

variable [Facts]

def fn {F : FTy → Type} [FloatOps F] (main_arg0 : IVec S544 32) (main_arg1 : IVec S544x1x256 32) (main_arg2 : FVec F S32768x1024 .f32) (main_arg3 : FVec F S1x1024 .f32) (main_arg4 : FVec F S1x32x1024x2048 .f32) (main_arg5 : FVec F S1x32x2048 .f32) (main_arg6 : FVec F S1x32x1024x1024 .f32) (main_arg7 : FVec F S1x32x1024 .f32) : IVec S544 1 × IVec S544x1x256 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 32 := constantI S_ 32 0#32
  let main_v5 : IVec S544x1x256 32 := broadcastInDim S544x1x256 ![] bcast_S_S544x1x256 main_c_1
  let main_v6 : IVec S544x1x256 1 := cmpi .sge main_arg1 main_v5
  let main_c_2 : IVec S_ 32 := constantI S_ 32 32768#32
  let main_v7 : IVec S544x1x256 32 := broadcastInDim S544x1x256 ![] bcast_S_S544x1x256 main_c_2
  let main_v8 : IVec S544x1x256 1 := cmpi .slt main_arg1 main_v7
  let main_v9 : IVec S544x1x256 1 := andi main_v6 main_v8
  (main_v4, main_v9)
-- ==== Kernel.lean ====
abbrev S8x4096x1024 : Shape := ⟨3, ![8, 4096, 1024]⟩
abbrev S1x1024 : Shape := ⟨2, ![1, 1024]⟩
abbrev S1x1024x3840 : Shape := ⟨3, ![1, 1024, 3840]⟩
abbrev S1x64 : Shape := ⟨2, ![1, 64]⟩
abbrev S1x8 : Shape := ⟨2, ![1, 8]⟩
abbrev S1x8x64 : Shape := ⟨3, ![1, 8, 64]⟩
abbrev S1x8x128x128 : Shape := ⟨4, ![1, 8, 128, 128]⟩
abbrev S1x8x128 : Shape := ⟨3, ![1, 8, 128]⟩
abbrev S1x2x512x1024 : Shape := ⟨4, ![1, 2, 512, 1024]⟩
abbrev S1x1024x1024 : Shape := ⟨3, ![1, 1024, 1024]⟩
abbrev S1x1024x32 : Shape := ⟨3, ![1, 1024, 32]⟩
abbrev S1x32 : Shape := ⟨2, ![1, 32]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S8 : Shape := ⟨1, ![8]⟩
abbrev S2x4 : Shape := ⟨2, ![2, 4]⟩
abbrev S2x4x128 : Shape := ⟨3, ![2, 4, 128]⟩
abbrev S2x512 : Shape := ⟨2, ![2, 512]⟩
abbrev S2x512x1 : Shape := ⟨3, ![2, 512, 1]⟩
abbrev S8x128x128 : Shape := ⟨3, ![8, 128, 128]⟩
abbrev S128x8x128 : Shape := ⟨3, ![128, 8, 128]⟩
abbrev S128x1024 : Shape := ⟨2, ![128, 1024]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1024x32 : Shape := ⟨2, ![1024, 32]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S1024 : Shape := ⟨1, ![1024]⟩
abbrev S1024x3840 : Shape := ⟨2, ![1024, 3840]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S2x512x1024 : Shape := ⟨3, ![2, 512, 1024]⟩
abbrev S1024x1024 : Shape := ⟨2, ![1024, 1024]⟩
abbrev S1x1024x128 : Shape := ⟨3, ![1, 1024, 128]⟩
abbrev S2x1024x128 : Shape := ⟨3, ![2, 1024, 128]⟩
abbrev S4096 : Shape := ⟨1, ![4096]⟩
abbrev S4096x1 : Shape := ⟨2, ![4096, 1]⟩
abbrev S4096x8 : Shape := ⟨2, ![4096, 8]⟩
abbrev S4096x48 : Shape := ⟨2, ![4096, 48]⟩
abbrev S4096x56 : Shape := ⟨2, ![4096, 56]⟩
abbrev S4096x64 : Shape := ⟨2, ![4096, 64]⟩
abbrev S4096x128 : Shape := ⟨2, ![4096, 128]⟩
abbrev S4096x384 : Shape := ⟨2, ![4096, 384]⟩
abbrev S8x8x4096 : Shape := ⟨3, ![8, 8, 4096]⟩
abbrev S8x4096x128 : Shape := ⟨3, ![8, 4096, 128]⟩
abbrev S1x512x1024 : Shape := ⟨3, ![1, 512, 1024]⟩
abbrev S1x128x1024 : Shape := ⟨3, ![1, 128, 1024]⟩
abbrev S512x384 : Shape := ⟨2, ![512, 384]⟩
abbrev S128x384 : Shape := ⟨2, ![128, 384]⟩
abbrev S1x8x512 : Shape := ⟨3, ![1, 8, 512]⟩
abbrev S1x512x128 : Shape := ⟨3, ![1, 512, 128]⟩
abbrev S512x3840 : Shape := ⟨2, ![512, 3840]⟩
abbrev S768x128 : Shape := ⟨2, ![768, 128]⟩
abbrev S512x1024 : Shape := ⟨2, ![512, 1024]⟩
abbrev S512x1 : Shape := ⟨2, ![512, 1]⟩
abbrev S512x128 : Shape := ⟨2, ![512, 128]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x128 : Shape := ⟨2, ![256, 128]⟩
abbrev S256x384 : Shape := ⟨2, ![256, 384]⟩
abbrev S128x64 : Shape := ⟨2, ![128, 64]⟩
abbrev S512x64 : Shape := ⟨2, ![512, 64]⟩
abbrev S384x64 : Shape := ⟨2, ![384, 64]⟩
abbrev S1x512x1 : Shape := ⟨3, ![1, 512, 1]⟩
abbrev S128x256 : Shape := ⟨2, ![128, 256]⟩
abbrev S512x256 : Shape := ⟨2, ![512, 256]⟩
abbrev S32x512 : Shape := ⟨2, ![32, 512]⟩
abbrev S8x512 : Shape := ⟨2, ![8, 512]⟩
abbrev S120x512 : Shape := ⟨2, ![120, 512]⟩

abbrev nBuf : Space → Nat
  | .hbm => 115
  | .vmem => 38
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3840, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S1x8x64, .f32⟩
  | .hbm, ⟨7, _⟩ => ⟨S1x8x128x128, .f32⟩
  | .hbm, ⟨8, _⟩ => ⟨S1x8x128, .f32⟩
  | .hbm, ⟨9, _⟩ => ⟨S1x2x512x1024, .f32⟩
  | .hbm, ⟨10, _⟩ => ⟨S1x1024x1024, .f32⟩
  | .hbm, ⟨11, _⟩ => ⟨S1x1024, .f32⟩
  | .hbm, ⟨12, _⟩ => ⟨S1x1024x32, .f32⟩
  | .hbm, ⟨13, _⟩ => ⟨S1x32, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S_, .f32⟩
  | .hbm, ⟨22, _⟩ => ⟨S64x64, .f32⟩
  | .hbm, ⟨23, _⟩ => ⟨S8x1x8x1, .f32⟩
  | .hbm, ⟨24, _⟩ => ⟨S1x64x1x64, .f32⟩
  | .hbm, ⟨25, _⟩ => ⟨S8x64x8x64, .f32⟩
  | .hbm, ⟨26, _⟩ => ⟨S8x64x8x64, .f32⟩
  | .hbm, ⟨27, _⟩ => ⟨S8x64x8x64, .f32⟩
  | .hbm, ⟨28, _⟩ => ⟨S512x512, .f32⟩
  | .hbm, ⟨29, _⟩ => ⟨S512x512, .bf16⟩
  | .hbm, ⟨30, _⟩ => ⟨S8, .f32⟩
  | .hbm, ⟨31, _⟩ => ⟨S2x4, .f32⟩
  | .hbm, ⟨32, _⟩ => ⟨S2x4x128, .f32⟩
  | .hbm, ⟨33, _⟩ => ⟨S2x512, .f32⟩
  | .hbm, ⟨34, _⟩ => ⟨S2x512x1, .f32⟩
  | .hbm, ⟨35, _⟩ => ⟨S8x128x128, .f32⟩
  | .hbm, ⟨36, _⟩ => ⟨S128x8x128, .f32⟩
  | .hbm, ⟨37, _⟩ => ⟨S128x1024, .f32⟩
  | .hbm, ⟨38, _⟩ => ⟨S128x1024, .bf16⟩
  | .hbm, ⟨39, _⟩ => ⟨S8x128, .f32⟩
  | .hbm, ⟨40, _⟩ => ⟨S128x8, .f32⟩
  | .hbm, ⟨41, _⟩ => ⟨S128x8x64, .f32⟩
  | .hbm, ⟨42, _⟩ => ⟨S128x512, .f32⟩
  | .hbm, ⟨43, _⟩ => ⟨S1024x32, .f32⟩
  | .hbm, ⟨44, _⟩ => ⟨S_, .i32⟩
  | .hbm, ⟨45, _⟩ => ⟨S_, .f32⟩
  | .hbm, ⟨46, _⟩ => ⟨S1024x128, .f32⟩
  | .hbm, ⟨47, _⟩ => ⟨S1024x128, .bf16⟩
  | .hbm, ⟨48, _⟩ => ⟨S1024x128, .f32⟩
  | .hbm, ⟨49, _⟩ => ⟨S1024x128, .f32⟩
  | .hbm, ⟨50, _⟩ => ⟨S1024x128, .bf16⟩
  | .hbm, ⟨51, _⟩ => ⟨S32, .f32⟩
  | .hbm, ⟨52, _⟩ => ⟨S_, .i32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S1024, .f32⟩
  | .hbm, ⟨57, _⟩ => ⟨S1x1024, .f32⟩
  | .hbm, ⟨58, _⟩ => ⟨S1024x3840, .f32⟩
  | .hbm, ⟨59, _⟩ => ⟨S1024x3840, .bf16⟩
  | .hbm, ⟨60, _⟩ => ⟨S64, .f32⟩
  | .hbm, ⟨61, _⟩ => ⟨S1x64, .f32⟩
  | .hbm, ⟨62, _⟩ => ⟨S8x64, .f32⟩
  | .hbm, ⟨63, _⟩ => ⟨S512, .f32⟩
  | .hbm, ⟨64, _⟩ => ⟨S1x512, .f32⟩
  | .hbm, ⟨65, _⟩ => ⟨S64, .f32⟩
  | .hbm, ⟨66, _⟩ => ⟨S1x64, .f32⟩
  | .hbm, ⟨67, _⟩ => ⟨S2x64, .f32⟩
  | .hbm, ⟨68, _⟩ => ⟨S128, .f32⟩
  | .hbm, ⟨69, _⟩ => ⟨S1x128, .f32⟩
  | .hbm, ⟨70, _⟩ => ⟨S8x64, .f32⟩
  | .hbm, ⟨71, _⟩ => ⟨S1x512, .f32⟩
  | .hbm, ⟨72, _⟩ => ⟨S2x512x1024, .f32⟩
  | .hbm, ⟨73, _⟩ => ⟨S2x512x1024, .bf16⟩
  | .hbm, ⟨74, _⟩ => ⟨S1024x1024, .f32⟩
  | .hbm, ⟨75, _⟩ => ⟨S1024x1024, .bf16⟩
  | .hbm, ⟨76, _⟩ => ⟨S1024, .f32⟩
  | .hbm, ⟨77, _⟩ => ⟨S1x1024, .f32⟩
  | .hbm, ⟨78, _⟩ => ⟨S1x1024x128, .bf16⟩
  | .hbm, ⟨79, _⟩ => ⟨S1x1024x128, .bf16⟩
  | .hbm, ⟨80, _⟩ => ⟨S2x1024x128, .bf16⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S4096, .f32⟩
  | .hbm, ⟨90, _⟩ => ⟨S4096x1, .f32⟩
  | .hbm, ⟨91, _⟩ => ⟨S1x8, .f32⟩
  | .hbm, ⟨92, _⟩ => ⟨S4096x8, .f32⟩
  | .hbm, ⟨93, _⟩ => ⟨S4096x8, .f32⟩
  | .hbm, ⟨94, _⟩ => ⟨S4096x8, .f32⟩
  | .hbm, ⟨95, _⟩ => ⟨S4096x8, .f32⟩
  | .hbm, ⟨96, _⟩ => ⟨S4096x8, .f32⟩
  | .hbm, ⟨97, _⟩ => ⟨S_, .f32⟩
  | .hbm, ⟨98, _⟩ => ⟨S4096x48, .f32⟩
  | .hbm, ⟨99, _⟩ => ⟨S_, .f32⟩
  | .hbm, ⟨100, _⟩ => ⟨S4096x56, .f32⟩
  | .hbm, ⟨101, _⟩ => ⟨S4096x64, .f32⟩
  | .hbm, ⟨102, _⟩ => ⟨S4096x8, .f32⟩
  | .hbm, ⟨103, _⟩ => ⟨S4096x64, .f32⟩
  | .hbm, ⟨104, _⟩ => ⟨S_, .f32⟩
  | .hbm, ⟨105, _⟩ => ⟨S4096x8, .f32⟩
  | .hbm, ⟨106, _⟩ => ⟨S4096x48, .f32⟩
  | .hbm, ⟨107, _⟩ => ⟨S4096x64, .f32⟩
  | .hbm, ⟨108, _⟩ => ⟨S4096x128, .f32⟩
  | .hbm, ⟨109, _⟩ => ⟨S4096x128, .f32⟩
  | .hbm, ⟨110, _⟩ => ⟨S4096x128, .f32⟩
  | .hbm, ⟨111, _⟩ => ⟨S4096x384, .f32⟩
  | .hbm, ⟨112, _⟩ => ⟨S8x4096x1024, .f32⟩
  | .hbm, ⟨113, _⟩ => ⟨S8x8x4096, .i32⟩
  | .hbm, ⟨114, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S512x384, .f32⟩
  | .local _ .vmem, ⟨7, _⟩ => ⟨S512x384, .f32⟩
  | .local _ .vmem, ⟨8, _⟩ => ⟨S128x384, .f32⟩
  | .local _ .vmem, ⟨9, _⟩ => ⟨S128x384, .f32⟩
  | .local _ .vmem, ⟨10, _⟩ => ⟨S128x384, .f32⟩
  | .local _ .vmem, ⟨11, _⟩ => ⟨S128x384, .f32⟩
  | .local _ .vmem, ⟨12, _⟩ => ⟨S1x1024, .f32⟩
  | .local _ .vmem, ⟨13, _⟩ => ⟨S1024x3840, .bf16⟩
  | .local _ .vmem, ⟨14, _⟩ => ⟨S1x512, .f32⟩
  | .local _ .vmem, ⟨15, _⟩ => ⟨S1x128, .f32⟩
  | .local _ .vmem, ⟨16, _⟩ => ⟨S2x512x1, .f32⟩
  | .local _ .vmem, ⟨17, _⟩ => ⟨S1x512, .f32⟩
  | .local _ .vmem, ⟨18, _⟩ => ⟨S512x512, .bf16⟩
  | .local _ .vmem, ⟨19, _⟩ => ⟨S128x1024, .bf16⟩
  | .local _ .vmem, ⟨20, _⟩ => ⟨S128x512, .f32⟩
  | .local _ .vmem, ⟨21, _⟩ => ⟨S2x512x1024, .bf16⟩
  | .local _ .vmem, ⟨22, _⟩ => ⟨S1024x1024, .bf16⟩
  | .local _ .vmem, ⟨23, _⟩ => ⟨S1x1024, .f32⟩
  | .local _ .vmem, ⟨24, _⟩ => ⟨S2x1024x128, .bf16⟩
  | .local _ .vmem, ⟨25, _⟩ => ⟨S1x128, .f32⟩
  | .local _ .vmem, ⟨26, _⟩ => ⟨S1x512x1024, .f32⟩
  | .local _ .vmem, ⟨27, _⟩ => ⟨S1x512x1024, .f32⟩
  | .local _ .vmem, ⟨28, _⟩ => ⟨S1x8x512, .i32⟩
  | .local _ .vmem, ⟨29, _⟩ => ⟨S1x8x512, .i32⟩
  | .local _ .vmem, ⟨30, _⟩ => ⟨S1x512x128, .f32⟩
  | .local _ .vmem, ⟨31, _⟩ => ⟨S1x512x128, .f32⟩
  | .local _ .vmem, ⟨32, _⟩ => ⟨S512x3840, .f32⟩
  | .local _ .vmem, ⟨33, _⟩ => ⟨S512x512, .bf16⟩
  | .local _ .vmem, ⟨34, _⟩ => ⟨S768x128, .bf16⟩
  | .local _ .vmem, ⟨35, _⟩ => ⟨S768x128, .bf16⟩
  | .local _ .vmem, ⟨36, _⟩ => ⟨S512x512, .bf16⟩
  | .local _ .vmem, ⟨37, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_0 : Ref sig .tc := ⟨.hbm, 44, rfl⟩
abbrev main_call1_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_1 : Ref sig .tc := ⟨.hbm, 52, rfl⟩
abbrev main_call2_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_2 : Ref sig .tc := ⟨.hbm, 83, rfl⟩
abbrev main_v58 : Ref sig .tc := ⟨.hbm, 84, rfl⟩
abbrev main_v59 : Ref sig .tc := ⟨.hbm, 85, rfl⟩
abbrev main_cst_3 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_4 : Ref sig .tc := ⟨.hbm, 97, rfl⟩
abbrev main_v70 : Ref sig .tc := ⟨.hbm, 98, rfl⟩
abbrev main_cst_5 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_6 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82_0 : Ref sig .tc := ⟨.hbm, 112, rfl⟩
abbrev main_v82_1 : Ref sig .tc := ⟨.hbm, 113, rfl⟩
abbrev main_v82_2 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3840 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2x1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512 .i32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ReferenceIdeal.lean ====
abbrev S8x4096x1024 : Shape := ⟨3, ![8, 4096, 1024]⟩
abbrev S1x1024 : Shape := ⟨2, ![1, 1024]⟩
abbrev S1x1024x3840 : Shape := ⟨3, ![1, 1024, 3840]⟩
abbrev S1x64 : Shape := ⟨2, ![1, 64]⟩
abbrev S1x8 : Shape := ⟨2, ![1, 8]⟩
abbrev S1x8x64 : Shape := ⟨3, ![1, 8, 64]⟩
abbrev S1x8x128x128 : Shape := ⟨4, ![1, 8, 128, 128]⟩
abbrev S1x8x128 : Shape := ⟨3, ![1, 8, 128]⟩
abbrev S1x2x512x1024 : Shape := ⟨4, ![1, 2, 512, 1024]⟩
abbrev S1x1024x1024 : Shape := ⟨3, ![1, 1024, 1024]⟩
abbrev S1x1024x32 : Shape := ⟨3, ![1, 1024, 32]⟩
abbrev S1x32 : Shape := ⟨2, ![1, 32]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3840 : Shape := ⟨2, ![1024, 3840]⟩
abbrev S8x4096x3840 : Shape := ⟨3, ![8, 4096, 3840]⟩
abbrev S8x4096x512 : Shape := ⟨3, ![8, 4096, 512]⟩
abbrev S8x4096x128 : Shape := ⟨3, ![8, 4096, 128]⟩
abbrev S8x4096x2048 : Shape := ⟨3, ![8, 4096, 2048]⟩
abbrev S8x4096x8x64 : Shape := ⟨4, ![8, 4096, 8, 64]⟩
abbrev S64 : Shape := ⟨1, ![64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S4096 : Shape := ⟨1, ![4096]⟩
abbrev S8 : Shape := ⟨1, ![8]⟩
abbrev S4096x1 : Shape := ⟨2, ![4096, 1]⟩
abbrev S4096x8 : Shape := ⟨2, ![4096, 8]⟩
abbrev S1x4096x1x8 : Shape := ⟨4, ![1, 4096, 1, 8]⟩
abbrev S8x4096x8x8 : Shape := ⟨4, ![8, 4096, 8, 8]⟩
abbrev S8x4096x8x48 : Shape := ⟨4, ![8, 4096, 8, 48]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x8 : Shape := ⟨4, ![8, 4096, 2, 8]⟩
abbrev S8x4096x2x48 : Shape := ⟨4, ![8, 4096, 2, 48]⟩
abbrev S8x4096x2x4x64 : Shape := ⟨5, ![8, 4096, 2, 4, 64]⟩
abbrev S2x4 : Shape := ⟨2, ![2, 4]⟩
abbrev S8x4352x2x64 : Shape := ⟨4, ![8, 4352, 2, 64]⟩
abbrev S8x34x128x2x64 : Shape := ⟨5, ![8, 34, 128, 2, 64]⟩
abbrev S8x32x128x2x64 : Shape := ⟨5, ![8, 32, 128, 2, 64]⟩
abbrev S8x32x384x2x64 : Shape := ⟨5, ![8, 32, 384, 2, 64]⟩
abbrev S8x32x128x2x4x64 : Shape := ⟨6, ![8, 32, 128, 2, 4, 64]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S8x32x2x384x128x4 : Shape := ⟨6, ![8, 32, 2, 384, 128, 4]⟩
abbrev S8x32x2x4x128x384 : Shape := ⟨6, ![8, 32, 2, 4, 128, 384]⟩
abbrev S1x32x1x1x128x384 : Shape := ⟨6, ![1, 32, 1, 1, 128, 384]⟩
abbrev S1x1x2x4x1x1 : Shape := ⟨6, ![1, 1, 2, 4, 1, 1]⟩
abbrev S8x32x2x4x128 : Shape := ⟨5, ![8, 32, 2, 4, 128]⟩
abbrev S8x32x2x4x128x1 : Shape := ⟨6, ![8, 32, 2, 4, 128, 1]⟩
abbrev S8x32x2x64x4x128 : Shape := ⟨6, ![8, 32, 2, 64, 4, 128]⟩
abbrev S8x64 : Shape := ⟨2, ![8, 64]⟩
abbrev S8x128x128 : Shape := ⟨3, ![8, 128, 128]⟩
abbrev S8x128 : Shape := ⟨2, ![8, 128]⟩
abbrev S8x32x128x8x64 : Shape := ⟨5, ![8, 32, 128, 8, 64]⟩
abbrev S8x32x128x8 : Shape := ⟨4, ![8, 32, 128, 8]⟩
abbrev S8x32x128x8x1 : Shape := ⟨5, ![8, 32, 128, 8, 1]⟩
abbrev S1x1x1x8x64 : Shape := ⟨5, ![1, 1, 1, 8, 64]⟩
abbrev S8x8x32x64x128 : Shape := ⟨5, ![8, 8, 32, 64, 128]⟩
abbrev S128x8 : Shape := ⟨2, ![128, 8]⟩
abbrev S1x1x128x8x1 : Shape := ⟨5, ![1, 1, 128, 8, 1]⟩
abbrev S8x4096x1x512 : Shape := ⟨4, ![8, 4096, 1, 512]⟩
abbrev S8x4096x2x512 : Shape := ⟨4, ![8, 4096, 2, 512]⟩
abbrev S2x512x1024 : Shape := ⟨3, ![2, 512, 1024]⟩
abbrev S2x1024x8x4096 : Shape := ⟨4, ![2, 1024, 8, 4096]⟩
abbrev S8x4096x2x1024 : Shape := ⟨4, ![8, 4096, 2, 1024]⟩
abbrev S1024x1024 : Shape := ⟨2, ![1024, 1024]⟩

abbrev nBuf : Space → Nat
  | .hbm => 298
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x3840, .f32⟩
  | 3 => ⟨S1x64, .f32⟩
  | 4 => ⟨S1x64, .f32⟩
  | 5 => ⟨S1x8, .f32⟩
  | 6 => ⟨S1x8x64, .f32⟩
  | 7 => ⟨S1x8x128x128, .f32⟩
  | 8 => ⟨S1x8x128, .f32⟩
  | 9 => ⟨S1x2x512x1024, .f32⟩
  | 10 => ⟨S1x1024x1024, .f32⟩
  | 11 => ⟨S1x1024, .f32⟩
  | 12 => ⟨S1x1024x32, .f32⟩
  | 13 => ⟨S1x32, .f32⟩
  | 14 => ⟨S1024, .f32⟩
  | 15 => ⟨S8x4096x1024, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x1024, .f32⟩
  | 27 => ⟨S8x4096x1024, .f32⟩
  | 28 => ⟨S1x1x1024, .f32⟩
  | 29 => ⟨S8x4096x1024, .f32⟩
  | 30 => ⟨S8x4096x1024, .f32⟩
  | 31 => ⟨S1024x3840, .f32⟩
  | 32 => ⟨S8x4096x3840, .f32⟩
  | 33 => ⟨S8x4096x512, .f32⟩
  | 34 => ⟨S8x4096x128, .f32⟩
  | 35 => ⟨S8x4096x128, .f32⟩
  | 36 => ⟨S8x4096x512, .f32⟩
  | 37 => ⟨S8x4096x512, .f32⟩
  | 38 => ⟨S8x4096x2048, .f32⟩
  | 39 => ⟨S8x4096x8x64, .f32⟩
  | 40 => ⟨S64, .f32⟩
  | 41 => ⟨S8x4096x8x64, .f32⟩
  | 42 => ⟨S_, .f32⟩
  | 43 => ⟨S8x4096x8, .f32⟩
  | 44 => ⟨S8x4096x8x1, .f32⟩
  | 45 => ⟨S_, .f32⟩
  | 46 => ⟨S8x4096x8x1, .f32⟩
  | 47 => ⟨S8x4096x8x1, .f32⟩
  | 48 => ⟨S_, .f32⟩
  | 49 => ⟨S8x4096x8x1, .f32⟩
  | 50 => ⟨S8x4096x8x1, .f32⟩
  | 51 => ⟨S8x4096x8x1, .f32⟩
  | 52 => ⟨S8x4096x8x64, .f32⟩
  | 53 => ⟨S8x4096x8x64, .f32⟩
  | 54 => ⟨S1x1x1x64, .f32⟩
  | 55 => ⟨S8x4096x8x64, .f32⟩
  | 56 => ⟨S8x4096x8x64, .f32⟩
  | 57 => ⟨S4096, .f32⟩
  | 58 => ⟨S8, .f32⟩
  | 59 => ⟨S8, .f32⟩
  | 60 => ⟨S_, .f32⟩
  | 61 => ⟨S8, .f32⟩
  | 62 => ⟨S8, .f32⟩
  | 63 => ⟨S_, .f32⟩
  | 64 => ⟨S8, .f32⟩
  | 65 => ⟨S8, .f32⟩
  | 66 => ⟨S4096x1, .f32⟩
  | 67 => ⟨S1x8, .f32⟩
  | 68 => ⟨S4096x8, .f32⟩
  | 69 => ⟨S4096x8, .f32⟩
  | 70 => ⟨S4096x8, .f32⟩
  | 71 => ⟨S4096x8, .f32⟩
  | 72 => ⟨S1x4096x1x8, .f32⟩
  | 73 => ⟨S4096x8, .f32⟩
  | 74 => ⟨S1x4096x1x8, .f32⟩
  | 75 => ⟨S8x4096x8x8, .f32⟩
  | 76 => ⟨S8x4096x8x8, .f32⟩
  | 77 => ⟨S8x4096x8x8, .f32⟩
  | 78 => ⟨S8x4096x8x8, .f32⟩
  | 79 => ⟨S8x4096x8x8, .f32⟩
  | 80 => ⟨S8x4096x8x8, .f32⟩
  | 81 => ⟨S8x4096x8x8, .f32⟩
  | 82 => ⟨S8x4096x8x8, .f32⟩
  | 83 => ⟨S8x4096x8x8, .f32⟩
  | 84 => ⟨S8x4096x8x8, .f32⟩
  | 85 => ⟨S8x4096x8x8, .f32⟩
  | 86 => ⟨S8x4096x8x8, .f32⟩
  | 87 => ⟨S8x4096x8x48, .f32⟩
  | 88 => ⟨S8x4096x8x64, .f32⟩
  | 89 => ⟨S8x4096x2x64, .f32⟩
  | 90 => ⟨S64, .f32⟩
  | 91 => ⟨S8x4096x2x64, .f32⟩
  | 92 => ⟨S_, .f32⟩
  | 93 => ⟨S8x4096x2, .f32⟩
  | 94 => ⟨S8x4096x2x1, .f32⟩
  | 95 => ⟨S_, .f32⟩
  | 96 => ⟨S8x4096x2x1, .f32⟩
  | 97 => ⟨S8x4096x2x1, .f32⟩
  | 98 => ⟨S_, .f32⟩
  | 99 => ⟨S8x4096x2x1, .f32⟩
  | 100 => ⟨S8x4096x2x1, .f32⟩
  | 101 => ⟨S8x4096x2x1, .f32⟩
  | 102 => ⟨S8x4096x2x64, .f32⟩
  | 103 => ⟨S8x4096x2x64, .f32⟩
  | 104 => ⟨S1x1x1x64, .f32⟩
  | 105 => ⟨S8x4096x2x64, .f32⟩
  | 106 => ⟨S8x4096x2x64, .f32⟩
  | 107 => ⟨S4096, .f32⟩
  | 108 => ⟨S8, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S4096x1, .f32⟩
  | 117 => ⟨S1x8, .f32⟩
  | 118 => ⟨S4096x8, .f32⟩
  | 119 => ⟨S4096x8, .f32⟩
  | 120 => ⟨S4096x8, .f32⟩
  | 121 => ⟨S4096x8, .f32⟩
  | 122 => ⟨S1x4096x1x8, .f32⟩
  | 123 => ⟨S4096x8, .f32⟩
  | 124 => ⟨S1x4096x1x8, .f32⟩
  | 125 => ⟨S8x4096x2x8, .f32⟩
  | 126 => ⟨S8x4096x2x8, .f32⟩
  | 127 => ⟨S8x4096x2x8, .f32⟩
  | _ => ⟨S8x4096x1024, .f32⟩

abbrev hbmTy0_1 (i : Nat) : BufTy := match i % 128 with
  | 0 => ⟨S8x4096x2x8, .f32⟩
  | 1 => ⟨S8x4096x2x8, .f32⟩
  | 2 => ⟨S8x4096x2x8, .f32⟩
  | 3 => ⟨S8x4096x2x8, .f32⟩
  | 4 => ⟨S8x4096x2x8, .f32⟩
  | 5 => ⟨S8x4096x2x8, .f32⟩
  | 6 => ⟨S8x4096x2x8, .f32⟩
  | 7 => ⟨S8x4096x2x8, .f32⟩
  | 8 => ⟨S8x4096x2x8, .f32⟩
  | 9 => ⟨S8x4096x2x48, .f32⟩
  | 10 => ⟨S8x4096x2x64, .f32⟩
  | 11 => ⟨S8x4096x2x4x64, .f32⟩
  | 12 => ⟨S8x4096x2x64, .f32⟩
  | 13 => ⟨S8, .f32⟩
  | 14 => ⟨S2x4, .f32⟩
  | 15 => ⟨S_, .i32⟩
  | 16 => ⟨S_, .f32⟩
  | 17 => ⟨S8x4352x2x64, .f32⟩
  | 18 => ⟨S8x34x128x2x64, .f32⟩
  | 19 => ⟨S_, .i32⟩
  | 20 => ⟨S_, .f32⟩
  | 21 => ⟨S8x4352x2x64, .f32⟩
  | 22 => ⟨S8x34x128x2x64, .f32⟩
  | 23 => ⟨S8x32x128x2x64, .f32⟩
  | 24 => ⟨S8x32x128x2x64, .f32⟩
  | 25 => ⟨S8x32x128x2x64, .f32⟩
  | 26 => ⟨S8x32x384x2x64, .f32⟩
  | 27 => ⟨S8x32x128x2x64, .f32⟩
  | 28 => ⟨S8x32x128x2x64, .f32⟩
  | 29 => ⟨S8x32x128x2x64, .f32⟩
  | 30 => ⟨S8x32x384x2x64, .f32⟩
  | 31 => ⟨S8x32x128x2x4x64, .f32⟩
  | 32 => ⟨S128, .i32⟩
  | 33 => ⟨S128x1, .i32⟩
  | 34 => ⟨S_, .i32⟩
  | 35 => ⟨S128x1, .i32⟩
  | 36 => ⟨S128x1, .i32⟩
  | 37 => ⟨S384, .i32⟩
  | 38 => ⟨S1x384, .i32⟩
  | 39 => ⟨S128x384, .i32⟩
  | 40 => ⟨S128x384, .i32⟩
  | 41 => ⟨S128x384, .i32⟩
  | 42 => ⟨S128x384, .i32⟩
  | 43 => ⟨S_, .i32⟩
  | 44 => ⟨S128x384, .i32⟩
  | 45 => ⟨S128x384, .i1⟩
  | 46 => ⟨S32, .i32⟩
  | 47 => ⟨S32x1, .i32⟩
  | 48 => ⟨S_, .i32⟩
  | 49 => ⟨S32x1, .i32⟩
  | 50 => ⟨S32x1, .i32⟩
  | 51 => ⟨S_, .i32⟩
  | 52 => ⟨S32x1, .i32⟩
  | 53 => ⟨S32x1, .i32⟩
  | 54 => ⟨S384, .i32⟩
  | 55 => ⟨S1x384, .i32⟩
  | 56 => ⟨S32x384, .i32⟩
  | 57 => ⟨S32x384, .i32⟩
  | 58 => ⟨S32x384, .i32⟩
  | 59 => ⟨S1x128x384, .i1⟩
  | 60 => ⟨S_, .i32⟩
  | 61 => ⟨S32x384, .i32⟩
  | 62 => ⟨S32x384, .i1⟩
  | 63 => ⟨S_, .i32⟩
  | 64 => ⟨S32x384, .i32⟩
  | 65 => ⟨S32x384, .i1⟩
  | 66 => ⟨S32x384, .i1⟩
  | 67 => ⟨S32x1x384, .i1⟩
  | 68 => ⟨S32x128x384, .i1⟩
  | 69 => ⟨S32x128x384, .i1⟩
  | 70 => ⟨S32x128x384, .i1⟩
  | 71 => ⟨S8x32x2x384x128x4, .f32⟩
  | 72 => ⟨S8x32x2x4x128x384, .f32⟩
  | 73 => ⟨S_, .f32⟩
  | 74 => ⟨S8x32x2x4x128x384, .f32⟩
  | 75 => ⟨S8x32x2x4x128x384, .f32⟩
  | 76 => ⟨S1x32x1x1x128x384, .i1⟩
  | 77 => ⟨S_, .f32⟩
  | 78 => ⟨S_, .f32⟩
  | 79 => ⟨S8x32x2x4x128x384, .i1⟩
  | 80 => ⟨S8x32x2x4x128x384, .f32⟩
  | 81 => ⟨S8x32x2x4x128x384, .f32⟩
  | 82 => ⟨S1x1x2x4x1x1, .f32⟩
  | 83 => ⟨S_, .f32⟩
  | 84 => ⟨S8x32x2x4x128, .f32⟩
  | 85 => ⟨S8x32x2x4x128x1, .f32⟩
  | 86 => ⟨S8x32x2x4x128x1, .f32⟩
  | 87 => ⟨S8x32x2x4x128x1, .f32⟩
  | 88 => ⟨S8x32x2x4x128x384, .f32⟩
  | 89 => ⟨S8x32x2x4x128x384, .f32⟩
  | 90 => ⟨S8x32x2x4x128x384, .f32⟩
  | 91 => ⟨S_, .f32⟩
  | 92 => ⟨S8x32x2x4x128, .f32⟩
  | 93 => ⟨S8x32x2x4x128x1, .f32⟩
  | 94 => ⟨S8x32x2x4x128x1, .f32⟩
  | 95 => ⟨S8x32x2x4x128x1, .f32⟩
  | 96 => ⟨S8x32x2x4x128x1, .f32⟩
  | 97 => ⟨S8x32x2x4x128x1, .f32⟩
  | 98 => ⟨S8x32x2x4x128x384, .f32⟩
  | 99 => ⟨S8x32x2x4x128x384, .f32⟩
  | 100 => ⟨S8x32x2x64x4x128, .f32⟩
  | 101 => ⟨S8x32x128x2x4x64, .f32⟩
  | 102 => ⟨S8x4096x512, .f32⟩
  | 103 => ⟨S8x64, .f32⟩
  | 104 => ⟨S8x128x128, .f32⟩
  | 105 => ⟨S8x128, .f32⟩
  | 106 => ⟨S_, .f32⟩
  | 107 => ⟨S8x4096x512, .f32⟩
  | 108 => ⟨S8x4096x512, .f32⟩
  | 109 => ⟨S8x4096x512, .f32⟩
  | 110 => ⟨S_, .f32⟩
  | 111 => ⟨S8x4096x512, .f32⟩
  | 112 => ⟨S8x4096x512, .f32⟩
  | 113 => ⟨S8x4096x512, .f32⟩
  | 114 => ⟨S8x4096x512, .f32⟩
  | 115 => ⟨S_, .f32⟩
  | 116 => ⟨S8x4096x512, .f32⟩
  | 117 => ⟨S8x4096x512, .f32⟩
  | 118 => ⟨S8x4096x512, .f32⟩
  | 119 => ⟨S_, .f32⟩
  | 120 => ⟨S8x4096x512, .f32⟩
  | 121 => ⟨S8x4096x512, .f32⟩
  | 122 => ⟨S8x4096x512, .f32⟩
  | 123 => ⟨S8x4096x512, .f32⟩
  | 124 => ⟨S8x32x128x8x64, .f32⟩
  | 125 => ⟨S8x32x128x8x64, .f32⟩
  | 126 => ⟨S_, .f32⟩
  | 127 => ⟨S8x32x128x8, .f32⟩
  | _ => ⟨S8x4096x1024, .f32⟩

abbrev hbmTy0_2 (i : Nat) : BufTy := match i % 128 with
  | 0 => ⟨S8x32x128x8x1, .f32⟩
  | 1 => ⟨S_, .f32⟩
  | 2 => ⟨S8x32x128x8x1, .f32⟩
  | 3 => ⟨S8x32x128x8x1, .f32⟩
  | 4 => ⟨S_, .f32⟩
  | 5 => ⟨S8x32x128x8x1, .f32⟩
  | 6 => ⟨S8x32x128x8x1, .f32⟩
  | 7 => ⟨S8x32x128x8x1, .f32⟩
  | 8 => ⟨S8x32x128x8x64, .f32⟩
  | 9 => ⟨S8x32x128x8x64, .f32⟩
  | 10 => ⟨S1x1x1x8x64, .f32⟩
  | 11 => ⟨S8x32x128x8x64, .f32⟩
  | 12 => ⟨S8x32x128x8x64, .f32⟩
  | 13 => ⟨S8x8x32x64x128, .f32⟩
  | 14 => ⟨S8x32x128x8x64, .f32⟩
  | 15 => ⟨S128x8, .f32⟩
  | 16 => ⟨S1x1x128x8x1, .f32⟩
  | 17 => ⟨S8x32x128x8x64, .f32⟩
  | 18 => ⟨S8x32x128x8x64, .f32⟩
  | 19 => ⟨S8x4096x512, .f32⟩
  | 20 => ⟨S8x4096x512, .f32⟩
  | 21 => ⟨S8x4096x1x512, .f32⟩
  | 22 => ⟨S8x4096x1x512, .f32⟩
  | 23 => ⟨S8x4096x2x512, .f32⟩
  | 24 => ⟨S2x512x1024, .f32⟩
  | 25 => ⟨S2x1024x8x4096, .f32⟩
  | 26 => ⟨S8x4096x2x1024, .f32⟩
  | 27 => ⟨S8x4096x2x1024, .f32⟩
  | 28 => ⟨S8x4096x2x1024, .f32⟩
  | 29 => ⟨S8x4096x2x1024, .f32⟩
  | 30 => ⟨S_, .f32⟩
  | 31 => ⟨S8x4096x2x1024, .f32⟩
  | 32 => ⟨S8x4096x2x1024, .f32⟩
  | 33 => ⟨S_, .f32⟩
  | 34 => ⟨S8x4096x2x1024, .f32⟩
  | 35 => ⟨S8x4096x2x1024, .f32⟩
  | 36 => ⟨S8x4096x2x1024, .f32⟩
  | 37 => ⟨S_, .f32⟩
  | 38 => ⟨S8x4096x1024, .f32⟩
  | 39 => ⟨S1024x1024, .f32⟩
  | 40 => ⟨S8x4096x1024, .f32⟩
  | 41 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_7 : Ref sig .tc := ⟨.hbm, 92, rfl⟩
abbrev main_v70 : Ref sig .tc := ⟨.hbm, 93, rfl⟩
abbrev main_v71 : Ref sig .tc := ⟨.hbm, 94, rfl⟩
abbrev main_cst_8 : Ref sig .tc := ⟨.hbm, 95, rfl⟩
abbrev main_v72 : Ref sig .tc := ⟨.hbm, 96, rfl⟩
abbrev main_v73 : Ref sig .tc := ⟨.hbm, 97, rfl⟩
abbrev main_cst_9 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_10 : Ref sig .tc := ⟨.hbm, 110, rfl⟩
abbrev main_v85 : Ref sig .tc := ⟨.hbm, 111, rfl⟩
abbrev main_v86 : Ref sig .tc := ⟨.hbm, 112, rfl⟩
abbrev main_cst_11 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_c : Ref sig .tc := ⟨.hbm, 143, rfl⟩
abbrev main_call0_v0 : Ref sig .tc := ⟨.hbm, 144, rfl⟩
abbrev main_v116 : Ref sig .tc := ⟨.hbm, 145, rfl⟩
abbrev main_v117 : Ref sig .tc := ⟨.hbm, 146, rfl⟩
abbrev main_c_12 : Ref sig .tc := ⟨.hbm, 147, rfl⟩
abbrev main_call1_v0 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_c_13 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_c_14 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_c_15 : Ref sig .tc := ⟨.hbm, 176, rfl⟩
abbrev main_v143 : Ref sig .tc := ⟨.hbm, 177, rfl⟩
abbrev main_v144 : Ref sig .tc := ⟨.hbm, 178, rfl⟩
abbrev main_c_16 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_c_17 : Ref sig .tc := ⟨.hbm, 188, rfl⟩
abbrev main_v153 : Ref sig .tc := ⟨.hbm, 189, rfl⟩
abbrev main_v154 : Ref sig .tc := ⟨.hbm, 190, rfl⟩
abbrev main_c_18 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_19 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_cst_20 : Ref sig .tc := ⟨.hbm, 205, rfl⟩
abbrev main_call2_v0 : Ref sig .tc := ⟨.hbm, 206, rfl⟩
abbrev main_call2_v1 : Ref sig .tc := ⟨.hbm, 207, rfl⟩
abbrev main_call2_v2 : Ref sig .tc := ⟨.hbm, 208, rfl⟩
abbrev main_v167 : Ref sig .tc := ⟨.hbm, 209, rfl⟩
abbrev main_v168 : Ref sig .tc := ⟨.hbm, 210, rfl⟩
abbrev main_cst_21 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_cst_22 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_cst_23 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_cst_24 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_cst_25 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_cst_26 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_cst_27 : Ref sig .tc := ⟨.hbm, 254, rfl⟩
abbrev main_v206 : Ref sig .tc := ⟨.hbm, 255, rfl⟩
abbrev main_v207 : Ref sig .tc := ⟨.hbm, 256, rfl⟩
abbrev main_cst_28 : Ref sig .tc := ⟨.hbm, 257, rfl⟩
abbrev main_v208 : Ref sig .tc := ⟨.hbm, 258, rfl⟩
abbrev main_v209 : Ref sig .tc := ⟨.hbm, 259, rfl⟩
abbrev main_cst_29 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_cst_30 : Ref sig .tc := ⟨.hbm, 286, rfl⟩
abbrev main_v235 : Ref sig .tc := ⟨.hbm, 287, rfl⟩
abbrev main_v236 : Ref sig .tc := ⟨.hbm, 288, rfl⟩
abbrev main_cst_31 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_cst_32 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩

abbrev nD : Nat := 1
abbrev τ : Topo := Topo.v7x

variable {F : FTy → Type} [FloatOps F]
-- ==== Kernel2.lean ====
abbrev S544 : Shape := ⟨1, ![544]⟩
abbrev S544x1x256 : Shape := ⟨3, ![544, 1, 256]⟩
abbrev S32768x1024 : Shape := ⟨2, ![32768, 1024]⟩
abbrev S1x1024 : Shape := ⟨2, ![1, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x1024 : Shape := ⟨3, ![32, 1024, 1024]⟩
abbrev S32x2x512x1024 : Shape := ⟨4, ![32, 2, 512, 1024]⟩
abbrev S32x512x2x1024 : Shape := ⟨4, ![32, 512, 2, 1024]⟩
abbrev S1024 : Shape := ⟨1, ![1024]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024 : Shape := ⟨2, ![32, 1024]⟩
abbrev S32x1x1024 : Shape := ⟨3, ![32, 1, 1024]⟩
abbrev S139264x1024 : Shape := ⟨2, ![139264, 1024]⟩
abbrev S1x1x256 : Shape := ⟨3, ![1, 1, 256]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S256x1024 : Shape := ⟨2, ![256, 1024]⟩
abbrev S2x256x1024 : Shape := ⟨3, ![2, 256, 1024]⟩
abbrev S2 : Shape := ⟨1, ![2]⟩
abbrev S1x1x1 : Shape := ⟨3, ![1, 1, 1]⟩
abbrev S_ : Shape := ⟨0, ![]⟩
abbrev S1x256x1024 : Shape := ⟨3, ![1, 256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩

abbrev nBuf : Space → Nat
  | .hbm => 21
  | .vmem => 12
  | .smem => 5
  | _ => 0

abbrev bufTy : (tb : Table) → Fin (tcTables nBuf tb) → BufTy
  | .hbm, ⟨0, _⟩ => ⟨S544x1x256, .i32⟩
  | .hbm, ⟨1, _⟩ => ⟨S32768x1024, .f32⟩
  | .hbm, ⟨2, _⟩ => ⟨S1x1024, .f32⟩
  | .hbm, ⟨3, _⟩ => ⟨S1x32x1024x2048, .f32⟩
  | .hbm, ⟨4, _⟩ => ⟨S1x32x2048, .f32⟩
  | .hbm, ⟨5, _⟩ => ⟨S1x32x1024x1024, .f32⟩
  | .hbm, ⟨6, _⟩ => ⟨S1x32x1024, .f32⟩
  | .hbm, ⟨7, _⟩ => ⟨S32x1024x1024, .f32⟩
  | .hbm, ⟨8, _⟩ => ⟨S32x2x512x1024, .f32⟩
  | .hbm, ⟨9, _⟩ => ⟨S32x512x2x1024, .f32⟩
  | .hbm, ⟨10, _⟩ => ⟨S1024, .f32⟩
  | .hbm, ⟨11, _⟩ => ⟨S1x1024, .f32⟩
  | .hbm, ⟨12, _⟩ => ⟨S32x1024x2048, .f32⟩
  | .hbm, ⟨13, _⟩ => ⟨S32x1024x2048, .bf16⟩
  | .hbm, ⟨14, _⟩ => ⟨S32x2048, .f32⟩
  | .hbm, ⟨15, _⟩ => ⟨S32x1x2048, .f32⟩
  | .hbm, ⟨16, _⟩ => ⟨S32x1024x1024, .f32⟩
  | .hbm, ⟨17, _⟩ => ⟨S32x1024x1024, .bf16⟩
  | .hbm, ⟨18, _⟩ => ⟨S32x1024, .f32⟩
  | .hbm, ⟨19, _⟩ => ⟨S32x1x1024, .f32⟩
  | .hbm, ⟨20, _⟩ => ⟨S139264x1024, .f32⟩
  | .local _ .vmem, ⟨0, _⟩ => ⟨S1x1024, .f32⟩
  | .local _ .vmem, ⟨1, _⟩ => ⟨S1x1024x2048, .bf16⟩
  | .local _ .vmem, ⟨2, _⟩ => ⟨S1x1024x2048, .bf16⟩
  | .local _ .vmem, ⟨3, _⟩ => ⟨S1x1x2048, .f32⟩
  | .local _ .vmem, ⟨4, _⟩ => ⟨S1x1x2048, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S256x1024, .f32⟩
  | .local _ .vmem, ⟨10, _⟩ => ⟨S256x1024, .f32⟩
  | .local _ .vmem, ⟨11, _⟩ => ⟨S2x256x1024, .f32⟩
  | .local _ .smem, ⟨0, _⟩ => ⟨S544, .i32⟩
  | .local _ .smem, ⟨1, _⟩ => ⟨S1x1x256, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | _, _ => ⟨S544x1x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_arg0 : Ref sig .tc := ⟨.smem, 0, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_stg0_0 : Ref sig .tc := ⟨.smem, 1, rfl⟩
abbrev cc0_stg0_1 : Ref sig .tc := ⟨.smem, 2, rfl⟩
abbrev cc0_stg1_0 : Ref sig .tc := ⟨.smem, 3, rfl⟩
abbrev cc0_stg1_1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![544], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_46 : BitVec 32 := 0#32
  let c256_i32_47 : BitVec 32 := 256#32
  let v89 : BitVec 32 := Scalar.addi c0_i32_46 c256_i32_47
  let c1_i32_48 : BitVec 32 := 1#32
  ⟨c0_i32_46, v89, c1_i32_48⟩
def k0_off2 (k0_t1 : Fin k0_t1_loop.trips) : Fin 3 → Nat :=
  let c0_50 : Index := 0#32
  let c0_51 : Index := 0#32
  let c0_i32_46 : BitVec 32 := 0#32
  let c1_i32_48 : BitVec 32 := 1#32
  let arg13 : BitVec 32 := Scf.iv c0_i32_46 c1_i32_48 k0_t1
  let v90 : Index := Scalar.indexCast arg13
  ![0, 0, v90.toNat]
def k0_off3 (k0_t1 : Fin k0_t1_loop.trips) : Fin 2 → Nat :=
  let c0_i32_46 : BitVec 32 := 0#32
  let c1_i32_48 : BitVec 32 := 1#32
  let arg13 : BitVec 32 := Scf.iv c0_i32_46 c1_i32_48 k0_t1
  let c0_i32_54 : BitVec 32 := 0#32
  ![arg13.toNat, 0]
def k0_off4 (v91 : BitVec 32) : Fin 2 → Nat :=
  let c0_i32_55 : BitVec 32 := 0#32
  ![v91.toNat, 0]

def k0_chk1 (i : grid0.Coords) (v91 : BitVec 32) : Prop :=
  (∀ (k0_h1 : k0_cond1 i = 1#1), ∀ a, (k0_off4 v91) a + S1x1024.size a ≤ S32768x1024.size a)
theorem k0_off4_inb : ∀ (i : grid0.Coords) (v91 : BitVec 32) (k0_hw1 : k0_chk1 i v91), ∀ (k0_h1 : k0_cond1 i = 1#1), ∀ a, (k0_off4 v91) a + S1x1024.size a ≤ S32768x1024.size a := fun i v91 k0_hw1 k0_h1 => k0_hw1 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c544_i32 : BitVec 32 := 544#32
  let v14 : BitVec 1 := Scalar.cmpi .slt v13 c544_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_46 : BitVec 32 := 0#32
  let c256_i32_47 : BitVec 32 := 256#32
  let v91 : BitVec 32 := Scalar.addi c0_i32_46 c256_i32_47
  let c1_i32_48 : BitVec 32 := 1#32
  ⟨c0_i32_46, v91, c1_i32_48⟩
def k0_off5 (k0_t2 : Fin k0_t2_loop.trips) : Fin 3 → Nat :=
  let c0_50 : Index := 0#32
  let c0_51 : Index := 0#32
  let c0_i32_46 : BitVec 32 := 0#32
  let c1_i32_48 : BitVec 32 := 1#32
  let arg13 : BitVec 32 := Scf.iv c0_i32_46 c1_i32_48 k0_t2
  let v92 : Index := Scalar.indexCast arg13
  ![0, 0, v92.toNat]
def k0_off6 (i : grid0.Coords) : Fin 1 → Nat :=
  let c1_i32_45 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v90 : BitVec 32 := Scalar.subi c1_i32_45 v9
  ![v90.toNat]
def k0_off7 (i : grid0.Coords) : Fin 3 → Nat :=
  let c1_i32_44 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v89 : BitVec 32 := Scalar.subi c1_i32_44 v9
  let c0_i32_52 : BitVec 32 := 0#32
  let c0_i32_53 : BitVec 32 := 0#32
  ![v89.toNat, 0, 0]
def k0_off8 (k0_t2 : Fin k0_t2_loop.trips) : Fin 2 → Nat :=
  let c0_i32_46 : BitVec 32 := 0#32
  let c1_i32_48 : BitVec 32 := 1#32
  let arg13 : BitVec 32 := Scf.iv c0_i32_46 c1_i32_48 k0_t2
  let c0_i32_54 : BitVec 32 := 0#32
  ![arg13.toNat, 0]
def k0_off9 (v93 : BitVec 32) : Fin 2 → Nat :=
  let c0_i32_55 : BitVec 32 := 0#32
  ![v93.toNat, 0]

def k0_chk2 (i : grid0.Coords) (v93 : BitVec 32) : Prop :=
  (∀ (k0_h2 : k0_cond2 i = 1#1), ∀ a, (k0_off9 v93) a + S1x1024.size a ≤ S32768x1024.size a)
theorem k0_off9_inb : ∀ (i : grid0.Coords) (v93 : BitVec 32) (k0_hw2 : k0_chk2 i v93), ∀ (k0_h2 : k0_cond2 i = 1#1), ∀ a, (k0_off9 v93) a + S1x1024.size a ≤ S32768x1024.size a := fun i v93 k0_hw2 k0_h2 => k0_hw2 k0_h2

@[reducible] def k0_t3_loop : Scf.Loop 32 :=
  let c0_i32_7 : BitVec 32 := 0#32
  let c256_i32 : BitVec 32 := 256#32
  let v17 : BitVec 32 := Scalar.addi c0_i32_7 c256_i32
  let c1_i32_8 : BitVec 32 := 1#32
  ⟨c0_i32_7, v17, c1_i32_8⟩
def k0_off10 (k0_t3 : Fin k0_t3_loop.trips) : Fin 3 → Nat :=
  let c0_44 : Index := 0#32
  let c0_45 : Index := 0#32
  let c0_i32_7 : BitVec 32 := 0#32
  let c1_i32_8 : BitVec 32 := 1#32
  let arg13 : BitVec 32 := Scf.iv c0_i32_7 c1_i32_8 k0_t3
  let v89 : Index := Scalar.indexCast arg13
  ![0, 0, v89.toNat]
def k0_off11 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_46 : BitVec 32 := 0#32
  let c0_i32_47 : BitVec 32 := 0#32
  ![v9.toNat, 0, 0]
def k0_off13 (k0_t3 : Fin k0_t3_loop.trips) : Fin 2 → Nat :=
  let c0_i32_7 : BitVec 32 := 0#32
  let c1_i32_8 : BitVec 32 := 1#32
  let arg13 : BitVec 32 := Scf.iv c0_i32_7 c1_i32_8 k0_t3
  let c0_i32_48 : BitVec 32 := 0#32
  ![arg13.toNat, 0]
def k0_off14 (v90 : BitVec 32) : Fin 2 → Nat :=
  let c0_i32_49 : BitVec 32 := 0#32
  ![v90.toNat, 0]

def k0_chk3 (v90 : BitVec 32) : Prop :=
  (∀ a, (k0_off14 v90) a + S1x1024.size a ≤ S32768x1024.size a)
theorem k0_off14_inb : ∀ (v90 : BitVec 32) (k0_hw3 : k0_chk3 v90), ∀ a, (k0_off14 v90) a + S1x1024.size a ≤ S32768x1024.size a := fun v90 k0_hw3 => k0_hw3

def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v18 : Index := Scalar.indexCast v9
  let c0 : Index := 0#32
  let c0_10 : Index := 0#32
  ![v18.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c543_i32 : BitVec 32 := 543#32
  let v1 : BitVec 32 := Scalar.minsi v0 c543_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S544 : Shape := ⟨1, ![544]⟩
abbrev S544x1x256 : Shape := ⟨3, ![544, 1, 256]⟩
abbrev S32768x1024 : Shape := ⟨2, ![32768, 1024]⟩
abbrev S1x1024 : Shape := ⟨2, ![1, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S544x256 : Shape := ⟨2, ![544, 256]⟩
abbrev S544x256x1 : Shape := ⟨3, ![544, 256, 1]⟩
abbrev S544x256x1024 : Shape := ⟨3, ![544, 256, 1024]⟩
abbrev S32x1024x2048 : Shape := ⟨3, ![32, 1024, 2048]⟩
abbrev S544x1 : Shape := ⟨2, ![544, 1]⟩
abbrev S544x1024x2048 : Shape := ⟨3, ![544, 1024, 2048]⟩
abbrev S544x256x2048 : Shape := ⟨3, ![544, 256, 2048]⟩
abbrev S32x2048 : Shape := ⟨2, ![32, 2048]⟩
abbrev S544x2048 : Shape := ⟨2, ![544, 2048]⟩
abbrev S544x1x2048 : Shape := ⟨3, ![544, 1, 2048]⟩
abbrev S32x1024x1024 : Shape := ⟨3, ![32, 1024, 1024]⟩
abbrev S544x1024x1024 : Shape := ⟨3, ![544, 1024, 1024]⟩
abbrev S32x1024 : Shape := ⟨2, ![32, 1024]⟩
abbrev S544x1024 : Shape := ⟨2, ![544, 1024]⟩
abbrev S544x1x1024 : Shape := ⟨3, ![544, 1, 1024]⟩
abbrev S139264x1024 : Shape := ⟨2, ![139264, 1024]⟩

abbrev nBuf : Space → Nat
  | .hbm => 78
  | .vmem => 0
  | .smem => 0
  | _ => 0

abbrev bufTy : (tb : Table) → Fin (tcTables nBuf tb) → BufTy
  | .hbm, ⟨0, _⟩ => ⟨S544, .i32⟩
  | .hbm, ⟨1, _⟩ => ⟨S544x1x256, .i32⟩
  | .hbm, ⟨2, _⟩ => ⟨S32768x1024, .f32⟩
  | .hbm, ⟨3, _⟩ => ⟨S1x1024, .f32⟩
  | .hbm, ⟨4, _⟩ => ⟨S1x32x1024x2048, .f32⟩
  | .hbm, ⟨5, _⟩ => ⟨S1x32x2048, .f32⟩
  | .hbm, ⟨6, _⟩ => ⟨S1x32x1024x1024, .f32⟩
  | .hbm, ⟨7, _⟩ => ⟨S1x32x1024, .f32⟩
  | .hbm, ⟨8, _⟩ => ⟨S1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S544x256, .i32⟩
  | .hbm, ⟨26, _⟩ => ⟨S544x256x1, .i32⟩
  | .hbm, ⟨27, _⟩ => ⟨S544x256x1024, .f32⟩
  | .hbm, ⟨28, _⟩ => ⟨S32x1024x2048, .f32⟩
  | .hbm, ⟨29, _⟩ => ⟨S544x1, .i32⟩
  | .hbm, ⟨30, _⟩ => ⟨S544x1024x2048, .f32⟩
  | .hbm, ⟨31, _⟩ => ⟨S544x256x2048, .f32⟩
  | .hbm, ⟨32, _⟩ => ⟨S32x2048, .f32⟩
  | .hbm, ⟨33, _⟩ => ⟨S544x1, .i32⟩
  | .hbm, ⟨34, _⟩ => ⟨S544x2048, .f32⟩
  | .hbm, ⟨35, _⟩ => ⟨S544x1x2048, .f32⟩
  | .hbm, ⟨36, _⟩ => ⟨S544x256x2048, .f32⟩
  | .hbm, ⟨37, _⟩ => ⟨S544x256x2048, .f32⟩
  | .hbm, ⟨38, _⟩ => ⟨S544x256x1024, .f32⟩
  | .hbm, ⟨39, _⟩ => ⟨S_, .f32⟩
  | .hbm, ⟨40, _⟩ => ⟨S544x256x1024, .f32⟩
  | .hbm, ⟨41, _⟩ => ⟨S544x256x1024, .f32⟩
  | .hbm, ⟨42, _⟩ => ⟨S544x256x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S544x256x1024, .f32⟩
  | .hbm, ⟨47, _⟩ => ⟨S544x256x1024, .f32⟩
  | .hbm, ⟨48, _⟩ => ⟨S_, .f32⟩
  | .hbm, ⟨49, _⟩ => ⟨S544x256x1024, .f32⟩
  | .hbm, ⟨50, _⟩ => ⟨S544x256x1024, .f32⟩
  | .hbm, ⟨51, _⟩ => ⟨S_, .f32⟩
  | .hbm, ⟨52, _⟩ => ⟨S544x256x1024, .f32⟩
  | .hbm, ⟨53, _⟩ => ⟨S544x256x1024, .f32⟩
  | .hbm, ⟨54, _⟩ => ⟨S_, .f32⟩
  | .hbm, ⟨55, _⟩ => ⟨S544x256x1024, .f32⟩
  | .hbm, ⟨56, _⟩ => ⟨S544x256x1024, .f32⟩
  | .hbm, ⟨57, _⟩ => ⟨S544x256x1024, .f32⟩
  | .hbm, ⟨58, _⟩ => ⟨S544x256x1024, .f32⟩
  | .hbm, ⟨59, _⟩ => ⟨S_, .f32⟩
  | .hbm, ⟨60, _⟩ => ⟨S544x256x1024, .f32⟩
  | .hbm, ⟨61, _⟩ => ⟨S544x256x1024, .f32⟩
  | .hbm, ⟨62, _⟩ => ⟨S_, .f32⟩
  | .hbm, ⟨63, _⟩ => ⟨S544x256x1024, .f32⟩
  | .hbm, ⟨64, _⟩ => ⟨S544x256x1024, .f32⟩
  | .hbm, ⟨65, _⟩ => ⟨S544x256x1024, .f32⟩
  | .hbm, ⟨66, _⟩ => ⟨S544x256x1024, .f32⟩
  | .hbm, ⟨67, _⟩ => ⟨S32x1024x1024, .f32⟩
  | .hbm, ⟨68, _⟩ => ⟨S544x1, .i32⟩
  | .hbm, ⟨69, _⟩ => ⟨S544x1024x1024, .f32⟩
  | .hbm, ⟨70, _⟩ => ⟨S544x256x1024, .f32⟩
  | .hbm, ⟨71, _⟩ => ⟨S32x1024, .f32⟩
  | .hbm, ⟨72, _⟩ => ⟨S544x1, .i32⟩
  | .hbm, ⟨73, _⟩ => ⟨S544x1024, .f32⟩
  | .hbm, ⟨74, _⟩ => ⟨S544x1x1024, .f32⟩
  | .hbm, ⟨75, _⟩ => ⟨S544x256x1024, .f32⟩
  | .hbm, ⟨76, _⟩ => ⟨S544x256x1024, .f32⟩
  | .hbm, ⟨77, _⟩ => ⟨S139264x1024, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Proof.Contents.lean ====
module

public import proofs.«01_k».proof.Proof.Gen.KernelIdeal.Frame.Runs
public import Idealize.ShloMosaic.Lib.Tactic.Stretches
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What each scratch buffer holds, as functions of the blocks -/

/-- A load of a whole memref held at the contents that read `X` reads `X` through the rectangle. -/
theorem rd {sg : RefSig} {κ : Kind} {sp : Space} {s : Shape} {e : EltTy} {Val : EltTy → Type} {m : Memref sg κ sp s e} (h : m.IsWhole)
    (X : s.Idx → Val e) (r : Rect s) : View.readAt Val m.view r.toLoadRect (h.unread X) = View.ld X r :=
  funext fun x => Memref.IsWhole.readAt_unread h X _ x

/-- The projections `z` of the block's rows. -/
def zv (x0 : Vec F S1x512x1024 .f32) (x6 : Vec F S1x1024 .f32) (x7 : Vec F S1024x3840 .bf16) : Vec F S512x3840 .f32 :=
  k0_pay4 (View.ld x0 (Rect.unit ![0, 0, 0] S1x512x1024.size inb_S1x512x1024_S1x512x1024_0_0_0))
    (View.ld x6 (Rect.unit ![0, 0] S1x1024.size inb_S1x1024_S1x1024_0_0))
    (View.ld x7 (Rect.unit ![0, 0] S1024x3840.size inb_S1024x3840_S1024x3840_0_0))

/-- The residual rows. -/
def xv (x0 : Vec F S1x512x1024 .f32) : FVec F S512x1024 .f32 :=
  k0_pay3 (View.ld x0 (Rect.unit ![0, 0, 0] S1x512x1024.size inb_S1x512x1024_S1x512x1024_0_0_0))

/-- The three column groups of the position table. -/
def csv (x3 : Vec F S512x384 .f32) : FVec F S512x128 .f32 := k0_pay5 (View.ld x3 (Rect.unit ![0, 0] S512x128.size inb_S512x384_S512x128_0_0))
def lov (x3 : Vec F S512x384 .f32) : FVec F S512x128 .f32 := k0_pay6 (View.ld x3 (Rect.unit ![0, 128] S512x128.size inb_S512x384_S512x128_0_128))
def hiv (x3 : Vec F S512x384 .f32) : FVec F S512x128 .f32 := k0_pay7 (View.ld x3 (Rect.unit ![0, 256] S512x128.size inb_S512x384_S512x128_0_256))

/-- The averaging matrix, whole and its first corner. -/
def bdv (x12 : Vec F S512x512 .bf16) : FVec F S512x512 .bf16 := k0_pay8 (View.ld x12 (Rect.unit ![0, 0] S512x512.size inb_S512x512_S512x512_0_0))
def bcv (x12 : Vec F S512x512 .bf16) : FVec F S128x128 .bf16 := k0_pay9 (View.ld x12 (Rect.unit ![0, 0] S128x128.size inb_S512x512_S128x128_0_0))

/-- The queries. -/
def qv (v24 v26 v28 : FVec F S512x128 .f32) (v30 : FVec F S512x512 .bf16) (z : Vec F S512x3840 .f32) (x8 : Vec F S1x512 .f32) : Vec F S512x512 .bf16 :=
  k0_pay10 v24 v26 v28 v30 (View.ld z (Rect.unit ![0, 0] S512x512.size inb_S512x3840_S512x512_0_0))
    (View.ld x8 (Rect.unit ![0, 0] S1x512.size inb_S1x512_S1x512_0_0))

/-- The keys of the block's own rows. -/
def kmid (v24 v26 v28 : FVec F S512x128 .f32) (v32 : FVec F S128x128 .bf16) (z : Vec F S512x3840 .f32) (x9 : Vec F S1x128 .f32) : FVec F S512x128 .bf16 :=
  k0_pay14 v26 v28
    (k0_pay11 v32 (View.ld z (Rect.unit ![0, 512] S512x128.size inb_S512x3840_S512x128_0_512)) (View.ld x9 (Rect.unit ![0, 0] S1x128.size inb_S1x128_S1x128_0_0)))
    (k0_pay12 v24 v32 (View.ld z (Rect.unit ![0, 512] S512x128.size inb_S512x3840_S512x128_0_512)) (View.ld x9 (Rect.unit ![0, 0] S1x128.size inb_S1x128_S1x128_0_0)))
    (k0_pay13 v32 (View.ld z (Rect.unit ![0, 512] S512x128.size inb_S512x3840_S512x128_0_512)) (View.ld x9 (Rect.unit ![0, 0] S1x128.size inb_S1x128_S1x128_0_0)))

/-- The key and value projections of the two neighbouring blocks' rows. -/
def halo (x1 x2 : Vec F S1x128x1024 .f32) (x6 : Vec F S1x1024 .f32) (x7 : Vec F S1024x3840 .bf16) : FVec F S256x256 .f32 :=
  k0_pay16 (View.ld x1 (Rect.unit ![0, 0, 0] S1x128x1024.size inb_S1x128x1024_S1x128x1024_0_0_0))
    (View.ld x2 (Rect.unit ![0, 0, 0] S1x128x1024.size inb_S1x128x1024_S1x128x1024_0_0_0))
    (View.ld x6 (Rect.unit ![0, 0] S1x1024.size inb_S1x1024_S1x1024_0_0))
    (View.ld x7 (Rect.unit ![0, 512] S1024x256.size inb_S1024x3840_S1024x256_0_512))

/-- The keys of the rows before, and of the rows after. -/
def kpre (v32 : FVec F S128x128 .bf16) (w : FVec F S256x256 .f32) (x9 : Vec F S1x128 .f32) (x4 x5 : Vec F S128x384 .f32) : FVec F S128x128 .bf16 :=
  k0_pay19 v32 w (View.ld x9 (Rect.unit ![0, 0] S1x128.size inb_S1x128_S1x128_0_0))
    (View.ld x4 (Rect.unit ![0, 0] S128x384.size inb_S128x384_S128x384_0_0)) (View.ld x5 (Rect.unit ![0, 0] S128x384.size inb_S128x384_S128x384_0_0))
def kpost (v32 : FVec F S128x128 .bf16) (w : FVec F S256x256 .f32) (x9 : Vec F S1x128 .f32) (x4 x5 : Vec F S128x384 .f32) : FVec F S128x128 .bf16 :=
  k0_pay20 v32 w (View.ld x9 (Rect.unit ![0, 0] S1x128.size inb_S1x128_S1x128_0_0))
    (View.ld x4 (Rect.unit ![0, 0] S128x384.size inb_S128x384_S128x384_0_0)) (View.ld x5 (Rect.unit ![0, 0] S128x384.size inb_S128x384_S128x384_0_0))

/-- The key scratch: rows before, own rows, rows after. -/
def kv (a : FVec F S128x128 .bf16) (b : FVec F S512x128 .bf16) (d : FVec F S128x128 .bf16) : Vec F S768x128 .bf16 :=
  View.canon (Val := Elt F) (s := S768x128) (e := .bf16) [⟨Rect.unit ![640, 0] S128x128.size inb_S768x128_S128x128_640_0, d⟩,
    ⟨Rect.unit ![0, 0] S128x128.size inb_S768x128_S128x128_0_0, a⟩,
    ⟨Rect.unit ![128, 0] S512x128.size inb_S768x128_S512x128_128_0, b⟩]

/-- The three stores cover it. -/
theorem kv_cover (a : FVec F S128x128 .bf16) (b : FVec F S512x128 .bf16) (d : FVec F S128x128 .bf16) (y : S768x128.Idx) :
    ∃ p ∈ ([⟨Rect.unit ![640, 0] S128x128.size inb_S768x128_S128x128_640_0, d⟩,
      ⟨Rect.unit ![0, 0] S128x128.size inb_S768x128_S128x128_0_0, a⟩,
      ⟨Rect.unit ![128, 0] S512x128.size inb_S768x128_S512x128_128_0, b⟩] : List (View.Piece (Elt F) S768x128 .bf16)), y ∈ p.1.set := by
  have h0 : (y 0).val < 768 := (y 0).isLt
  have h1 : (y 1).val < 128 := (y 1).isLt
  by_cases c1 : 640 ≤ (y 0).val
  · refine ⟨⟨Rect.unit ![640, 0] S128x128.size inb_S768x128_S128x128_640_0, d⟩, List.mem_cons_self, ?_⟩
    show y ∈ (Rect.unit (s := S768x128) ![640, 0] S128x128.size inb_S768x128_S128x128_640_0).set
    refine (Rect.mem_set_unit (inb := inb_S768x128_S128x128_640_0)).mpr fun e => ?_
    match e with
    | ⟨0, _⟩ => exact ⟨c1, show (y 0).val < 640 + 128 by omega⟩
    | ⟨1, _⟩ => exact ⟨Nat.zero_le _, show (y 1).val < 0 + 128 by omega⟩
  by_cases c2 : (y 0).val < 128
  · refine ⟨⟨Rect.unit ![0, 0] S128x128.size inb_S768x128_S128x128_0_0, a⟩, List.mem_cons_of_mem _ List.mem_cons_self, ?_⟩
    show y ∈ (Rect.unit (s := S768x128) ![0, 0] S128x128.size inb_S768x128_S128x128_0_0).set
    refine (Rect.mem_set_unit (inb := inb_S768x128_S128x128_0_0)).mpr fun e => ?_
    match e with
    | ⟨0, _⟩ => exact ⟨Nat.zero_le _, show (y 0).val < 0 + 128 by omega⟩
    | ⟨1, _⟩ => exact ⟨Nat.zero_le _, show (y 1).val < 0 + 128 by omega⟩
  · refine ⟨⟨Rect.unit ![128, 0] S512x128.size inb_S768x128_S512x128_128_0, b⟩, List.mem_cons_of_mem _ (List.mem_cons_of_mem _ List.mem_cons_self), ?_⟩
    show y ∈ (Rect.unit (s := S768x128) ![128, 0] S512x128.size inb_S768x128_S512x128_128_0).set
    refine (Rect.mem_set_unit (inb := inb_S768x128_S512x128_128_0)).mpr fun e => ?_
    match e with
    | ⟨0, _⟩ => exact ⟨show 128 ≤ (y 0).val by omega, show (y 0).val < 128 + 512 by omega⟩
    | ⟨1, _⟩ => exact ⟨Nat.zero_le _, show (y 1).val < 0 + 128 by omega⟩

/-- The value scratch. -/
def vv (w : FVec F S256x256 .f32) (z : Vec F S512x3840 .f32) : Vec F S768x128 .bf16 :=
  kv (k0_pay21 w) (k0_pay15 (View.ld z (Rect.unit ![0, 640] S512x128.size inb_S512x3840_S512x128_0_640))) (k0_pay22 (k0_pay18 w))

/-- The keys a row of query block number `4 * a + n` may see. -/
def msk (a n : BitVec 32) : IVec S512x384 1 :=
  have p : IVec S512x384 32 := iota .tc S512x384 32 [1] iota_S512x384_d1_w32
  let w : BitVec 32 := Scalar.addi (Scalar.muli a 4#32) n
  let lo : BitVec 32 := Scalar.select (Scalar.cmpi .eq w 0#32) 128#32 0#32
  let hi : BitVec 32 := Scalar.select (Scalar.cmpi .eq w 31#32) 256#32 384#32
  andi (andi k0_pay23 (cmpi .sge p (broadcast S512x384 lo))) (cmpi .slt p (broadcast S512x384 hi))

theorem inq (b : Fin 4) (j : Fin 2) (g : Fin 4) : ∀ a, (![128 * b.val, 256 * j.val + 64 * g.val] : Fin 2 → ℕ) a + S128x64.size a ≤ S512x512.size a := by
  intro a; have := b.isLt; have := j.isLt; have := g.isLt; match a with
  | ⟨0, _⟩ => show 128 * b.val + 128 ≤ 512; omega
  | ⟨1, _⟩ => show 256 * j.val + 64 * g.val + 64 ≤ 512; omega

theorem ink (b : Fin 4) (j : Fin 2) : ∀ a, (![128 * b.val, 64 * j.val] : Fin 2 → ℕ) a + S384x64.size a ≤ S768x128.size a := by
  intro a; have := b.isLt; have := j.isLt; match a with
  | ⟨0, _⟩ => show 128 * b.val + 384 ≤ 768; omega
  | ⟨1, _⟩ => show 64 * j.val + 64 ≤ 128; omega

theorem ins (j : Fin 2) : ∀ a, (![j.val, 0, 0] : Fin 3 → ℕ) a + S1x512x1.size a ≤ S2x512x1.size a := by
  intro a; have := j.isLt; match a with
  | ⟨0, _⟩ => show j.val + 1 ≤ 2; omega
  | ⟨1, _⟩ => show 0 + 512 ≤ 512; omega
  | ⟨2, _⟩ => show 0 + 1 ≤ 1; omega

theorem inc (g : Fin 4) : S512x64.Slices ![128 * g.val, 0] S128x64 := ⟨rfl, by
  intro a; have := g.isLt; match a with
  | ⟨0, _⟩ => show 128 * g.val + 128 ≤ 512; omega
  | ⟨1, _⟩ => show 0 + 64 ≤ 64; omega⟩

/-- Four query heads of one query block against its three key blocks: 512 rows, head-major. -/
def att (a : BitVec 32) (q : Vec F S512x512 .bf16) (k v : Vec F S768x128 .bf16) (s : Vec F S2x512x1 .f32) (b : Fin 4) (j : Fin 2) : FVec F S512x64 .f32 :=
  k0_pay25 (msk a (BitVec.ofNat 32 b.val)) (View.ld q (Rect.unit ![128 * b.val, 256 * j.val + 64 * (0 : Fin 4).val] S128x64.size (inq b j 0)))
    (View.ld q (Rect.unit ![128 * b.val, 256 * j.val + 64 * (1 : Fin 4).val] S128x64.size (inq b j 1)))
    (View.ld q (Rect.unit ![128 * b.val, 256 * j.val + 64 * (2 : Fin 4).val] S128x64.size (inq b j 2)))
    (View.ld q (Rect.unit ![128 * b.val, 256 * j.val + 64 * (3 : Fin 4).val] S128x64.size (inq b j 3)))
    (View.ld k (Rect.unit ![128 * b.val, 64 * j.val] S384x64.size (ink b j)))
    (View.ld v (Rect.unit ![128 * b.val, 64 * j.val] S384x64.size (ink b j)))
    (View.ld s (Rect.unit ![j.val, 0, 0] S1x512x1.size (ins j)))

/-- One head's rows of it, as stored. -/
def cut (o : FVec F S512x64 .f32) (g : Fin 4) : FVec F S128x64 .bf16 :=
  shapeCast S128x64 (truncf .bf16 (extractStridedSlice S128x64 ![128 * g.val, 0] o (inc g)) bitsLt_bf16_f32) shapeCasts_S128x64_S128x64

/-- The store of one head's rows. -/
def apc (a : BitVec 32) (q : Vec F S512x512 .bf16) (k v : Vec F S768x128 .bf16) (s : Vec F S2x512x1 .f32) (b : Fin 4) (j : Fin 2) (g : Fin 4) :
    View.Piece (Elt F) S512x512 .bf16 :=
  ⟨Rect.unit ![128 * b.val, 256 * j.val + 64 * g.val] S128x64.size (inq b j g), cut (att a q k v s b j) g⟩

/-- All the stores, last first. -/
def apcs (a : BitVec 32) (q : Vec F S512x512 .bf16) (k v : Vec F S768x128 .bf16) (s : Vec F S2x512x1 .f32) : List (View.Piece (Elt F) S512x512 .bf16) :=
  [apc a q k v s 3 1 3, apc a q k v s 3 1 2, apc a q k v s 3 1 1, apc a q k v s 3 1 0, apc a q k v s 3 0 3, apc a q k v s 3 0 2, apc a q k v s 3 0 1, apc a q k v s 3 0 0, apc a q k v s 2 1 3, apc a q k v s 2 1 2, apc a q k v s 2 1 1, apc a q k v s 2 1 0, apc a q k v s 2 0 3, apc a q k v s 2 0 2, apc a q k v s 2 0 1, apc a q k v s 2 0 0, apc a q k v s 1 1 3, apc a q k v s 1 1 2, apc a q k v s 1 1 1, apc a q k v s 1 1 0, apc a q k v s 1 0 3, apc a q k v s 1 0 2, apc a q k v s 1 0 1, apc a q k v s 1 0 0, apc a q k v s 0 1 3, apc a q k v s 0 1 2, apc a q k v s 0 1 1, apc a q k v s 0 1 0, apc a q k v s 0 0 3, apc a q k v s 0 0 2, apc a q k v s 0 0 1, apc a q k v s 0 0 0]

/-- The attention scratch. -/
def av (a : BitVec 32) (q : Vec F S512x512 .bf16) (k v : Vec F S768x128 .bf16) (s : Vec F S2x512x1 .f32) : Vec F S512x512 .bf16 :=
  View.canon (apcs a q k v s)

theorem inz1 (b : Fin 4) : ∀ a, (![128 * b.val, 1280] : Fin 2 → ℕ) a + S128x512.size a ≤ S512x3840.size a := by
  intro a; have := b.isLt; match a with
  | ⟨0, _⟩ => show 128 * b.val + 128 ≤ 512; omega
  | ⟨1, _⟩ => show 1280 + 512 ≤ 3840; omega

theorem inz2 (b : Fin 4) : ∀ a, (![128 * b.val, 768] : Fin 2 → ℕ) a + S128x512.size a ≤ S512x3840.size a := by
  intro a; have := b.isLt; match a with
  | ⟨0, _⟩ => show 128 * b.val + 128 ≤ 512; omega
  | ⟨1, _⟩ => show 768 + 512 ≤ 3840; omega

theorem ing (b : Fin 4) : ∀ a, (![128 * b.val, 0] : Fin 2 → ℕ) a + S128x512.size a ≤ S512x512.size a := by
  intro a; have := b.isLt; match a with
  | ⟨0, _⟩ => show 128 * b.val + 128 ≤ 512; omega
  | ⟨1, _⟩ => show 0 + 512 ≤ 512; omega

/-- The gated sequence mixing of one chunk of 128 rows, from what is loaded. -/
def gmw (v30 : FVec F S512x512 .bf16) (vg u : Vec F S128x512 .f32) (gn : Vec F S1x512 .f32) (wA wB : Vec F S128x512 .bf16) (bs : Vec F S128x512 .f32) :
    FVec F S128x512 .bf16 :=
  k0_pay97 (k0_pay94 (k0_pay87 k0_pay84 k0_pay85 k0_pay86) (k0_pay88 v30 vg gn)
      (k0_pay90 v30 k0_pay84 k0_pay85 k0_pay86 vg gn) (k0_pay91 v30 k0_pay84 k0_pay85 k0_pay86 vg gn)
      (k0_pay92 v30 k0_pay84 k0_pay85 k0_pay86 vg gn) (k0_pay93 v30 k0_pay84 k0_pay85 k0_pay86 vg gn)
      wA wB bs) (k0_pay95 u) (k0_pay96 u) (Scalar.ofBits .f32 0x3F800000#32)

/-- The gated sequence mixing of one chunk of 128 rows. -/
def gml (v30 : FVec F S512x512 .bf16) (z : Vec F S512x3840 .f32) (x11 : Vec F S1x512 .f32) (x13 : Vec F S128x1024 .bf16) (x14 : Vec F S128x512 .f32) (b : Fin 4) :
    FVec F S128x512 .bf16 :=
  gmw v30 (View.ld z (Rect.unit ![128 * b.val, 1280] S128x512.size (inz1 b))) (View.ld z (Rect.unit ![128 * b.val, 768] S128x512.size (inz2 b)))
    (View.ld x11 (Rect.unit ![0, 0] S1x512.size inb_S1x512_S1x512_0_0))
    (View.ld x13 (Rect.unit ![0, 0] S128x512.size inb_S128x1024_S128x512_0_0))
    (View.ld x13 (Rect.unit ![0, 512] S128x512.size inb_S128x1024_S128x512_0_512))
    (View.ld x14 (Rect.unit ![0, 0] S128x512.size inb_S128x512_S128x512_0_0))

/-- Its store. -/
def gpc (v30 : FVec F S512x512 .bf16) (z : Vec F S512x3840 .f32) (x11 : Vec F S1x512 .f32) (x13 : Vec F S128x1024 .bf16) (x14 : Vec F S128x512 .f32) (b : Fin 4) :
    View.Piece (Elt F) S512x512 .bf16 :=
  ⟨Rect.unit ![128 * b.val, 0] S128x512.size (ing b), gml v30 z x11 x13 x14 b⟩

/-- The second branch's scratch. -/
def gv (v30 : FVec F S512x512 .bf16) (z : Vec F S512x3840 .f32) (x11 : Vec F S1x512 .f32) (x13 : Vec F S128x1024 .bf16) (x14 : Vec F S128x512 .f32) : Vec F S512x512 .bf16 :=
  View.canon [gpc v30 z x11 x13 x14 3, gpc v30 z x11 x13 x14 2, gpc v30 z x11 x13 x14 1, gpc v30 z x11 x13 x14 0]

/-- The two branches' out projections. -/
def yv0 (at29 : Vec F S512x512 .bf16) (x15 : Vec F S2x512x1024 .bf16) : FVec F S512x1024 .f32 :=
  k0_pay123 (View.ld at29 (Rect.unit ![0, 0] S512x512.size inb_S512x512_S512x512_0_0)) (View.ld x15 (Rect.unit ![0, 0, 0] S1x512x1024.size inb_S2x512x1024_S1x512x1024_0_0_0))
def yv1 (gm : Vec F S512x512 .bf16) (x15 : Vec F S2x512x1024 .bf16) : FVec F S512x1024 .f32 :=
  k0_pay124 (View.ld gm (Rect.unit ![0, 0] S512x512.size inb_S512x512_S512x512_0_0)) (View.ld x15 (Rect.unit ![1, 0, 0] S1x512x1024.size inb_S2x512x1024_S1x512x1024_1_0_0))

/-- The two gate projections and the last weight, as loaded. -/
def za (z : Vec F S512x3840 .f32) : Vec F S512x1024 .f32 := View.ld z (Rect.unit ![0, 1792] S512x1024.size inb_S512x3840_S512x1024_0_1792)
def zb (z : Vec F S512x3840 .f32) : Vec F S512x1024 .f32 := View.ld z (Rect.unit ![0, 2816] S512x1024.size inb_S512x3840_S512x1024_0_2816)
def wv (x16 : Vec F S1024x1024 .bf16) : Vec F S1024x1024 .bf16 := View.ld x16 (Rect.unit ![0, 0] S1024x1024.size inb_S1024x1024_S1024x1024_0_0)

/-- The block of the result. -/
def hv (v1 : FVec F S512x1024 .f32) (y0 y1 : FVec F S512x1024 .f32) (z : Vec F S512x3840 .f32) (x16 : Vec F S1024x1024 .bf16) : Vec F S1x512x1024 .f32 :=
  k0_pay126 v1 y0 y1 (za z) (zb z) (wv x16)

/-- The router's scores' operands, as the body splits them. -/
def rnv (x17 : Vec F S1x1024 .f32) : Vec F S1x1024 .f32 := View.ld x17 (Rect.unit ![0, 0] S1x1024.size inb_S1x1024_S1x1024_0_0)
def rw0 (x18 : Vec F S2x1024x128 .bf16) : Vec F S1x1024x128 .bf16 := View.ld x18 (Rect.unit ![0, 0, 0] S1x1024x128.size inb_S2x1024x128_S1x1024x128_0_0_0)
def rw1 (x18 : Vec F S2x1024x128 .bf16) : Vec F S1x1024x128 .bf16 := View.ld x18 (Rect.unit ![1, 0, 0] S1x1024x128.size inb_S2x1024x128_S1x1024x128_1_0_0)
def rbv (x19 : Vec F S1x128 .f32) : Vec F S1x128 .f32 := View.ld x19 (Rect.unit ![0, 0] S1x128.size inb_S1x128_S1x128_0_0)

/-- A word of the router's choice, from a function of those operands. -/
def rwd {α : Type} (f : FVec F S512x1024 .bf16 → FVec F S512x1024 .bf16 → FVec F S1024x128 .bf16 → FVec F S1024x128 .bf16 → FVec F S512x128 .f32 → FVec F S512x128 .f32 → Vec F S1x128 .f32 → α)
    (v1 y0 y1 : FVec F S512x1024 .f32) (z : Vec F S512x3840 .f32) (x16 : Vec F S1024x1024 .bf16) (x17 : Vec F S1x1024 .f32) (x18 : Vec F S2x1024x128 .bf16) (x19 : Vec F S1x128 .f32) : α :=
  f (k0_pay128 v1 y0 y1 (za z) (zb z) (wv x16) (rnv x17)) (k0_pay129 v1 y0 y1 (za z) (zb z) (wv x16) (rnv x17)) (k0_pay130 (rw0 x18)) (k0_pay131 (rw1 x18))
    (k0_pay132 v1 y0 y1 (za z) (zb z) (wv x16) (rnv x17) (rw0 x18)) (constant S512x128 .f32 0x00000000#32) (rbv x19)

/-- The block of the chosen experts' numbers, and of their weights. -/
def ev (v1 y0 y1 : FVec F S512x1024 .f32) (z : Vec F S512x3840 .f32) (x16 : Vec F S1024x1024 .bf16) (x17 : Vec F S1x1024 .f32) (x18 : Vec F S2x1024x128 .bf16) (x19 : Vec F S1x128 .f32) : Vec F S1x8x512 .i32 :=
  k0_pay1 (k0_pay150 (iota .tc S32x512 32 [0] iota_S32x512_d0_w32) (rwd k0_pay135 v1 y0 y1 z x16 x17 x18 x19) (rwd k0_pay138 v1 y0 y1 z x16 x17 x18 x19)
    (rwd k0_pay139 v1 y0 y1 z x16 x17 x18 x19) (rwd k0_pay141 v1 y0 y1 z x16 x17 x18 x19) (rwd k0_pay142 v1 y0 y1 z x16 x17 x18 x19) (Scalar.ofBits .f32 0xFF800000#32))
def wgv (v1 y0 y1 : FVec F S512x1024 .f32) (z : Vec F S512x3840 .f32) (x16 : Vec F S1024x1024 .bf16) (x17 : Vec F S1x1024 .f32) (x18 : Vec F S2x1024x128 .bf16) (x19 : Vec F S1x128 .f32) : Vec F S1x512x128 .f32 :=
  have a := rwd k0_pay134 v1 y0 y1 z x16 x17 x18 x19
  have b := rwd k0_pay137 v1 y0 y1 z x16 x17 x18 x19
  have d := rwd k0_pay140 v1 y0 y1 z x16 x17 x18 x19
  have e := rwd k0_pay139 v1 y0 y1 z x16 x17 x18 x19
  have g := rwd k0_pay142 v1 y0 y1 z x16 x17 x18 x19
  k0_pay2 (k0_pay145 a) (k0_pay146 a b) (k0_pay147 a d) (k0_pay148 a e g (Scalar.ofBits .f32 0xFF800000#32)) (k0_pay149 a b e d g (Scalar.ofBits .f32 0xFF800000#32))

/-! From the blocks read. -/

/-- The projections' share of the arguments. -/
def qk (x0 : Vec F S1x512x1024 .f32) (x3 : Vec F S512x384 .f32) (x6 : Vec F S1x1024 .f32) (x7 : Vec F S1024x3840 .bf16) (x8 : Vec F S1x512 .f32) (x12 : Vec F S512x512 .bf16) : Vec F S512x512 .bf16 :=
  qv (csv x3) (lov x3) (hiv x3) (bdv x12) (zv x0 x6 x7) x8
def kk (x0 : Vec F S1x512x1024 .f32) (x1 x2 : Vec F S1x128x1024 .f32) (x3 : Vec F S512x384 .f32) (x4 x5 : Vec F S128x384 .f32) (x6 : Vec F S1x1024 .f32)
    (x7 : Vec F S1024x3840 .bf16) (x9 : Vec F S1x128 .f32) (x12 : Vec F S512x512 .bf16) : Vec F S768x128 .bf16 :=
  kv (kpre (bcv x12) (halo x1 x2 x6 x7) x9 x4 x5) (kmid (csv x3) (lov x3) (hiv x3) (bcv x12) (zv x0 x6 x7) x9) (kpost (bcv x12) (halo x1 x2 x6 x7) x9 x4 x5)
def vk (x0 : Vec F S1x512x1024 .f32) (x1 x2 : Vec F S1x128x1024 .f32) (x6 : Vec F S1x1024 .f32) (x7 : Vec F S1024x3840 .bf16) : Vec F S768x128 .bf16 :=
  vv (halo x1 x2 x6 x7) (zv x0 x6 x7)
/-- The attention's out projection, of one block. -/
def y0v (a : BitVec 32) (x0 : Vec F S1x512x1024 .f32) (x1 x2 : Vec F S1x128x1024 .f32) (x3 : Vec F S512x384 .f32) (x4 x5 : Vec F S128x384 .f32) (x6 : Vec F S1x1024 .f32)
    (x7 : Vec F S1024x3840 .bf16) (x8 : Vec F S1x512 .f32) (x9 : Vec F S1x128 .f32) (x10 : Vec F S2x512x1 .f32) (x12 : Vec F S512x512 .bf16) (x15 : Vec F S2x512x1024 .bf16) : FVec F S512x1024 .f32 :=
  yv0 (av a (qk x0 x3 x6 x7 x8 x12) (kk x0 x1 x2 x3 x4 x5 x6 x7 x9 x12) (vk x0 x1 x2 x6 x7) x10) x15
/-- The sequence mixing's out projection, of one block. -/
def y1v (x0 : Vec F S1x512x1024 .f32) (x6 : Vec F S1x1024 .f32) (x7 : Vec F S1024x3840 .bf16) (x11 : Vec F S1x512 .f32) (x12 : Vec F S512x512 .bf16)
    (x13 : Vec F S128x1024 .bf16) (x14 : Vec F S128x512 .f32) (x15 : Vec F S2x512x1024 .bf16) : FVec F S512x1024 .f32 :=
  yv1 (gv (bdv x12) (zv x0 x6 x7) x11 x13 x14) x15

/-- The whole body, for the first result. -/
def h1v (a : BitVec 32) (x0 : Vec F S1x512x1024 .f32) (x1 x2 : Vec F S1x128x1024 .f32) (x3 : Vec F S512x384 .f32) (x4 x5 : Vec F S128x384 .f32) (x6 : Vec F S1x1024 .f32)
    (x7 : Vec F S1024x3840 .bf16) (x8 : Vec F S1x512 .f32) (x9 : Vec F S1x128 .f32) (x10 : Vec F S2x512x1 .f32) (x11 : Vec F S1x512 .f32) (x12 : Vec F S512x512 .bf16)
    (x13 : Vec F S128x1024 .bf16) (x14 : Vec F S128x512 .f32) (x15 : Vec F S2x512x1024 .bf16) (x16 : Vec F S1024x1024 .bf16) : Vec F S1x512x1024 .f32 :=
  hv (xv x0) (y0v a x0 x1 x2 x3 x4 x5 x6 x7 x8 x9 x10 x12 x15) (y1v x0 x6 x7 x11 x12 x13 x14 x15) (zv x0 x6 x7) x16

/-- The whole body, for the two others. -/
def e1v (a : BitVec 32) (x0 : Vec F S1x512x1024 .f32) (x1 x2 : Vec F S1x128x1024 .f32) (x3 : Vec F S512x384 .f32) (x4 x5 : Vec F S128x384 .f32) (x6 : Vec F S1x1024 .f32)
    (x7 : Vec F S1024x3840 .bf16) (x8 : Vec F S1x512 .f32) (x9 : Vec F S1x128 .f32) (x10 : Vec F S2x512x1 .f32) (x11 : Vec F S1x512 .f32) (x12 : Vec F S512x512 .bf16)
    (x13 : Vec F S128x1024 .bf16) (x14 : Vec F S128x512 .f32) (x15 : Vec F S2x512x1024 .bf16) (x16 : Vec F S1024x1024 .bf16)
    (x17 : Vec F S1x1024 .f32) (x18 : Vec F S2x1024x128 .bf16) (x19 : Vec F S1x128 .f32) : Vec F S1x8x512 .i32 :=
  ev (xv x0) (y0v a x0 x1 x2 x3 x4 x5 x6 x7 x8 x9 x10 x12 x15) (y1v x0 x6 x7 x11 x12 x13 x14 x15) (zv x0 x6 x7) x16 x17 x18 x19
def g1v (a : BitVec 32) (x0 : Vec F S1x512x1024 .f32) (x1 x2 : Vec F S1x128x1024 .f32) (x3 : Vec F S512x384 .f32) (x4 x5 : Vec F S128x384 .f32) (x6 : Vec F S1x1024 .f32)
    (x7 : Vec F S1024x3840 .bf16) (x8 : Vec F S1x512 .f32) (x9 : Vec F S1x128 .f32) (x10 : Vec F S2x512x1 .f32) (x11 : Vec F S1x512 .f32) (x12 : Vec F S512x512 .bf16)
    (x13 : Vec F S128x1024 .bf16) (x14 : Vec F S128x512 .f32) (x15 : Vec F S2x512x1024 .bf16) (x16 : Vec F S1024x1024 .bf16)
    (x17 : Vec F S1x1024 .f32) (x18 : Vec F S2x1024x128 .bf16) (x19 : Vec F S1x128 .f32) : Vec F S1x512x128 .f32 :=
  wgv (xv x0) (y0v a x0 x1 x2 x3 x4 x5 x6 x7 x8 x9 x10 x12 x15) (y1v x0 x6 x7 x11 x12 x13 x14 x15) (zv x0 x6 x7) x16 x17 x18 x19

theorem hz2 : (![0, 0] : Fin 2 → ℕ) = fun _ => 0 := by decide
theorem hz3 : (![0, 0, 0] : Fin 3 → ℕ) = fun _ => 0 := by decide

end Cert.KernelIdeal.Run

end
-- ==== Proof.Heads.lean ====
module

public import proofs.«01_k».proof.Proof.Gen.KernelIdeal.Frame.Runs
public import proofs.«01_k».proof.Proof.Contents
public import Idealize.ShloMosaic.Lib.Tactic.Stretches
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Every store of the attention is one head's rows of one block

The stretches of the body name the same value in several ways; each of these says which head of which
block it is. -/

variable (m : IVec S512x384 1) (q0 q1 q2 q3 : Vec F S128x64 .bf16) (K V : Vec F S384x64 .bf16) (s : Vec F S1x512x1 .f32)

theorem e26 : k0_pay26 m q0 q1 q2 q3 K V s = cut (k0_pay25 m q0 q1 q2 q3 K V s) 0 := rfl
theorem e27 : k0_pay27 m q0 q1 q2 q3 K V s = cut (k0_pay25 m q0 q1 q2 q3 K V s) 1 := rfl
theorem e43 : k0_pay43 m q0 q1 q2 q3 K V s = cut (k0_pay25 m q0 q1 q2 q3 K V s) 0 := rfl
theorem e44 : k0_pay44 m q0 q1 q2 q3 K V s = cut (k0_pay25 m q0 q1 q2 q3 K V s) 1 := rfl
theorem e61 : k0_pay61 m q0 q1 q2 q3 K V s = cut (k0_pay25 m q0 q1 q2 q3 K V s) 0 := rfl
theorem e62 : k0_pay62 m q0 q1 q2 q3 K V s = cut (k0_pay25 m q0 q1 q2 q3 K V s) 1 := rfl
theorem e73 : k0_pay73 m q0 q1 q2 q3 K V s = cut (k0_pay25 m q0 q1 q2 q3 K V s) 0 := rfl
theorem e74 : k0_pay74 m q0 q1 q2 q3 K V s = cut (k0_pay25 m q0 q1 q2 q3 K V s) 1 := rfl
theorem e28 (o : FVec F S512x64 .f32) : k0_pay28 o = cut o 2 := rfl
theorem e29 (o : FVec F S512x64 .f32) : k0_pay29 o = cut o 3 := rfl
theorem e47 (o : FVec F S512x64 .f32) : k0_pay47 o = cut o 3 := rfl
theorem e65 (o : FVec F S512x64 .f32) : k0_pay65 o = cut o 3 := rfl
theorem e67 (o : FVec F S512x64 .f32) : k0_pay67 o = cut o 0 := rfl
theorem e68 (o : FVec F S512x64 .f32) : k0_pay68 o = cut o 1 := rfl
theorem e69 (o : FVec F S512x64 .f32) : k0_pay69 o = cut o 2 := rfl
theorem e70 (o : FVec F S512x64 .f32) : k0_pay70 o = cut o 3 := rfl
theorem e77 (o : FVec F S512x64 .f32) : k0_pay77 o = cut o 3 := rfl
theorem e81 (o : FVec F S512x64 .f32) : k0_pay81 o = cut o 1 := rfl
theorem e82 (o : FVec F S512x64 .f32) : k0_pay82 o = cut o 2 := rfl
theorem e83 (o : FVec F S512x64 .f32) : k0_pay83 o = cut o 3 := rfl
theorem e37 : k0_pay37 V (k0_pay34 m q0 q1 q2 q3 K s) (k0_pay35 m q0 q1 q2 q3 K s) = cut (k0_pay25 m q0 q1 q2 q3 K V s) 0 := rfl
theorem e38 : k0_pay38 V (k0_pay34 m q0 q1 q2 q3 K s) (k0_pay35 m q0 q1 q2 q3 K s) = cut (k0_pay25 m q0 q1 q2 q3 K V s) 1 := rfl
theorem e39 : k0_pay39 V (k0_pay34 m q0 q1 q2 q3 K s) (k0_pay35 m q0 q1 q2 q3 K s) = cut (k0_pay25 m q0 q1 q2 q3 K V s) 2 := rfl
theorem e40 : k0_pay40 V (k0_pay34 m q0 q1 q2 q3 K s) (k0_pay35 m q0 q1 q2 q3 K s) = cut (k0_pay25 m q0 q1 q2 q3 K V s) 3 := rfl
theorem e55 : k0_pay55 (k0_pay52 m q0 q1 q2 q3 K s) (k0_pay53 m q0 q1 q2 q3 K V s) = cut (k0_pay25 m q0 q1 q2 q3 K V s) 0 := rfl
theorem e56 : k0_pay56 (k0_pay52 m q0 q1 q2 q3 K s) (k0_pay53 m q0 q1 q2 q3 K V s) = cut (k0_pay25 m q0 q1 q2 q3 K V s) 1 := rfl
theorem e57 : k0_pay57 (k0_pay52 m q0 q1 q2 q3 K s) (k0_pay53 m q0 q1 q2 q3 K V s) = cut (k0_pay25 m q0 q1 q2 q3 K V s) 2 := rfl
theorem e58 : k0_pay58 (k0_pay52 m q0 q1 q2 q3 K s) (k0_pay53 m q0 q1 q2 q3 K V s) = cut (k0_pay25 m q0 q1 q2 q3 K V s) 3 := rfl
theorem e46 : k0_pay46 (k0_pay45 m q0 q1 q2 q3 K V s) = cut (k0_pay25 m q0 q1 q2 q3 K V s) 2 := rfl
theorem e64 : k0_pay64 (k0_pay63 m q0 q1 q2 q3 K V s) = cut (k0_pay25 m q0 q1 q2 q3 K V s) 2 := rfl
theorem e76 : k0_pay76 (k0_pay75 m q0 q1 q2 q3 K V s) = cut (k0_pay25 m q0 q1 q2 q3 K V s) 2 := rfl
theorem e80 : k0_pay80 (k0_pay79 m q0 q1 q2 q3 K V s) = cut (k0_pay25 m q0 q1 q2 q3 K V s) 0 := rfl
theorem e42 : k0_pay42 m q0 q1 q2 q3 K V s = k0_pay25 m q0 q1 q2 q3 K V s := rfl
theorem e60 : k0_pay60 m q0 q1 q2 q3 K V s = k0_pay25 m q0 q1 q2 q3 K V s := rfl
theorem e66 : k0_pay66 m q0 q1 q2 q3 K V s = k0_pay25 m q0 q1 q2 q3 K V s := rfl
theorem e72 : k0_pay72 m q0 q1 q2 q3 K V s = k0_pay25 m q0 q1 q2 q3 K V s := rfl
theorem e78 : k0_pay78 m q0 q1 q2 q3 K V s = k0_pay25 m q0 q1 q2 q3 K V s := rfl
theorem e41 (a : BitVec 32) : k0_pay41 a (iota .tc S512x384 32 [1] iota_S512x384_d1_w32) k0_pay23 = msk a 1#32 := rfl
theorem e59 (a : BitVec 32) : k0_pay59 a (iota .tc S512x384 32 [1] iota_S512x384_d1_w32) k0_pay23 = msk a 2#32 := rfl
theorem e71 (a : BitVec 32) : k0_pay71 a (iota .tc S512x384 32 [1] iota_S512x384_d1_w32) k0_pay23 = msk a 3#32 := rfl

variable (v30 : FVec F S512x512 .bf16) (vg u : Vec F S128x512 .f32) (gn : Vec F S1x512 .f32) (wA wB : Vec F S128x512 .bf16) (bs : Vec F S128x512 .f32)

/-! Likewise for the four chunks of the sequence mixing. -/

theorem c0 : k0_pay97 (k0_pay94 (k0_pay87 k0_pay84 k0_pay85 k0_pay86) (k0_pay88 v30 vg gn) (k0_pay90 v30 k0_pay84 k0_pay85 k0_pay86 vg gn) (k0_pay91 v30 k0_pay84 k0_pay85 k0_pay86 vg gn)
    (k0_pay92 v30 k0_pay84 k0_pay85 k0_pay86 vg gn) (k0_pay93 v30 k0_pay84 k0_pay85 k0_pay86 vg gn) wA wB bs) (k0_pay95 u) (k0_pay96 u) (Scalar.ofBits .f32 0x3F800000#32)
    = gmw v30 vg u gn wA wB bs := rfl
theorem c1 : k0_pay105 (k0_pay104 (k0_pay87 k0_pay84 k0_pay85 k0_pay86) (k0_pay98 v30 vg gn) (k0_pay99 v30 vg gn) (k0_pay100 v30 (k0_pay87 k0_pay84 k0_pay85 k0_pay86) vg gn) (k0_pay101 v30 (k0_pay87 k0_pay84 k0_pay85 k0_pay86) vg gn) (k0_pay102 (k0_pay87 k0_pay84 k0_pay85 k0_pay86)) k0_pay103 wA wB bs) u
    = gmw v30 vg u gn wA wB bs := rfl
theorem c2 : k0_pay113 (k0_pay110 (k0_pay87 k0_pay84 k0_pay85 k0_pay86) (k0_pay107 v30 vg gn) (k0_pay108 v30 (k0_pay87 k0_pay84 k0_pay85 k0_pay86) vg gn) (k0_pay109 (k0_pay87 k0_pay84 k0_pay85 k0_pay86)) wA) (k0_pay111 (k0_pay87 k0_pay84 k0_pay85 k0_pay86) (k0_pay106 v30 vg gn)) (k0_pay112 wB)
    (constant S128x256 .f32 0x00000000#32) bs u = gmw v30 vg u gn wA wB bs := rfl
theorem c3 : k0_pay122 (k0_pay116 (k0_pay87 k0_pay84 k0_pay85 k0_pay86) (k0_pay115 v30 vg gn) 0#32 wA) (k0_pay117 (k0_pay114 v30 vg gn)) (k0_pay118 (k0_pay87 k0_pay84 k0_pay85 k0_pay86) (k0_pay114 v30 vg gn)) (k0_pay119 (k0_pay87 k0_pay84 k0_pay85 k0_pay86) (k0_pay114 v30 vg gn))
    (k0_pay120 (k0_pay87 k0_pay84 k0_pay85 k0_pay86) (k0_pay114 v30 vg gn)) (k0_pay121 (k0_pay87 k0_pay84 k0_pay85 k0_pay86)) (Scalar.ofBits .f32 0x00000000#32) wB bs u = gmw v30 vg u gn wA wB bs := rfl

end Cert.KernelIdeal.Run

end
-- ==== Proof.Chain.lean ====
module

public import proofs.«01_k».proof.Proof.Gen.KernelIdeal.Frame.Runs
public import proofs.«01_k».proof.Proof.Heads
public import Idealize.ShloMosaic.Lib.Tactic.Stretches
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S512x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S1x1024 .f32) (harg8 : arg8.IsWhole) (arg9 : Memref sig .tc .vmem S1024x3840 .bf16) (harg9 : arg9.IsWhole) (arg10 : Memref sig .tc .vmem S1x512 .f32) (harg10 : arg10.IsWhole) (arg11 : Memref sig .tc .vmem S1x128 .f32) (harg11 : arg11.IsWhole) (arg12 : Memref sig .tc .vmem S2x512x1 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S128x1024 .bf16) (harg15 : arg15.IsWhole) (arg16 : Memref sig .tc .vmem S128x512 .f32) (harg16 : arg16.IsWhole) (arg17 : Memref sig .tc .vmem S2x512x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S2x1024x128 .bf16) (harg20 : arg20.IsWhole) (arg21 : Memref sig .tc .vmem S1x128 .f32) (harg21 : arg21.IsWhole) (arg22 : Memref sig .tc .vmem S1x512x1024 .f32) (harg22 : arg22.IsWhole) (arg23 : Memref sig .tc .vmem S1x8x512 .i32) (harg23 : arg23.IsWhole) (arg24 : Memref sig .tc .vmem S1x512x128 .f32) (harg24 : arg24.IsWhole) (arg25 : Memref sig .tc .vmem S512x3840 .f32) (harg25 : arg25.IsWhole) (arg26 : Memref sig .tc .vmem S512x512 .bf16) (harg26 : arg26.IsWhole) (arg27 : Memref sig .tc .vmem S768x128 .bf16) (harg27 : arg27.IsWhole) (arg28 : Memref sig .tc .vmem S768x128 .bf16) (harg28 : arg28.IsWhole) (arg29 : Memref sig .tc .vmem S512x512 .bf16) (harg29 : arg29.IsWhole) (arg30 : Memref sig .tc .vmem S512x512 .bf16) (harg30 : arg30.IsWhole)

variable (x0 : Vec F S1x512x1024 .f32) (x1 : Vec F S1x128x1024 .f32) (x2 : Vec F S1x128x1024 .f32) (x3 : Vec F S512x384 .f32) (x4 : Vec F S128x384 .f32) (x5 : Vec F S128x384 .f32) (x6 : Vec F S1x1024 .f32) (x7 : Vec F S1024x3840 .bf16) (x8 : Vec F S1x512 .f32) (x9 : Vec F S1x128 .f32) (x10 : Vec F S2x512x1 .f32) (x11 : Vec F S1x512 .f32) (x12 : Vec F S512x512 .bf16) (x13 : Vec F S128x1024 .bf16) (x14 : Vec F S128x512 .f32) (x15 : Vec F S2x512x1024 .bf16) (x16 : Vec F S1024x1024 .bf16) (x17 : Vec F S1x1024 .f32) (x18 : Vec F S2x1024x128 .bf16) (x19 : Vec F S1x128 .f32)

cut_chain ph := cc0_mixer / 1 at 2, 6, 18, 27

end Cert.KernelIdeal.Run

end
-- ==== Proof.Phase1.lean ====
module

public import proofs.«01_k».proof.Proof.Gen.KernelIdeal.Frame.Runs
public import proofs.«01_k».proof.Proof.Chain
public import Idealize.ShloMosaic.Lib.Tactic.Stretches
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S512x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S1x1024 .f32) (harg8 : arg8.IsWhole) (arg9 : Memref sig .tc .vmem S1024x3840 .bf16) (harg9 : arg9.IsWhole) (arg10 : Memref sig .tc .vmem S1x512 .f32) (harg10 : arg10.IsWhole) (arg11 : Memref sig .tc .vmem S1x128 .f32) (harg11 : arg11.IsWhole) (arg12 : Memref sig .tc .vmem S2x512x1 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S128x1024 .bf16) (harg15 : arg15.IsWhole) (arg16 : Memref sig .tc .vmem S128x512 .f32) (harg16 : arg16.IsWhole) (arg17 : Memref sig .tc .vmem S2x512x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S2x1024x128 .bf16) (harg20 : arg20.IsWhole) (arg21 : Memref sig .tc .vmem S1x128 .f32) (harg21 : arg21.IsWhole) (arg22 : Memref sig .tc .vmem S1x512x1024 .f32) (harg22 : arg22.IsWhole) (arg23 : Memref sig .tc .vmem S1x8x512 .i32) (harg23 : arg23.IsWhole) (arg24 : Memref sig .tc .vmem S1x512x128 .f32) (harg24 : arg24.IsWhole) (arg25 : Memref sig .tc .vmem S512x3840 .f32) (harg25 : arg25.IsWhole) (arg26 : Memref sig .tc .vmem S512x512 .bf16) (harg26 : arg26.IsWhole) (arg27 : Memref sig .tc .vmem S768x128 .bf16) (harg27 : arg27.IsWhole) (arg28 : Memref sig .tc .vmem S768x128 .bf16) (harg28 : arg28.IsWhole) (arg29 : Memref sig .tc .vmem S512x512 .bf16) (harg29 : arg29.IsWhole) (arg30 : Memref sig .tc .vmem S512x512 .bf16) (harg30 : arg30.IsWhole)

variable (x0 : Vec F S1x512x1024 .f32) (x1 : Vec F S1x128x1024 .f32) (x2 : Vec F S1x128x1024 .f32) (x3 : Vec F S512x384 .f32) (x4 : Vec F S128x384 .f32) (x5 : Vec F S128x384 .f32) (x6 : Vec F S1x1024 .f32) (x7 : Vec F S1024x3840 .bf16) (x8 : Vec F S1x512 .f32) (x9 : Vec F S1x128 .f32) (x10 : Vec F S2x512x1 .f32) (x11 : Vec F S1x512 .f32) (x12 : Vec F S512x512 .bf16) (x13 : Vec F S128x1024 .bf16) (x14 : Vec F S128x512 .f32) (x15 : Vec F S2x512x1024 .bf16) (x16 : Vec F S1024x1024 .bf16) (x17 : Vec F S1x1024 .f32) (x18 : Vec F S2x1024x128 .bf16) (x19 : Vec F S1x128 .f32)

set_option maxHeartbeats 600000 in
/-- The projections. -/
theorem ph1_spec {R : Type}  {κ : ph1.K (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30  (R := R)} {Q : R → sProp 𝕄} :
    iprop(owns (c : Thread nD τ) arg2 fullShare x0 ∗ owns (c : Thread nD τ) arg5 fullShare x3 ∗ owns (c : Thread nD τ) arg8 fullShare x6 ∗ owns (c : Thread nD τ) arg9 fullShare x7 ∗ owns (c : Thread nD τ) arg14 fullShare x12 ∗ (∃ d, owns (c : Thread nD τ) arg25 fullShare d))
      ⊢ iprop((iprop(owns (c : Thread nD τ) arg2 fullShare x0 ∗ owns (c : Thread nD τ) arg5 fullShare x3 ∗ owns (c : Thread nD τ) arg8 fullShare x6 ∗ owns (c : Thread nD τ) arg9 fullShare x7 ∗ owns (c : Thread nD τ) arg14 fullShare x12 ∗ owns (c : Thread nD τ) arg25 fullShare (zv x0 x6 x7)) -∗ wp frame (wpE (defs₀ (F := F)) Variants.none c none) Set.univ (κ (BitVec.ofNat 32 (i 1).val) (xv x0) (csv x3) (lov x3) (hiv x3) (bdv x12) (bcv x12)) Q)
          -∗ wp frame (wpE (defs₀ (F := F)) Variants.none c none) Set.univ (ph1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30  κ) Q) := by
  unfold owns
  iintro ⟨⟨%f2, %hf2, H2⟩, ⟨%f5, %hf5, H5⟩, ⟨%f8, %hf8, H8⟩, ⟨%f9, %hf9, H9⟩, ⟨%f14, %hf14, H14⟩, ⟨%d25, %f25, -, H25⟩⟩ Hκ
  obtain rfl := harg2.eq_unread hf2; obtain rfl := harg5.eq_unread hf5; obtain rfl := harg8.eq_unread hf8; obtain rfl := harg9.eq_unread hf9; obtain rfl := harg14.eq_unread hf14
  unfold ph1
  simp only [k0_part1_eq_skeleton]
  sl_exec
  delta ph1_spec.sl.r ph1_spec.sl.r_1 ph1_spec.sl.r_2 ph1_spec.sl.r_3 ph1_spec.sl.r_4 ph1_spec.sl.r_5
  simp only [rd]
  iapply Hκ
  isplitl [H2]
  · iexists _; isplitr; swap; iexact H2; ipureintro; exact harg2.read_unread _
  isplitl [H5]
  · iexists _; isplitr; swap; iexact H5; ipureintro; exact harg5.read_unread _
  isplitl [H8]
  · iexists _; isplitr; swap; iexact H8; ipureintro; exact harg8.read_unread _
  isplitl [H9]
  · iexists _; isplitr; swap; iexact H9; ipureintro; exact harg9.read_unread _
  isplitl [H14]
  · iexists _; isplitr; swap; iexact H14; ipureintro; exact harg14.read_unread _
  iexists _; isplitr; swap; iexact H25; ipureintro; exact (View.read_writes_eq_canon _ _ _ (View.cover_of_tiled _ ![512, 3840] rfl)).trans (View.canon_unit_zero hz2 _ _)

end Cert.KernelIdeal.Run

end
-- ==== Proof.Phase2.lean ====
module

public import proofs.«01_k».proof.Proof.Gen.KernelIdeal.Frame.Runs
public import proofs.«01_k».proof.Proof.Chain
public import Idealize.ShloMosaic.Lib.Tactic.Stretches
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S512x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S1x1024 .f32) (harg8 : arg8.IsWhole) (arg9 : Memref sig .tc .vmem S1024x3840 .bf16) (harg9 : arg9.IsWhole) (arg10 : Memref sig .tc .vmem S1x512 .f32) (harg10 : arg10.IsWhole) (arg11 : Memref sig .tc .vmem S1x128 .f32) (harg11 : arg11.IsWhole) (arg12 : Memref sig .tc .vmem S2x512x1 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S128x1024 .bf16) (harg15 : arg15.IsWhole) (arg16 : Memref sig .tc .vmem S128x512 .f32) (harg16 : arg16.IsWhole) (arg17 : Memref sig .tc .vmem S2x512x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S2x1024x128 .bf16) (harg20 : arg20.IsWhole) (arg21 : Memref sig .tc .vmem S1x128 .f32) (harg21 : arg21.IsWhole) (arg22 : Memref sig .tc .vmem S1x512x1024 .f32) (harg22 : arg22.IsWhole) (arg23 : Memref sig .tc .vmem S1x8x512 .i32) (harg23 : arg23.IsWhole) (arg24 : Memref sig .tc .vmem S1x512x128 .f32) (harg24 : arg24.IsWhole) (arg25 : Memref sig .tc .vmem S512x3840 .f32) (harg25 : arg25.IsWhole) (arg26 : Memref sig .tc .vmem S512x512 .bf16) (harg26 : arg26.IsWhole) (arg27 : Memref sig .tc .vmem S768x128 .bf16) (harg27 : arg27.IsWhole) (arg28 : Memref sig .tc .vmem S768x128 .bf16) (harg28 : arg28.IsWhole) (arg29 : Memref sig .tc .vmem S512x512 .bf16) (harg29 : arg29.IsWhole) (arg30 : Memref sig .tc .vmem S512x512 .bf16) (harg30 : arg30.IsWhole)

variable (x0 : Vec F S1x512x1024 .f32) (x1 : Vec F S1x128x1024 .f32) (x2 : Vec F S1x128x1024 .f32) (x3 : Vec F S512x384 .f32) (x4 : Vec F S128x384 .f32) (x5 : Vec F S128x384 .f32) (x6 : Vec F S1x1024 .f32) (x7 : Vec F S1024x3840 .bf16) (x8 : Vec F S1x512 .f32) (x9 : Vec F S1x128 .f32) (x10 : Vec F S2x512x1 .f32) (x11 : Vec F S1x512 .f32) (x12 : Vec F S512x512 .bf16) (x13 : Vec F S128x1024 .bf16) (x14 : Vec F S128x512 .f32) (x15 : Vec F S2x512x1024 .bf16) (x16 : Vec F S1024x1024 .bf16) (x17 : Vec F S1x1024 .f32) (x18 : Vec F S2x1024x128 .bf16) (x19 : Vec F S1x128 .f32)

set_option maxHeartbeats 600000 in
/-- Queries, keys and values. -/
theorem ph2_spec {R : Type} {a1 : BitVec 32} {v24 v26 v28 : FVec F S512x128 .f32} {v30 : FVec F S512x512 .bf16} {v32 : FVec F S128x128 .bf16} {z : Vec F S512x3840 .f32} {κ : ph2.K (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 a1 v24 v26 v28 v30 v32 (R := R)} {Q : R → sProp 𝕄} :
    iprop(owns (c : Thread nD τ) arg3 fullShare x1 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg25 fullShare z ∗ (∃ d, owns (c : Thread nD τ) arg26 fullShare d) ∗ (∃ d, owns (c : Thread nD τ) arg27 fullShare d) ∗ (∃ d, owns (c : Thread nD τ) arg28 fullShare d))
      ⊢ iprop((iprop(owns (c : Thread nD τ) arg3 fullShare x1 ∗ owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg25 fullShare z ∗ owns (c : Thread nD τ) arg26 fullShare (qv v24 v26 v28 v30 z x8) ∗ owns (c : Thread nD τ) arg27 fullShare (kv (kpre v32 (halo x1 x2 x6 x7) x9 x4 x5) (kmid v24 v26 v28 v32 z x9) (kpost v32 (halo x1 x2 x6 x7) x9 x4 x5)) ∗ owns (c : Thread nD τ) arg28 fullShare (vv (halo x1 x2 x6 x7) z)) -∗ wp frame (wpE (defs₀ (F := F)) Variants.none c none) Set.univ (κ (iota .tc S512x384 32 [1] iota_S512x384_d1_w32) k0_pay23 (msk a1 0#32)) Q)
          -∗ wp frame (wpE (defs₀ (F := F)) Variants.none c none) Set.univ (ph2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 a1 v24 v26 v28 v30 v32 κ) Q) := by
  unfold owns
  iintro ⟨⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f25, %hf25, H25⟩, ⟨%d26, %f26, -, H26⟩, ⟨%d27, %f27, -, H27⟩, ⟨%d28, %f28, -, H28⟩⟩ Hκ
  obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg25.eq_unread hf25
  unfold ph2
  simp only [k0_part2_eq_skeleton, k0_part3_eq_skeleton, k0_part4_eq_skeleton, k0_part5_eq_skeleton]
  sl_exec
  delta ph2_spec.sl.r ph2_spec.sl.r_1 ph2_spec.sl.r_2 ph2_spec.sl.r_3 ph2_spec.sl.r_4 ph2_spec.sl.r_5 ph2_spec.sl.v175
  simp only [rd]
  iapply Hκ
  isplitl [H3]
  · iexists _; isplitr; swap; iexact H3; ipureintro; exact harg3.read_unread _
  isplitl [H4]
  · iexists _; isplitr; swap; iexact H4; ipureintro; exact harg4.read_unread _
  isplitl [H6]
  · iexists _; isplitr; swap; iexact H6; ipureintro; exact harg6.read_unread _
  isplitl [H7]
  · iexists _; isplitr; swap; iexact H7; ipureintro; exact harg7.read_unread _
  isplitl [H8]
  · iexists _; isplitr; swap; iexact H8; ipureintro; exact harg8.read_unread _
  isplitl [H9]
  · iexists _; isplitr; swap; iexact H9; ipureintro; exact harg9.read_unread _
  isplitl [H10]
  · iexists _; isplitr; swap; iexact H10; ipureintro; exact harg10.read_unread _
  isplitl [H11]
  · iexists _; isplitr; swap; iexact H11; ipureintro; exact harg11.read_unread _
  isplitl [H25]
  · iexists _; isplitr; swap; iexact H25; ipureintro; exact harg25.read_unread _
  isplitl [H26]
  · iexists _; isplitr; swap; iexact H26; ipureintro; exact (View.read_writes_eq_canon _ _ _ (View.cover_of_tiled _ ![512, 512] rfl)).trans (View.canon_unit_zero hz2 _ _)
  isplitl [H27]
  · iexists _; isplitr; swap; iexact H27; ipureintro; exact (View.read_writes_eq_canon _ _ _ (kv_cover _ _ _)).trans (rfl)
  iexists _; isplitr; swap; iexact H28; ipureintro; exact (View.read_writes_eq_canon _ _ _ (kv_cover _ _ _)).trans (rfl)

end Cert.KernelIdeal.Run

end
-- ==== Proof.Phase3.lean ====
module

public import proofs.«01_k».proof.Proof.Gen.KernelIdeal.Frame.Runs
public import proofs.«01_k».proof.Proof.Chain
public import Idealize.ShloMosaic.Lib.Tactic.Stretches
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S512x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S1x1024 .f32) (harg8 : arg8.IsWhole) (arg9 : Memref sig .tc .vmem S1024x3840 .bf16) (harg9 : arg9.IsWhole) (arg10 : Memref sig .tc .vmem S1x512 .f32) (harg10 : arg10.IsWhole) (arg11 : Memref sig .tc .vmem S1x128 .f32) (harg11 : arg11.IsWhole) (arg12 : Memref sig .tc .vmem S2x512x1 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S128x1024 .bf16) (harg15 : arg15.IsWhole) (arg16 : Memref sig .tc .vmem S128x512 .f32) (harg16 : arg16.IsWhole) (arg17 : Memref sig .tc .vmem S2x512x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S2x1024x128 .bf16) (harg20 : arg20.IsWhole) (arg21 : Memref sig .tc .vmem S1x128 .f32) (harg21 : arg21.IsWhole) (arg22 : Memref sig .tc .vmem S1x512x1024 .f32) (harg22 : arg22.IsWhole) (arg23 : Memref sig .tc .vmem S1x8x512 .i32) (harg23 : arg23.IsWhole) (arg24 : Memref sig .tc .vmem S1x512x128 .f32) (harg24 : arg24.IsWhole) (arg25 : Memref sig .tc .vmem S512x3840 .f32) (harg25 : arg25.IsWhole) (arg26 : Memref sig .tc .vmem S512x512 .bf16) (harg26 : arg26.IsWhole) (arg27 : Memref sig .tc .vmem S768x128 .bf16) (harg27 : arg27.IsWhole) (arg28 : Memref sig .tc .vmem S768x128 .bf16) (harg28 : arg28.IsWhole) (arg29 : Memref sig .tc .vmem S512x512 .bf16) (harg29 : arg29.IsWhole) (arg30 : Memref sig .tc .vmem S512x512 .bf16) (harg30 : arg30.IsWhole)

variable (x0 : Vec F S1x512x1024 .f32) (x1 : Vec F S1x128x1024 .f32) (x2 : Vec F S1x128x1024 .f32) (x3 : Vec F S512x384 .f32) (x4 : Vec F S128x384 .f32) (x5 : Vec F S128x384 .f32) (x6 : Vec F S1x1024 .f32) (x7 : Vec F S1024x3840 .bf16) (x8 : Vec F S1x512 .f32) (x9 : Vec F S1x128 .f32) (x10 : Vec F S2x512x1 .f32) (x11 : Vec F S1x512 .f32) (x12 : Vec F S512x512 .bf16) (x13 : Vec F S128x1024 .bf16) (x14 : Vec F S128x512 .f32) (x15 : Vec F S2x512x1024 .bf16) (x16 : Vec F S1024x1024 .bf16) (x17 : Vec F S1x1024 .f32) (x18 : Vec F S2x1024x128 .bf16) (x19 : Vec F S1x128 .f32)

set_option maxHeartbeats 600000 in
/-- The attention. -/
theorem ph3_spec {R : Type} {a1 : BitVec 32} {q : Vec F S512x512 .bf16} {k v : Vec F S768x128 .bf16} {κ : ph3.K (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 a1 (iota .tc S512x384 32 [1] iota_S512x384_d1_w32) k0_pay23 (msk a1 0#32) (R := R)} {Q : R → sProp 𝕄} :
    iprop(owns (c : Thread nD τ) arg12 fullShare x10 ∗ owns (c : Thread nD τ) arg26 fullShare q ∗ owns (c : Thread nD τ) arg27 fullShare k ∗ owns (c : Thread nD τ) arg28 fullShare v ∗ (∃ d, owns (c : Thread nD τ) arg29 fullShare d))
      ⊢ iprop((iprop(owns (c : Thread nD τ) arg12 fullShare x10 ∗ owns (c : Thread nD τ) arg26 fullShare q ∗ owns (c : Thread nD τ) arg27 fullShare k ∗ owns (c : Thread nD τ) arg28 fullShare v ∗ owns (c : Thread nD τ) arg29 fullShare (av a1 q k v x10)) -∗ wp frame (wpE (defs₀ (F := F)) Variants.none c none) Set.univ (κ k0_pay84 k0_pay85 k0_pay86) Q)
          -∗ wp frame (wpE (defs₀ (F := F)) Variants.none c none) Set.univ (ph3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 a1 (iota .tc S512x384 32 [1] iota_S512x384_d1_w32) k0_pay23 (msk a1 0#32) κ) Q) := by
  unfold owns
  iintro ⟨⟨%f12, %hf12, H12⟩, ⟨%f26, %hf26, H26⟩, ⟨%f27, %hf27, H27⟩, ⟨%f28, %hf28, H28⟩, ⟨%d29, %f29, -, H29⟩⟩ Hκ
  obtain rfl := harg12.eq_unread hf12; obtain rfl := harg26.eq_unread hf26; obtain rfl := harg27.eq_unread hf27; obtain rfl := harg28.eq_unread hf28
  unfold ph3
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  sl_exec
  delta ph3_spec.sl.r ph3_spec.sl.r_1 ph3_spec.sl.r_2 ph3_spec.sl.r_3 ph3_spec.sl.r_4 ph3_spec.sl.r_5 ph3_spec.sl.r_6 ph3_spec.sl.r_7 ph3_spec.sl.r_8 ph3_spec.sl.r_9 ph3_spec.sl.r_10 ph3_spec.sl.r_11 ph3_spec.sl.r_12 ph3_spec.sl.r_13 ph3_spec.sl.r_14 ph3_spec.sl.r_15 ph3_spec.sl.r_16 ph3_spec.sl.r_17 ph3_spec.sl.r_18 ph3_spec.sl.r_19 ph3_spec.sl.r_20 ph3_spec.sl.r_21 ph3_spec.sl.r_22 ph3_spec.sl.r_23
  simp only [rd]
  simp only [e26, e27, e43, e44, e61, e62, e73, e74, e28, e29, e47, e65, e67, e68, e69, e70, e77, e81, e82, e83, e37, e38, e39, e40, e55, e56, e57, e58, e46, e64, e76, e80, e42, e60, e66, e72, e78, e41, e59, e71]
  iapply Hκ
  isplitl [H12]
  · iexists _; isplitr; swap; iexact H12; ipureintro; exact harg12.read_unread _
  isplitl [H26]
  · iexists _; isplitr; swap; iexact H26; ipureintro; exact harg26.read_unread _
  isplitl [H27]
  · iexists _; isplitr; swap; iexact H27; ipureintro; exact harg27.read_unread _
  isplitl [H28]
  · iexists _; isplitr; swap; iexact H28; ipureintro; exact harg28.read_unread _
  iexists _; isplitr; swap; iexact H29; ipureintro; exact (View.read_writes_eq_canon _ _ _ (View.cover_of_tiled _ ![128, 64] rfl)).trans (congrArg View.canon (by
    rw [e41 a1, e59 a1, e71 a1]
    unfold apcs apc att
    refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (rfl))))))))))))))))))))))))))))))))
    all_goals rfl))

end Cert.KernelIdeal.Run

end
-- ==== Proof.Phase4.lean ====
module

public import proofs.«01_k».proof.Proof.Gen.KernelIdeal.Frame.Runs
public import proofs.«01_k».proof.Proof.Chain
public import Idealize.ShloMosaic.Lib.Tactic.Stretches
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S512x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S1x1024 .f32) (harg8 : arg8.IsWhole) (arg9 : Memref sig .tc .vmem S1024x3840 .bf16) (harg9 : arg9.IsWhole) (arg10 : Memref sig .tc .vmem S1x512 .f32) (harg10 : arg10.IsWhole) (arg11 : Memref sig .tc .vmem S1x128 .f32) (harg11 : arg11.IsWhole) (arg12 : Memref sig .tc .vmem S2x512x1 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S128x1024 .bf16) (harg15 : arg15.IsWhole) (arg16 : Memref sig .tc .vmem S128x512 .f32) (harg16 : arg16.IsWhole) (arg17 : Memref sig .tc .vmem S2x512x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S2x1024x128 .bf16) (harg20 : arg20.IsWhole) (arg21 : Memref sig .tc .vmem S1x128 .f32) (harg21 : arg21.IsWhole) (arg22 : Memref sig .tc .vmem S1x512x1024 .f32) (harg22 : arg22.IsWhole) (arg23 : Memref sig .tc .vmem S1x8x512 .i32) (harg23 : arg23.IsWhole) (arg24 : Memref sig .tc .vmem S1x512x128 .f32) (harg24 : arg24.IsWhole) (arg25 : Memref sig .tc .vmem S512x3840 .f32) (harg25 : arg25.IsWhole) (arg26 : Memref sig .tc .vmem S512x512 .bf16) (harg26 : arg26.IsWhole) (arg27 : Memref sig .tc .vmem S768x128 .bf16) (harg27 : arg27.IsWhole) (arg28 : Memref sig .tc .vmem S768x128 .bf16) (harg28 : arg28.IsWhole) (arg29 : Memref sig .tc .vmem S512x512 .bf16) (harg29 : arg29.IsWhole) (arg30 : Memref sig .tc .vmem S512x512 .bf16) (harg30 : arg30.IsWhole)

variable (x0 : Vec F S1x512x1024 .f32) (x1 : Vec F S1x128x1024 .f32) (x2 : Vec F S1x128x1024 .f32) (x3 : Vec F S512x384 .f32) (x4 : Vec F S128x384 .f32) (x5 : Vec F S128x384 .f32) (x6 : Vec F S1x1024 .f32) (x7 : Vec F S1024x3840 .bf16) (x8 : Vec F S1x512 .f32) (x9 : Vec F S1x128 .f32) (x10 : Vec F S2x512x1 .f32) (x11 : Vec F S1x512 .f32) (x12 : Vec F S512x512 .bf16) (x13 : Vec F S128x1024 .bf16) (x14 : Vec F S128x512 .f32) (x15 : Vec F S2x512x1024 .bf16) (x16 : Vec F S1024x1024 .bf16) (x17 : Vec F S1x1024 .f32) (x18 : Vec F S2x1024x128 .bf16) (x19 : Vec F S1x128 .f32)

set_option maxHeartbeats 600000 in
/-- The sequence mixing and the two out projections. -/
theorem ph4_spec {R : Type} {v30 : FVec F S512x512 .bf16} {z : Vec F S512x3840 .f32} {t : Vec F S512x512 .bf16} {κ : ph4.K (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v30 k0_pay84 k0_pay85 k0_pay86 (R := R)} {Q : R → sProp 𝕄} :
    iprop(owns (c : Thread nD τ) arg13 fullShare x11 ∗ owns (c : Thread nD τ) arg15 fullShare x13 ∗ owns (c : Thread nD τ) arg16 fullShare x14 ∗ owns (c : Thread nD τ) arg17 fullShare x15 ∗ owns (c : Thread nD τ) arg25 fullShare z ∗ owns (c : Thread nD τ) arg29 fullShare t ∗ (∃ d, owns (c : Thread nD τ) arg30 fullShare d))
      ⊢ iprop((iprop(owns (c : Thread nD τ) arg13 fullShare x11 ∗ owns (c : Thread nD τ) arg15 fullShare x13 ∗ owns (c : Thread nD τ) arg16 fullShare x14 ∗ owns (c : Thread nD τ) arg17 fullShare x15 ∗ owns (c : Thread nD τ) arg25 fullShare z ∗ owns (c : Thread nD τ) arg29 fullShare t ∗ owns (c : Thread nD τ) arg30 fullShare (gv v30 z x11 x13 x14)) -∗ wp frame (wpE (defs₀ (F := F)) Variants.none c none) Set.univ (κ (yv0 t x15) (yv1 (gv v30 z x11 x13 x14) x15)) Q)
          -∗ wp frame (wpE (defs₀ (F := F)) Variants.none c none) Set.univ (ph4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v30 k0_pay84 k0_pay85 k0_pay86 κ) Q) := by
  unfold owns
  iintro ⟨⟨%f13, %hf13, H13⟩, ⟨%f15, %hf15, H15⟩, ⟨%f16, %hf16, H16⟩, ⟨%f17, %hf17, H17⟩, ⟨%f25, %hf25, H25⟩, ⟨%f29, %hf29, H29⟩, ⟨%d30, %f30, -, H30⟩⟩ Hκ
  obtain rfl := harg13.eq_unread hf13; obtain rfl := harg15.eq_unread hf15; obtain rfl := harg16.eq_unread hf16; obtain rfl := harg17.eq_unread hf17; obtain rfl := harg25.eq_unread hf25; obtain rfl := harg29.eq_unread hf29
  unfold ph4
  simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  sl_exec
  delta ph4_spec.sl.r ph4_spec.sl.r_1 ph4_spec.sl.r_2 ph4_spec.sl.r_3 ph4_spec.sl.r_4 ph4_spec.sl.r_5 ph4_spec.sl.r_6 ph4_spec.sl.r_7 ph4_spec.sl.r_8 ph4_spec.sl.r_9 ph4_spec.sl.r_10 ph4_spec.sl.r_11 ph4_spec.sl.r_12 ph4_spec.sl.r_13 ph4_spec.sl.r_14 ph4_spec.sl.r_15 ph4_spec.sl.r_16 ph4_spec.sl.r_17 ph4_spec.sl.r_18 ph4_spec.sl.r_19 ph4_spec.sl.r_20 ph4_spec.sl.r_21 ph4_spec.sl.r_22 ph4_spec.sl.r_23 ph4_spec.sl.r_24 ph4_spec.sl.r_25 ph4_spec.sl.r_26 ph4_spec.sl.r_27 ph4_spec.sl.H30_4 ph4_spec.sl.v986 ph4_spec.sl.cst_360 ph4_spec.sl.cst_433 ph4_spec.sl.cst_470
  simp only [rd]
  simp only [c0, c1, c2, c3]
  rw [View.readCov_eq_canon_ld _ _ (Rect.unit (s := S512x512) ![0, 0] S512x512.size inb_S512x512_S512x512_0_0) (View.cover_of_tiled _ ![128, 512] rfl)]
  iapply Hκ
  isplitl [H13]
  · iexists _; isplitr; swap; iexact H13; ipureintro; exact harg13.read_unread _
  isplitl [H15]
  · iexists _; isplitr; swap; iexact H15; ipureintro; exact harg15.read_unread _
  isplitl [H16]
  · iexists _; isplitr; swap; iexact H16; ipureintro; exact harg16.read_unread _
  isplitl [H17]
  · iexists _; isplitr; swap; iexact H17; ipureintro; exact harg17.read_unread _
  isplitl [H25]
  · iexists _; isplitr; swap; iexact H25; ipureintro; exact harg25.read_unread _
  isplitl [H29]
  · iexists _; isplitr; swap; iexact H29; ipureintro; exact harg29.read_unread _
  iexists _; isplitr; swap; iexact H30; ipureintro; exact (View.read_writes_eq_canon _ _ _ (View.cover_of_tiled _ ![128, 512] rfl)).trans (rfl)

end Cert.KernelIdeal.Run

end
-- ==== Proof.Phase5.lean ====
module

public import proofs.«01_k».proof.Proof.Gen.KernelIdeal.Frame.Runs
public import proofs.«01_k».proof.Proof.Chain
public import Idealize.ShloMosaic.Lib.Tactic.Stretches
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S512x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S1x1024 .f32) (harg8 : arg8.IsWhole) (arg9 : Memref sig .tc .vmem S1024x3840 .bf16) (harg9 : arg9.IsWhole) (arg10 : Memref sig .tc .vmem S1x512 .f32) (harg10 : arg10.IsWhole) (arg11 : Memref sig .tc .vmem S1x128 .f32) (harg11 : arg11.IsWhole) (arg12 : Memref sig .tc .vmem S2x512x1 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S128x1024 .bf16) (harg15 : arg15.IsWhole) (arg16 : Memref sig .tc .vmem S128x512 .f32) (harg16 : arg16.IsWhole) (arg17 : Memref sig .tc .vmem S2x512x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S2x1024x128 .bf16) (harg20 : arg20.IsWhole) (arg21 : Memref sig .tc .vmem S1x128 .f32) (harg21 : arg21.IsWhole) (arg22 : Memref sig .tc .vmem S1x512x1024 .f32) (harg22 : arg22.IsWhole) (arg23 : Memref sig .tc .vmem S1x8x512 .i32) (harg23 : arg23.IsWhole) (arg24 : Memref sig .tc .vmem S1x512x128 .f32) (harg24 : arg24.IsWhole) (arg25 : Memref sig .tc .vmem S512x3840 .f32) (harg25 : arg25.IsWhole) (arg26 : Memref sig .tc .vmem S512x512 .bf16) (harg26 : arg26.IsWhole) (arg27 : Memref sig .tc .vmem S768x128 .bf16) (harg27 : arg27.IsWhole) (arg28 : Memref sig .tc .vmem S768x128 .bf16) (harg28 : arg28.IsWhole) (arg29 : Memref sig .tc .vmem S512x512 .bf16) (harg29 : arg29.IsWhole) (arg30 : Memref sig .tc .vmem S512x512 .bf16) (harg30 : arg30.IsWhole)

variable (x0 : Vec F S1x512x1024 .f32) (x1 : Vec F S1x128x1024 .f32) (x2 : Vec F S1x128x1024 .f32) (x3 : Vec F S512x384 .f32) (x4 : Vec F S128x384 .f32) (x5 : Vec F S128x384 .f32) (x6 : Vec F S1x1024 .f32) (x7 : Vec F S1024x3840 .bf16) (x8 : Vec F S1x512 .f32) (x9 : Vec F S1x128 .f32) (x10 : Vec F S2x512x1 .f32) (x11 : Vec F S1x512 .f32) (x12 : Vec F S512x512 .bf16) (x13 : Vec F S128x1024 .bf16) (x14 : Vec F S128x512 .f32) (x15 : Vec F S2x512x1024 .bf16) (x16 : Vec F S1024x1024 .bf16) (x17 : Vec F S1x1024 .f32) (x18 : Vec F S2x1024x128 .bf16) (x19 : Vec F S1x128 .f32)

set_option maxHeartbeats 600000 in
/-- The merge, and the router. -/
theorem ph5_spec {v1 y0 y1 : FVec F S512x1024 .f32} {z : Vec F S512x3840 .f32} {w : Vec F S1x8x512 .i32}  {Q : (Σ' (v1084 : FVec F S1x512 .f32) (v1086 : FVec F S1x512 .f32) (v1088 : FVec F S1x512 .f32) (v1090 : FVec F S1x512 .f32) (v1093 : FVec F S1x512 .f32), IVec S8x512 32) → sProp 𝕄} :
    iprop(owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg23 fullShare w ∗ owns (c : Thread nD τ) arg25 fullShare z ∗ (∃ d, owns (c : Thread nD τ) arg22 fullShare d))
      ⊢ iprop((iprop(owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg23 fullShare w ∗ owns (c : Thread nD τ) arg25 fullShare z ∗ owns (c : Thread nD τ) arg22 fullShare (hv v1 y0 y1 z x16)) -∗ Q ⟨k0_pay145 (rwd k0_pay134 v1 y0 y1 z x16 x17 x18 x19), k0_pay146 (rwd k0_pay134 v1 y0 y1 z x16 x17 x18 x19) (rwd k0_pay137 v1 y0 y1 z x16 x17 x18 x19), k0_pay147 (rwd k0_pay134 v1 y0 y1 z x16 x17 x18 x19) (rwd k0_pay140 v1 y0 y1 z x16 x17 x18 x19), k0_pay148 (rwd k0_pay134 v1 y0 y1 z x16 x17 x18 x19) (rwd k0_pay139 v1 y0 y1 z x16 x17 x18 x19) (rwd k0_pay142 v1 y0 y1 z x16 x17 x18 x19) (Scalar.ofBits .f32 0xFF800000#32), k0_pay149 (rwd k0_pay134 v1 y0 y1 z x16 x17 x18 x19) (rwd k0_pay137 v1 y0 y1 z x16 x17 x18 x19) (rwd k0_pay139 v1 y0 y1 z x16 x17 x18 x19) (rwd k0_pay140 v1 y0 y1 z x16 x17 x18 x19) (rwd k0_pay142 v1 y0 y1 z x16 x17 x18 x19) (Scalar.ofBits .f32 0xFF800000#32), k0_pay150 (iota .tc S32x512 32 [0] iota_S32x512_d0_w32) (rwd k0_pay135 v1 y0 y1 z x16 x17 x18 x19) (rwd k0_pay138 v1 y0 y1 z x16 x17 x18 x19) (rwd k0_pay139 v1 y0 y1 z x16 x17 x18 x19) (rwd k0_pay141 v1 y0 y1 z x16 x17 x18 x19) (rwd k0_pay142 v1 y0 y1 z x16 x17 x18 x19) (Scalar.ofBits .f32 0xFF800000#32)⟩)
          -∗ wp frame (wpE (defs₀ (F := F)) Variants.none c none) Set.univ (ph4.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v1 y0 y1) Q) := by
  unfold owns
  iintro ⟨⟨%f18, %hf18, H18⟩, ⟨%f19, %hf19, H19⟩, ⟨%f20, %hf20, H20⟩, ⟨%f21, %hf21, H21⟩, ⟨%f23, %hf23, H23⟩, ⟨%f25, %hf25, H25⟩, ⟨%d22, %f22, -, H22⟩⟩ Hκ
  obtain rfl := harg18.eq_unread hf18; obtain rfl := harg19.eq_unread hf19; obtain rfl := harg20.eq_unread hf20; obtain rfl := harg21.eq_unread hf21; obtain rfl := harg23.eq_unread hf23; obtain rfl := harg25.eq_unread hf25
  unfold ph4.tail
  simp only [k0_part27_eq_skeleton, k0_part28_eq_skeleton]
  sl_exec
  delta ph5_spec.sl.r ph5_spec.sl.r_1 ph5_spec.sl.r_2 ph5_spec.sl.r_3 ph5_spec.sl.r_4 ph5_spec.sl.r_5 ph5_spec.sl.r_6 ph5_spec.sl.r_7 ph5_spec.sl.r_8 ph5_spec.sl.r_9 ph5_spec.sl.r_10 ph5_spec.sl.r_11 ph5_spec.sl.r_12 ph5_spec.sl.cst_515 ph5_spec.sl.cst_529 ph5_spec.sl.v1038
  unfold rwd za zb wv rnv rw0 rw1 rbv
  simp only [rd, wp_ret]
  imodintro
  iapply Hκ
  isplitl [H18]
  · iexists _; isplitr; swap; iexact H18; ipureintro; exact harg18.read_unread _
  isplitl [H19]
  · iexists _; isplitr; swap; iexact H19; ipureintro; exact harg19.read_unread _
  isplitl [H20]
  · iexists _; isplitr; swap; iexact H20; ipureintro; exact harg20.read_unread _
  isplitl [H21]
  · iexists _; isplitr; swap; iexact H21; ipureintro; exact harg21.read_unread _
  isplitl [H23]
  · iexists _; isplitr; swap; iexact H23; ipureintro; exact harg23.read_unread _
  isplitl [H25]
  · iexists _; isplitr; swap; iexact H25; ipureintro; exact harg25.read_unread _
  iexists _; isplitr; swap; iexact H22; ipureintro; exact (View.read_writes_eq_canon _ _ _ (View.cover_of_tiled _ ![1, 512, 1024] rfl)).trans ((View.canon_unit_zero (by decide) _ _).trans rfl)

end Cert.KernelIdeal.Run

end
-- ==== Proof.Body.lean ====
module

public import proofs.«01_k».proof.Proof.Gen.KernelIdeal.Frame.Runs
public import proofs.«01_k».proof.Proof.Phase1
public import proofs.«01_k».proof.Proof.Phase2
public import proofs.«01_k».proof.Proof.Phase3
public import proofs.«01_k».proof.Proof.Phase4
public import proofs.«01_k».proof.Proof.Phase5
public import Idealize.ShloMosaic.Lib.Tactic.Stretches
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S1x512x1024 .f32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S512x384 .f32) (harg5 : arg5.IsWhole) (arg6 : Memref sig .tc .vmem S128x384 .f32) (harg6 : arg6.IsWhole) (arg7 : Memref sig .tc .vmem S128x384 .f32) (harg7 : arg7.IsWhole) (arg8 : Memref sig .tc .vmem S1x1024 .f32) (harg8 : arg8.IsWhole) (arg9 : Memref sig .tc .vmem S1024x3840 .bf16) (harg9 : arg9.IsWhole) (arg10 : Memref sig .tc .vmem S1x512 .f32) (harg10 : arg10.IsWhole) (arg11 : Memref sig .tc .vmem S1x128 .f32) (harg11 : arg11.IsWhole) (arg12 : Memref sig .tc .vmem S2x512x1 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S128x1024 .bf16) (harg15 : arg15.IsWhole) (arg16 : Memref sig .tc .vmem S128x512 .f32) (harg16 : arg16.IsWhole) (arg17 : Memref sig .tc .vmem S2x512x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S2x1024x128 .bf16) (harg20 : arg20.IsWhole) (arg21 : Memref sig .tc .vmem S1x128 .f32) (harg21 : arg21.IsWhole) (arg22 : Memref sig .tc .vmem S1x512x1024 .f32) (harg22 : arg22.IsWhole) (arg23 : Memref sig .tc .vmem S1x8x512 .i32) (harg23 : arg23.IsWhole) (arg24 : Memref sig .tc .vmem S1x512x128 .f32) (harg24 : arg24.IsWhole) (arg25 : Memref sig .tc .vmem S512x3840 .f32) (harg25 : arg25.IsWhole) (arg26 : Memref sig .tc .vmem S512x512 .bf16) (harg26 : arg26.IsWhole) (arg27 : Memref sig .tc .vmem S768x128 .bf16) (harg27 : arg27.IsWhole) (arg28 : Memref sig .tc .vmem S768x128 .bf16) (harg28 : arg28.IsWhole) (arg29 : Memref sig .tc .vmem S512x512 .bf16) (harg29 : arg29.IsWhole) (arg30 : Memref sig .tc .vmem S512x512 .bf16) (harg30 : arg30.IsWhole)

variable (x0 : Vec F S1x512x1024 .f32) (x1 : Vec F S1x128x1024 .f32) (x2 : Vec F S1x128x1024 .f32) (x3 : Vec F S512x384 .f32) (x4 : Vec F S128x384 .f32) (x5 : Vec F S128x384 .f32) (x6 : Vec F S1x1024 .f32) (x7 : Vec F S1024x3840 .bf16) (x8 : Vec F S1x512 .f32) (x9 : Vec F S1x128 .f32) (x10 : Vec F S2x512x1 .f32) (x11 : Vec F S1x512 .f32) (x12 : Vec F S512x512 .bf16) (x13 : Vec F S128x1024 .bf16) (x14 : Vec F S128x512 .f32) (x15 : Vec F S2x512x1024 .bf16) (x16 : Vec F S1024x1024 .bf16) (x17 : Vec F S1x1024 .f32) (x18 : Vec F S2x1024x128 .bf16) (x19 : Vec F S1x128 .f32)

set_option maxHeartbeats 600000 in
/-- The last two stores. -/
theorem last_spec {v1084 v1086 v1088 v1090 v1093 : FVec F S1x512 .f32} {v1095 : IVec S8x512 32} {w : Vec F S1x8x512 .i32} {K : PUnit → sProp 𝕄} :
    iprop(owns (c : Thread nD τ) arg23 fullShare w ∗ (∃ d, owns (c : Thread nD τ) arg24 fullShare d))
      ⊢ iprop((iprop(owns (c : Thread nD τ) arg23 fullShare (k0_pay1 v1095) ∗ owns (c : Thread nD τ) arg24 fullShare (k0_pay2 v1084 v1086 v1088 v1090 v1093)) -∗ K ⟨⟩) -∗ wp frame (wpE (defs₀ (F := F)) Variants.none c none) Set.univ (do
      Prog.lift (.store arg23 (Rect.unit (s := S1x8x512) ![0, 0, 0] S1x8x512.size inb_S1x8x512_S1x8x512_0_0_0) (k0_pay1 v1095) Finset.univ (View.stores_vmem_bits_univ h_S1x8x512 rfl) (.inl rfl))
      let v1108 : Vec F S1x512x128 .f32 ← Prog.lift (.load arg24 (Rect.unit (s := S1x512x128) ![0, 0, 0] S1x512x128.size inb_S1x512x128_S1x512x128_0_0_0).toLoadRect (View.loadsAt_vmem h_S1x512x128))
      Prog.lift (.store arg24 (Rect.unit (s := S1x512x128) ![0, 0, 0] S1x512x128.size inb_S1x512x128_S1x512x128_0_0_0) (k0_pay2 v1084 v1086 v1088 v1090 v1093) Finset.univ (View.stores_vmem_bits_univ h_S1x512x128 rfl) (.inl rfl))
      pure ⟨⟩) K) := by
  unfold owns
  iintro ⟨⟨%f23, -, H23⟩, ⟨%d24, %f24, -, H24⟩⟩ HK
  sl_exec
  simp only [wp_ret]
  imodintro
  iapply HK
  isplitl [H23]
  · iexists _; isplitr; swap; iexact H23; ipureintro; exact (View.read_writes_eq_canon _ _ _ (View.cover_of_tiled _ ![1, 8, 512] rfl)).trans (View.canon_unit_zero hz3 _ _)
  iexists _; isplitr; swap; iexact H24; ipureintro; exact (View.read_writes_eq_canon _ _ _ (View.cover_of_tiled _ ![1, 512, 128] rfl)).trans (View.canon_unit_zero hz3 _ _)

set_option maxHeartbeats 1000000 in
/-- The whole body: from the blocks read, and whatever the others hold, the three results' blocks. -/
theorem body_spec {K : PUnit → sProp 𝕄} :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d))
      ⊢ iprop((iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare (h1v (BitVec.ofNat 32 (i 1).val) x0 x1 x2 x3 x4 x5 x6 x7 x8 x9 x10 x11 x12 x13 x14 x15 x16) ∗ owns (c : Thread nD τ) arg23 fullShare (e1v (BitVec.ofNat 32 (i 1).val) x0 x1 x2 x3 x4 x5 x6 x7 x8 x9 x10 x11 x12 x13 x14 x15 x16 x17 x18 x19) ∗ owns (c : Thread nD τ) arg24 fullShare (g1v (BitVec.ofNat 32 (i 1).val) x0 x1 x2 x3 x4 x5 x6 x7 x8 x9 x10 x11 x12 x13 x14 x15 x16 x17 x18 x19) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩) -∗ wp frame (wpE (defs₀ (F := F)) Variants.none c none) Set.univ (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K) := by
  rw [cc0_mixer_eq_skeleton]
  unfold cc0_mixer_skel
  rw [wp_bind, ph1.eq]
  iintro ⟨H2, H3, H4, H5, H6, H7, H8, H9, H10, H11, H12, H13, H14, H15, H16, H17, H18, H19, H20, H21, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩ HK
  iapply (BIClass.wand_elim (ph1_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x3 x6 x7 x12))
  isplitl [H2 H5 H8 H9 H14 H25]
  · isplitl [H2]; · iexact H2
    isplitl [H5]; · iexact H5
    isplitl [H8]; · iexact H8
    isplitl [H9]; · iexact H9
    isplitl [H14]; · iexact H14
    iexists _; iexact H25
  iintro ⟨H2, H5, H8, H9, H14, H25⟩
  simp only [ph2.eq]
  iapply (BIClass.wand_elim (ph2_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x2 x4 x5 x6 x7 x8 x9))
  isplitl [H3 H4 H6 H7 H8 H9 H10 H11 H25 H26 H27 H28]
  · isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H25]; · iexact H25
    isplitl [H26]; · iexists _; iexact H26
    isplitl [H27]; · iexists _; iexact H27
    iexists _; iexact H28
  iintro ⟨H3, H4, H6, H7, H8, H9, H10, H11, H25, H26, H27, H28⟩
  simp only [ph3.eq]
  iapply (BIClass.wand_elim (ph3_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x10))
  isplitl [H12 H26 H27 H28 H29]
  · isplitl [H12]; · iexact H12
    isplitl [H26]; · iexact H26
    isplitl [H27]; · iexact H27
    isplitl [H28]; · iexact H28
    iexists _; iexact H29
  iintro ⟨H12, H26, H27, H28, H29⟩
  simp only [ph4.eq]
  iapply (BIClass.wand_elim (ph4_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x11 x13 x14 x15))
  isplitl [H13 H15 H16 H17 H25 H29 H30]
  · isplitl [H13]; · iexact H13
    isplitl [H15]; · iexact H15
    isplitl [H16]; · iexact H16
    isplitl [H17]; · iexact H17
    isplitl [H25]; · iexact H25
    isplitl [H29]; · iexact H29
    iexists _; iexact H30
  iintro ⟨H13, H15, H16, H17, H25, H29, H30⟩
  iapply (BIClass.wand_elim (ph5_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x16 x17 x18 x19))
  isplitl [H18 H19 H20 H21 H23 H25 H22]
  · isplitl [H18]; · iexact H18
    isplitl [H19]; · iexact H19
    isplitl [H20]; · iexact H20
    isplitl [H21]; · iexact H21
    isplitl [H23]; · iexact H23
    isplitl [H25]; · iexact H25
    iexists _; iexact H22
  iintro ⟨H18, H19, H20, H21, H23, H25, H22⟩
  iapply (BIClass.wand_elim (last_spec c arg23 arg24))
  isplitl [H23 H24]
  · isplitl [H23]; · iexact H23
    iexists _; iexact H24
  iintro ⟨H23, H24⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  iexists _; iexact H30

end Cert.KernelIdeal.Run

end
-- ==== Proof.Frame.lean ====
module

public import proofs.«01_k».proof.Proof.Gen.KernelIdeal.Frame.Runs
public import proofs.«01_k».proof.Proof.Body
public import Idealize.ShloMosaic.Lib.Tactic.Stretches
public import Idealize.ShloMosaic.Lib.WholeRead
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-! ## The launch: what each window holds at each point, and the run -/

/-- The three results' blocks at point `t`. -/
def o20 (c : Dev nD) (t : Fin cfg0.N) : Vec F S1x512x1024 .f32 := h1v (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
def o21 (c : Dev nD) (t : Fin cfg0.N) : Vec F S1x8x512 .i32 := e1v (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
def o22 (c : Dev nD) (t : Fin cfg0.N) : Vec F S1x512x128 .f32 := g1v (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => o20 m c t
    | ⟨21, _⟩ => o21 m c t
    | ⟨22, _⟩ => o22 m c t
    | ⟨_ + 23, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = o20 m c t := by dsimp only [dats]
theorem after0_21 (c : Dev nD) (t : Fin cfg0.N) : (dats m 0 c).after 21 t = o21 m c t := by dsimp only [dats]
theorem after0_22 (c : Dev nD) (t : Fin cfg0.N) : (dats m 0 c).after 22 t = o22 m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d
theorem before0_14 (c : Dev nD) (t : Fin cfg0.N) (d) : (dats m 0 c).before 14 t d = iblk m c 14 t := before0_14_of m (dats m 0 c) (A_eq m c 14) (after0_14 m c) t d
theorem before0_15 (c : Dev nD) (t : Fin cfg0.N) (d) : (dats m 0 c).before 15 t d = iblk m c 15 t := before0_15_of m (dats m 0 c) (A_eq m c 15) (after0_15 m c) t d
theorem before0_16 (c : Dev nD) (t : Fin cfg0.N) (d) : (dats m 0 c).before 16 t d = iblk m c 16 t := before0_16_of m (dats m 0 c) (A_eq m c 16) (after0_16 m c) t d
theorem before0_17 (c : Dev nD) (t : Fin cfg0.N) (d) : (dats m 0 c).before 17 t d = iblk m c 17 t := before0_17_of m (dats m 0 c) (A_eq m c 17) (after0_17 m c) t d
theorem before0_18 (c : Dev nD) (t : Fin cfg0.N) (d) : (dats m 0 c).before 18 t d = iblk m c 18 t := before0_18_of m (dats m 0 c) (A_eq m c 18) (after0_18 m c) t d
theorem before0_19 (c : Dev nD) (t : Fin cfg0.N) (d) : (dats m 0 c).before 19 t d = iblk m c 19 t := before0_19_of m (dats m 0 c) (A_eq m c 19) (after0_19 m c) t d

/-- What the body is called with at a point, and what it returns. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)))
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗ owns (c : Thread nD τ) (ms0_20 t) fullShare ((dats m 0 c).after 20 t) ∗ owns (c : Thread nD τ) (ms0_21 t) fullShare ((dats m 0 c).after 21 t) ∗ owns (c : Thread nD τ) (ms0_22 t) fullShare ((dats m 0 c).after 22 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (BIClass.wand_elim (body_spec c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)))
  isplitl [H0 H1 H2 H3 H4 H5 H6 H7 H8 H9 H10 H11 H12 H13 H14 H15 H16 H17 H18 H19 H20 H21 H22 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iintro ⟨H0, H1, H2, H3, H4, H5, H6, H7, H8, H9, H10, H11, H12, H13, H14, H15, H16, H17, H18, H19, H20, H21, H22, ⟨%t0, HS0⟩, ⟨%t1, HS1⟩, ⟨%t2, HS2⟩, ⟨%t3, HS3⟩, ⟨%t4, HS4⟩, ⟨%t5, HS5⟩⟩
  isplitl [HS0 HS1 HS2 HS3 HS4 HS5 Hg]
  · isplitl [HS0 HS1 HS2 HS3 HS4 HS5]
    · isplitl [HS0]; · iexists _; iexact HS0
      isplitl [HS1]; · iexists _; iexact HS1
      isplitl [HS2]; · iexists _; iexact HS2
      isplitl [HS3]; · iexists _; iexact HS3
      isplitl [HS4]; · iexists _; iexact HS4
      iexists _; iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Frames.lean ====
module

public import proofs.«01_k».proof.Defs
public import proofs.«01_k».proof.Proof.KFrame
public import proofs.«01_k».proof.Proof.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-! ## The claims that name no value: the frames, and that the idealization offers no rewrite -/

theorem frame_Kernel : Cert.quiescent_Kernel := fun m g _ => Cert.Kernel.Run.frame m g
theorem frame_KernelIdeal : Cert.quiescent_KernelIdeal := fun m g _ => Cert.KernelIdeal.Run.frame m g
theorem frame_ReferenceIdeal : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)
theorem same : Cert.preserves_Kernel_KernelIdeal := trivial

end Cert.Proof

end
-- ==== Proof.Spec.lean ====
/- The mixer's first result written once, over extended reals and plain coordinates: root-mean-square norms, the
   partial rotary embedding, the windowed attention with sinks, the chunked spatial gating, the gated merge and the
   residual. Both programs are brought to these functions. -/
module

public import Idealize.ShloMosaic.PureOps.Ideal
public import Idealize.ShloMosaic.Lib.Pointwise
public import Idealize.ShloMosaic.Lib.IdealHost

@[expose] public section

noncomputable section

namespace Cert.Mix

open Idealize.ShloMosaic

/-- `1e-6` as the programs hold it. -/
abbrev eps : EReal := Ideal.ofBits .f32 0x358637BD#32
/-- 1024, the width of a row. -/
abbrev c1024 : EReal := Ideal.ofBits .f32 0x44800000#32
/-- 64, the width of a head. -/
abbrev c64 : EReal := Ideal.ofBits .f32 0x42800000#32
/-- One half. -/
abbrev half : EReal := Ideal.ofBits .f32 0x3F000000#32
/-- The square root of one half as the programs hold it. -/
abbrev rt : EReal := Ideal.ofBits .f32 0x3F3504F3#32
/-- One eighth, the scores' scale and the rotary exponents' step. -/
abbrev eighth : EReal := Ideal.ofBits .f32 0x3E000000#32
/-- The rotary base. -/
abbrev theta : EReal := Ideal.ofBits .f32 0x48F42400#32

/-- The argument arrays, read at plain coordinates. -/
structure Args where
  /-- the tokens -/
  X : Fin 8 → Fin 4096 → Fin 1024 → EReal
  /-- the first norm's gain -/
  nm : Fin 1024 → EReal
  /-- the input projection -/
  W : Fin 1024 → Fin 3840 → EReal
  /-- the query gain -/
  qg : Fin 64 → EReal
  /-- the key gain -/
  kg : Fin 64 → EReal
  /-- the sinks -/
  sk : Fin 8 → EReal
  /-- the gating gain -/
  vg : Fin 8 → Fin 64 → EReal
  /-- the gating weights -/
  ws : Fin 8 → Fin 128 → Fin 128 → EReal
  /-- the gating bias -/
  bs : Fin 8 → Fin 128 → EReal
  /-- the branch projections -/
  wb : Fin 2 → Fin 512 → Fin 1024 → EReal
  /-- the output projection -/
  wo : Fin 1024 → Fin 1024 → EReal

/-- A row scaled by the reciprocal root of its mean square, times a gain. -/
def rmsN {n : ℕ} (c : EReal) (v g : Fin n → EReal) (d : Fin n) : EReal :=
  v d * Ideal.rsqrt (Ideal.div (∑ k, v k * v k) c + eps) * g d

/-- The rotary angle of a position at frequency `f`. -/
def ang (s : ℕ) (f : ℕ) : EReal :=
  ((s : ℝ) : EReal) * Ideal.pow theta (-((f : ℝ) : EReal) * eighth)

/-- The rotary embedding of the first sixteen lanes of a head. -/
def rope (s : ℕ) (y : Fin 64 → EReal) (d : Fin 64) : EReal :=
  if h : d.val < 8 then
    y d * Ideal.cos (ang s d.val) - y ⟨d.val + 8, by omega⟩ * Ideal.sin (ang s d.val)
  else if d.val < 16 then
    y d * Ideal.cos (ang s (d.val - 8)) + y ⟨d.val - 8, by omega⟩ * Ideal.sin (ang s (d.val - 8))
  else y d

/-- The exact Gaussian error unit. -/
def gelu (x : EReal) : EReal := half * x * Ideal.erfc (-x * rt)

/-- One over one plus the exponential of the negative. -/
def sigm (x : EReal) : EReal := Ideal.div 1 (1 + Ideal.exp (-x))

/-- Which keys of the window of three blocks a query row sees. -/
def valid (n : Fin 32) (r : Fin 128) (κ : Fin 384) : Prop :=
  (r.val ≤ κ.val ∧ κ.val ≤ r.val + 256) ∧ 128 ≤ 128 * n.val + κ.val ∧ 128 * n.val + κ.val < 4224

instance (n : Fin 32) (r : Fin 128) (κ : Fin 384) : Decidable (valid n r κ) := by unfold valid; infer_instance

/-- A score row's running maximum with the sink. -/
def rowMax (sc : Fin 384 → EReal) (sk : EReal) : EReal := max (Finset.univ.fold max ⊥ sc) sk

/-- A score row's normalizer. -/
def rowDen (sc : Fin 384 → EReal) (sk : EReal) : EReal :=
  ∑ κ, Ideal.exp (sc κ - rowMax sc sk) + Ideal.exp (sk - rowMax sc sk)

/-- The attention of one query row, dividing before the product with the values. -/
def attnRow (sc : Fin 384 → EReal) (sk : EReal) (v : Fin 384 → EReal) : EReal :=
  ∑ κ, v κ * Ideal.div (Ideal.exp (sc κ - rowMax sc sk)) (rowDen sc sk)

/-- The same, dividing once at the end. -/
def attnRowK (sc : Fin 384 → EReal) (sk : EReal) (v : Fin 384 → EReal) : EReal :=
  Ideal.div (∑ κ, Ideal.exp (sc κ - rowMax sc sk) * v κ) (rowDen sc sk)

namespace Args

variable (A : Args)

/-- The input projection of the normed tokens. -/
def z (b : Fin 8) (s : Fin 4096) (n : Fin 3840) : EReal :=
  ∑ k, rmsN c1024 (A.X b s) A.nm k * A.W k n

/-- The rotated queries. -/
def q (b : Fin 8) (s : Fin 4096) (h : Fin 8) : Fin 64 → EReal :=
  rope s.val (rmsN c64 (fun d => A.z b s ⟨64 * h.val + d.val, by omega⟩) A.qg)

/-- The rotated keys. -/
def k (b : Fin 8) (s : Fin 4096) (j : Fin 2) : Fin 64 → EReal :=
  rope s.val (rmsN c64 (fun d => A.z b s ⟨512 + 64 * j.val + d.val, by omega⟩) A.kg)

/-- The values. -/
def v (b : Fin 8) (s : Fin 4096) (j : Fin 2) (d : Fin 64) : EReal :=
  A.z b s ⟨640 + 64 * j.val + d.val, by omega⟩

/-- The window's keys: three blocks around block `n`, zero off the sequence. -/
def kw (b : Fin 8) (n : Fin 32) (κ : Fin 384) (j : Fin 2) (d : Fin 64) : EReal :=
  if h : 128 ≤ 128 * n.val + κ.val ∧ 128 * n.val + κ.val < 4224 then
    A.k b ⟨128 * n.val + κ.val - 128, by omega⟩ j d else 0

/-- The window's values. -/
def vw (b : Fin 8) (n : Fin 32) (κ : Fin 384) (j : Fin 2) (d : Fin 64) : EReal :=
  if h : 128 ≤ 128 * n.val + κ.val ∧ 128 * n.val + κ.val < 4224 then
    A.v b ⟨128 * n.val + κ.val - 128, by omega⟩ j d else 0

/-- The masked scores of query row `r` of block `n`, head `h`. -/
def sc (b : Fin 8) (n : Fin 32) (r : Fin 128) (h : Fin 8) (κ : Fin 384) : EReal :=
  if valid n r κ then
    (∑ d, A.kw b n κ ⟨h.val / 4, by omega⟩ d * A.q b ⟨128 * n.val + r.val, by omega⟩ h d) * eighth
  else ⊥

/-- The attention branch. -/
def att (b : Fin 8) (n : Fin 32) (r : Fin 128) (h : Fin 8) (d : Fin 64) : EReal :=
  attnRow (A.sc b n r h) (A.sk h) (fun κ => A.vw b n κ ⟨h.val / 4, by omega⟩ d)

/-- The normed gating values. -/
def vn (b : Fin 8) (s : Fin 4096) (g : Fin 8) : Fin 64 → EReal :=
  rmsN c64 (fun d => gelu (A.z b s ⟨1280 + 64 * g.val + d.val, by omega⟩)) (A.vg g)

/-- The spatially mixed values. -/
def mix (b : Fin 8) (n : Fin 32) (p : Fin 128) (g : Fin 8) (d : Fin 64) : EReal :=
  (∑ q, A.vn b ⟨128 * n.val + q.val, by omega⟩ g d * A.ws g p q) + A.bs g p

/-- The gating branch. -/
def gm (b : Fin 8) (n : Fin 32) (p : Fin 128) (g : Fin 8) (d : Fin 64) : EReal :=
  gelu (A.z b ⟨128 * n.val + p.val, by omega⟩ ⟨768 + 64 * g.val + d.val, by omega⟩) * A.mix b n p g d

/-- A branch at a token and a channel. -/
def br (b : Fin 8) (s : Fin 4096) (j : Fin 2) (c : Fin 512) : EReal :=
  if j.val = 0 then A.att b ⟨s.val / 128, by omega⟩ ⟨s.val % 128, by omega⟩ ⟨c.val / 64, by omega⟩ ⟨c.val % 64, by omega⟩
  else A.gm b ⟨s.val / 128, by omega⟩ ⟨s.val % 128, by omega⟩ ⟨c.val / 64, by omega⟩ ⟨c.val % 64, by omega⟩

/-- The gated merge of the two branches. -/
def mrg (b : Fin 8) (s : Fin 4096) (e : Fin 1024) : EReal :=
  ∑ j : Fin 2, sigm (A.z b s ⟨1792 + 1024 * j.val + e.val, by omega⟩) * ∑ c, A.wb j c e * A.br b s j c

/-- The mixer's first result. -/
def h1 (b : Fin 8) (s : Fin 4096) (d : Fin 1024) : EReal :=
  A.X b s d + ∑ e, A.mrg b s e * A.wo e d

end Args

end Cert.Mix

end
-- ==== Proof.Mth.lean ====
/- The algebra over extended reals the two programs differ by: the averaging matrix, the rotation by shifts, the division moved past the sum, and what stays finite. -/
module

public import proofs.«01_k».proof.Proof.Spec

@[expose] public section

set_option maxRecDepth 16384

noncomputable section

namespace Cert.Mix

open Idealize.ShloMosaic Idealize.ShloMosaic.TcCoe Idealize.SL.Sem

/-! ## Constants -/

theorem c64_eq : c64 = ((64 : ℝ) : EReal) := by
  simp [c64, Ideal.ofBits, Ideal.ieee, -EReal.coe_mul]
  norm_num
theorem c1024_eq : c1024 = ((1024 : ℝ) : EReal) := by
  simp [c1024, Ideal.ofBits, Ideal.ieee, -EReal.coe_mul]
  norm_num
theorem r64_eq : Ideal.ofBits .f32 0x3C800000#32 = ((1 / 64 : ℝ) : EReal) := by
  simp [Ideal.ofBits, Ideal.ieee, -EReal.coe_mul]
  norm_num
theorem eighth_eq : eighth = ((1 / 8 : ℝ) : EReal) := by
  simp [eighth, Ideal.ofBits, Ideal.ieee, -EReal.coe_mul]
  norm_num
theorem ninf_eq : Ideal.ofBits .f32 0xFF800000#32 = ⊥ := by
  simp [Ideal.ofBits, Ideal.ieee]
theorem eps_pos : ∃ e : ℝ, 0 < e ∧ eps = (e : EReal) := by
  refine ⟨8796093 * 2 ^ (-43 : ℤ), by positivity, ?_⟩
  simp [eps, Ideal.ofBits, Ideal.ieee, -EReal.coe_mul]
theorem theta_real : ∃ e : ℝ, theta = (e : EReal) := by
  exact ⟨_, rfl⟩

/-! ## Sums -/

/-- A real factor that is not negative leaves a sum. -/
theorem sum_mul {ι : Type*} (s : Finset ι) (f : ι → EReal) {r : EReal} (h0 : 0 ≤ r) (h1 : r ≠ ⊤) : ∑ i ∈ s, f i * r = (∑ i ∈ s, f i) * r := by
  classical
  induction s using Finset.induction_on with
  | empty => simp
  | insert a s ha ih =>
    rw [Finset.sum_insert ha, Finset.sum_insert ha, ih, EReal.right_distrib_of_nonneg_of_ne_top h0 h1]

/-- A sum of reals is real. -/
theorem sum_real {ι : Type*} (s : Finset ι) (f : ι → EReal) (h : ∀ i, ∃ r : ℝ, f i = (r : EReal)) : ∃ r : ℝ, ∑ i ∈ s, f i = (r : EReal) := by
  choose g hg using h
  refine ⟨∑ i ∈ s, g i, ?_⟩
  simp only [hg]
  induction s using Finset.cons_induction with
  | empty => simp
  | cons a s ha ih => rw [Finset.sum_cons, Finset.sum_cons, ih, EReal.coe_add]

/-- The averaging matrix's product is the mean over a head's 64 lanes. -/
theorem sum_heads (H : ℕ) (f : Fin (H * 64) → EReal) (c : Fin (H * 64)) :
    ∑ x, f x * (if x.val / 64 = c.val / 64 then ((1 / 64 : ℝ) : EReal) else 0)
      = Ideal.div (∑ e : Fin 64, f ⟨64 * (c.val / 64) + e.val, by omega⟩) c64 := by
  have hc : c.val / 64 < H := by omega
  rw [c64_eq, Ideal.div_coe (by norm_num), ← sum_mul _ _ (by rw [EReal.coe_nonneg]; norm_num) (EReal.coe_ne_top _),
    Fin.sum_univ_tiles H 64 rfl, Finset.sum_eq_single (⟨c.val / 64, hc⟩ : Fin H)]
  · refine Finset.sum_congr rfl fun e _ => ?_
    have he := e.isLt
    rw [if_pos (by show (c.val / 64 * 64 + e.val) / 64 = _; omega)]
    refine congrArg (· * _) (congrArg f (Fin.ext ?_))
    show c.val / 64 * 64 + e.val = 64 * (c.val / 64) + e.val
    omega
  · intro j _ hj
    refine Finset.sum_eq_zero fun e _ => ?_
    have he := e.isLt
    rw [if_neg, mul_zero]
    intro h
    refine hj (Fin.ext ?_)
    have h' : (j.val * 64 + e.val) / 64 = c.val / 64 := h
    show j.val = c.val / 64
    omega
  · intro h; exact absurd (Finset.mem_univ _) h

/-- A head's norm, computed through the averaging matrix. -/
theorem head_norm (H : ℕ) (Z g : Fin (H * 64) → EReal) (G : Fin 64 → EReal) (bd : Fin (H * 64) → Fin (H * 64) → EReal)
    (hb : ∀ x c, bd x c = if x.val / 64 = c.val / 64 then ((1 / 64 : ℝ) : EReal) else 0)
    (h : Fin H) (hg : ∀ d : Fin 64, g ⟨64 * h.val + d.val, by omega⟩ = G d) (d : Fin 64) (c : Fin (H * 64)) (hc : c.val = 64 * h.val + d.val) :
    Z c * Ideal.rsqrt (∑ x, Z x * Z x * bd x c + eps) * g c
      = rmsN c64 (fun e => Z ⟨64 * h.val + e.val, by omega⟩) G d := by
  have hd := d.isLt
  have e : c.val / 64 = h.val := by omega
  have ec : c = ⟨64 * h.val + d.val, by omega⟩ := Fin.ext hc
  unfold rmsN
  simp only [hb]
  rw [sum_heads H (fun x => Z x * Z x)]
  simp only [e]
  rw [← hg d, ← ec]

/-! ## The rotation -/

/-- The three columns the rotation multiplies by. -/
def csS (s : ℕ) (m : ℕ) : EReal := if m < 8 then Ideal.cos (ang s m) else if m < 16 then Ideal.cos (ang s (m - 8)) else 1
def loS (s : ℕ) (m : ℕ) : EReal := if m < 8 then -Ideal.sin (ang s m) else 0
def hiS (s : ℕ) (m : ℕ) : EReal := if m < 8 then 0 else if m < 16 then Ideal.sin (ang s (m - 8)) else 0

/-- The rotation by shifted lanes is the rotary embedding. -/
theorem rot_eq (s : ℕ) (Y : Fin 64 → EReal) (d : Fin 64) (p q : EReal) (hp : ∀ h : d.val < 8, p = Y ⟨d.val + 8, by omega⟩)
    (hq : ∀ h : 8 ≤ d.val, d.val < 16 → q = Y ⟨d.val - 8, by omega⟩) :
    Y d * csS s d.val + p * loS s d.val + q * hiS s d.val = rope s Y d := by
  unfold rope csS loS hiS
  by_cases h1 : d.val < 8
  · simp only [h1, if_true, dif_pos, hp h1, mul_zero, add_zero, mul_neg, sub_eq_add_neg]
  · by_cases h2 : d.val < 16
    · simp only [h1, h2, if_true, if_false, dif_neg, not_false_iff, hq (by omega) h2, mul_zero, add_zero]
    · simp only [h1, h2, if_false, dif_neg, not_false_iff, mul_zero, add_zero, mul_one]

/-! ## What stays finite -/

theorem mul_real {a b : EReal} (ha : ∃ r : ℝ, a = r) (hb : ∃ r : ℝ, b = r) : ∃ r : ℝ, a * b = (r : EReal) := by
  obtain ⟨x, rfl⟩ := ha; obtain ⟨y, rfl⟩ := hb; exact ⟨x * y, by rw [EReal.coe_mul]⟩
theorem add_real {a b : EReal} (ha : ∃ r : ℝ, a = r) (hb : ∃ r : ℝ, b = r) : ∃ r : ℝ, a + b = (r : EReal) := by
  obtain ⟨x, rfl⟩ := ha; obtain ⟨y, rfl⟩ := hb; exact ⟨x + y, by rw [EReal.coe_add]⟩
theorem sub_real {a b : EReal} (ha : ∃ r : ℝ, a = r) (hb : ∃ r : ℝ, b = r) : ∃ r : ℝ, a - b = (r : EReal) := by
  obtain ⟨x, rfl⟩ := ha; obtain ⟨y, rfl⟩ := hb; exact ⟨x - y, by rw [EReal.coe_sub]⟩

theorem sq_nonneg (a : EReal) : 0 ≤ a * a := by
  induction a using EReal.rec with
  | bot => exact le_top
  | top => exact le_top
  | coe r => rw [← EReal.coe_mul, EReal.coe_nonneg]; exact mul_self_nonneg r

/-- A normed row is real: an entry that is not leaves an infinite mean square, whose reciprocal root is zero. -/
theorem rms_real (v g : Fin 64 → EReal) (hg : ∀ d, ∃ r : ℝ, g d = r) (d : Fin 64) : ∃ r : ℝ, rmsN c64 v g d = (r : EReal) := by
  unfold rmsN
  refine mul_real ?_ (hg d)
  obtain ⟨e, he, hE⟩ := eps_pos
  by_cases hv : ∀ k, ∃ r : ℝ, v k = r
  · choose w hw using hv
    have hs : ∑ k, v k * v k = ((∑ k, w k * w k : ℝ) : EReal) := by
      simp only [hw, ← EReal.coe_mul]
      exact (map_sum (⟨⟨Real.toEReal, EReal.coe_zero⟩, EReal.coe_add⟩ : ℝ →+ EReal) _ _).symm
    have hp : (0 : ℝ) ≤ ∑ k, w k * w k := Finset.sum_nonneg fun k _ => mul_self_nonneg _
    rw [hs, c64_eq, Ideal.div_coe (by norm_num), ← EReal.coe_mul, hE, ← EReal.coe_add, hw d]
    have hq : 0 < (∑ k, w k * w k) * (1 / 64) + e := by positivity
    refine mul_real ⟨_, rfl⟩ ?_
    refine ⟨(Real.sqrt ((∑ k, w k * w k) * (1 / 64) + e))⁻¹, ?_⟩
    show (if _ then _ else _) = _
    rw [if_neg (not_lt.2 hq.le), if_neg hq.ne']
  · push Not at hv
    obtain ⟨k, hk⟩ := hv
    have ht : v k * v k = ⊤ := by
      induction h : v k using EReal.rec with
      | bot => rfl
      | top => rfl
      | coe r => exact absurd h (hk r)
    have hs : ∑ k, v k * v k = ⊤ := by
      refine top_le_iff.1 (ht ▸ Finset.single_le_sum (f := fun k => v k * v k) (fun i _ => sq_nonneg _) (Finset.mem_univ k))
    have : Ideal.rsqrt (Ideal.div (∑ k, v k * v k) c64 + eps) = 0 := by
      rw [hs, c64_eq, Ideal.div_coe (by norm_num), EReal.top_mul_coe_of_pos (by norm_num), hE, EReal.top_add_coe]
      rfl
    rw [this, mul_zero]
    exact ⟨0, rfl⟩

theorem ang_real (s f : ℕ) : ∃ r : ℝ, ang s f = (r : EReal) := by
  obtain ⟨t, ht⟩ := theta_real
  unfold ang
  refine mul_real ⟨_, rfl⟩ ?_
  rw [ht, eighth_eq, ← EReal.coe_neg, ← EReal.coe_mul]
  exact ⟨_, rfl⟩

theorem cos_real (s f : ℕ) : ∃ r : ℝ, Ideal.cos (ang s f) = (r : EReal) := by
  obtain ⟨t, ht⟩ := ang_real s f
  rw [ht]; exact ⟨_, rfl⟩
theorem sin_real (s f : ℕ) : ∃ r : ℝ, Ideal.sin (ang s f) = (r : EReal) := by
  obtain ⟨t, ht⟩ := ang_real s f
  rw [ht]; exact ⟨_, rfl⟩

theorem rope_real (s : ℕ) (y : Fin 64 → EReal) (h : ∀ d, ∃ r : ℝ, y d = r) (d : Fin 64) : ∃ r : ℝ, rope s y d = (r : EReal) := by
  unfold rope
  split_ifs
  · exact sub_real (mul_real (h _) (cos_real _ _)) (mul_real (h _) (sin_real _ _))
  · exact add_real (mul_real (h _) (cos_real _ _)) (mul_real (h _) (sin_real _ _))
  · exact h d

/-! ## The attention of one row -/

/-- Dividing once at the end is dividing every weight, and values weighted by nothing do not matter. -/
theorem attn_eq (sc : Fin 384 → EReal) (sk : EReal) (v v' : Fin 384 → EReal) (hk : sk ≠ ⊤) (hs : ∀ κ, sc κ ≠ ⊤) (hr : ∃ κ, sc κ ≠ ⊥)
    (hv : ∀ κ, sc κ ≠ ⊥ → v' κ = v κ) : attnRowK sc sk v' = attnRow sc sk v := by
  have hf : Finset.univ.fold max ⊥ sc ≠ ⊤ := by
    have : ∀ s : Finset (Fin 384), s.fold max ⊥ sc ≠ ⊤ := fun s => by
      induction s using Finset.cons_induction with
      | empty => simp
      | cons b s hb ih =>
        rw [Finset.fold_cons]
        rcases max_choice (sc b) (s.fold max ⊥ sc) with h | h <;> rw [h]
        · exact hs b
        · exact ih
    exact this _
  obtain ⟨κ₀, h₀⟩ := hr
  have hm : ∃ r : ℝ, rowMax sc sk = (r : EReal) := by
    have h1 : rowMax sc sk ≠ ⊤ := by
      unfold rowMax
      rcases max_choice (Finset.univ.fold max ⊥ sc) sk with h | h <;> rw [h]
      · exact hf
      · exact hk
    have h2 : rowMax sc sk ≠ ⊥ := fun h => by
      have h3 : sc κ₀ ≤ Finset.univ.fold max ⊥ sc := (Finset.le_fold_max _).2 (Or.inr ⟨κ₀, Finset.mem_univ _, le_rfl⟩)
      have h4 : Finset.univ.fold max ⊥ sc ≤ rowMax sc sk := le_max_left _ _
      exact h₀ (le_bot_iff.1 ((h3.trans h4).trans h.le))
    exact ⟨_, (EReal.coe_toReal h1 h2).symm⟩
  obtain ⟨M, hM⟩ := hm
  have ex : ∀ x : EReal, x ≠ ⊤ → ∃ r : ℝ, 0 ≤ r ∧ (x ≠ ⊥ → 0 < r) ∧ Ideal.exp (x - M) = (r : EReal) := fun x hx => by
    induction x using EReal.rec with
    | bot => exact ⟨0, le_rfl, fun h => absurd rfl h, by rw [EReal.bot_sub]; rfl⟩
    | top => exact absurd rfl hx
    | coe r => exact ⟨Real.exp (r - M), (Real.exp_pos _).le, fun _ => Real.exp_pos _, by rw [← EReal.coe_sub]; rfl⟩
  choose E hE0 hE1 hE using fun κ => ex (sc κ) (hs κ)
  obtain ⟨S, hS0, -, hS⟩ := ex sk hk
  have hden : ∃ D : ℝ, 0 < D ∧ rowDen sc sk = (D : EReal) := by
    refine ⟨∑ κ, E κ + S, by
      have : (0 : ℝ) < ∑ κ, E κ := Finset.sum_pos' (fun κ _ => hE0 κ) ⟨κ₀, Finset.mem_univ _, hE1 κ₀ h₀⟩
      linarith, ?_⟩
    unfold rowDen
    rw [hM]
    simp only [hE]
    rw [hS, EReal.coe_add]
    exact congrArg (· + _) (map_sum (⟨⟨Real.toEReal, EReal.coe_zero⟩, EReal.coe_add⟩ : ℝ →+ EReal) _ _).symm
  obtain ⟨D, hD, hDe⟩ := hden
  unfold attnRowK attnRow
  rw [hDe, Ideal.div_coe hD.ne', ← sum_mul _ _ (by rw [EReal.coe_nonneg]; positivity) (EReal.coe_ne_top _)]
  refine Finset.sum_congr rfl fun κ _ => ?_
  rw [Ideal.div_coe hD.ne']
  by_cases hb : sc κ = ⊥
  · rw [hb, hM, EReal.bot_sub]
    show (0 : EReal) * _ * _ = _ * ((0 : EReal) * _)
    rw [zero_mul, zero_mul]; exact (mul_zero _).symm
  · rw [hv κ hb, mul_comm (Ideal.exp _), mul_assoc]

/-! ## The error unit -/

theorem gelu_eq (x : EReal) : half * x * (1 + Ideal.erf (x * rt)) = gelu x := by
  unfold gelu
  rw [EReal.neg_mul, Ideal.erfc_neg]

end Cert.Mix

end
-- ==== Proof.KvD.lean ====
/- The merge the kernel computes, read at plain coordinates. -/
module

public import proofs.«01_k».proof.Proof.Gen.KernelIdeal.Skeleton
public import proofs.«01_k».proof.Proof.Mth
public import Idealize.ShloMosaic.Lib.Pointwise

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

theorem pay123_at (a : Vec Ideal S512x512 .bf16) (w : Vec Ideal S1x512x1024 .bf16) (r : Fin 512) (e : Fin 1024) :
    k0_pay123 (F := Ideal) a w (ix2 r e) = ∑ c, a (ix2 r c) * w (ix3 0 c e) := by
  pointwise [k0_pay123]
theorem pay124_at (a : Vec Ideal S512x512 .bf16) (w : Vec Ideal S1x512x1024 .bf16) (r : Fin 512) (e : Fin 1024) :
    k0_pay124 (F := Ideal) a w (ix2 r e) = ∑ c, a (ix2 r c) * w (ix3 0 c e) := by
  pointwise [k0_pay124]
theorem pay126_at (x y0 y1 : FVec Ideal S512x1024 .f32) (za zb : Vec Ideal S512x1024 .f32) (w : Vec Ideal S1024x1024 .bf16) (r : Fin 512) (d : Fin 1024) :
    k0_pay126 (F := Ideal) x y0 y1 za zb w (ix3 0 r d)
      = x (ix2 r d) + ∑ e, (sigm (za (ix2 r e)) * y0 (ix2 r e) + sigm (zb (ix2 r e)) * y1 (ix2 r e)) * w (ix2 e d) := by
  unfold sigm
  pointwise [k0_pay126, k0_pay125]
  rfl
theorem pay3_at (x : Vec Ideal S1x512x1024 .f32) (r : Fin 512) (d : Fin 1024) : k0_pay3 (F := Ideal) x (ix2 r d) = x (ix3 0 r d) := by
  pointwise [k0_pay3]

end Cert.KernelIdeal.Val

end
-- ==== Proof.KvB.lean ====
/- The attention the kernel computes, read at plain coordinates. -/
module

public import proofs.«01_k».proof.Proof.Gen.KernelIdeal.Skeleton
public import proofs.«01_k».proof.Proof.Mth
public import Idealize.ShloMosaic.Lib.Pointwise
public import proofs.«01_k».proof.Proof.Contents
public import Idealize.ShloMosaic.Lib.WordCmp

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

/-- Four stacked blocks of 128 rows. -/
theorem lad4r (f : Fin 4 → Fin 128 → EReal) (ρ : Fin 512) (g : Fin 4) (r : Fin 128) (h : ρ.val = 128 * g.val + r.val) :
    (if h : ρ.val < 128 then f 0 ⟨ρ.val, h⟩ else if h : ρ.val - 128 < 128 then f 1 ⟨ρ.val - 128, h⟩
      else if h : ρ.val - 128 - 128 < 128 then f 2 ⟨ρ.val - 128 - 128, h⟩ else f 3 ⟨ρ.val - 128 - 128 - 128, by omega⟩) = f g r := by
  have hr := r.isLt
  have hg := g.isLt
  split_ifs with h1 h2 h3
  · exact congrArg₂ f (Fin.ext (by show 0 = g.val; omega)) (Fin.ext (by show ρ.val = r.val; omega))
  · exact congrArg₂ f (Fin.ext (by show 1 = g.val; omega)) (Fin.ext (by show ρ.val - 128 = r.val; omega))
  · exact congrArg₂ f (Fin.ext (by show 2 = g.val; omega)) (Fin.ext (by show ρ.val - 128 - 128 = r.val; omega))
  · exact congrArg₂ f (Fin.ext (by show 3 = g.val; omega)) (Fin.ext (by show ρ.val - 128 - 128 - 128 = r.val; omega))

/-- The attention of four heads of a block, at one of their rows. -/
theorem pay25_at (mk : IVec S512x384 1) (q : Fin 4 → Vec Ideal S128x64 .bf16) (k v : Vec Ideal S384x64 .bf16) (s : Vec Ideal S1x512x1 .f32) (ρ : Fin 512) (d : Fin 64)
    (g : Fin 4) (r : Fin 128) (h : ρ.val = 128 * g.val + r.val) :
    k0_pay25 (F := Ideal) mk (q 0) (q 1) (q 2) (q 3) k v s (ix2 ρ d)
      = attnRowK (fun κ => Scalar.select (mk (ix2 ρ κ)) (∑ e, q g (ix2 r e) * k (ix2 κ e)) ⊥) (s (ix3 0 ρ 0)) (fun κ => v (ix2 κ d)) := by
  have hl : ∀ e, _ = _ := fun e : Fin 64 => lad4r (fun g r => q g (ix2 r e)) ρ g r h
  unfold attnRowK rowDen rowMax
  pointwise [k0_pay25, ninf_eq]
  simp only [hl]

/-- The row of a block, out of the row of four stacked blocks, as the kernel computes it. -/
def rowW (w : BitVec 32) : BitVec 32 :=
  let v160 : BitVec 32 := Scalar.select (Scalar.cmpi .eq 128#32 0#32) 1#32 128#32
  let v162 := IntOp.remsi .vector w v160
  Scalar.select (IntOp.andi (IntOp.xori (IntOp.cmpi .slt v162 0#32) (Scalar.cmpi .slt v160 0#32)) (IntOp.cmpi .ne v162 0#32)) (IntOp.addi v162 v160) v162

theorem rowW_eq : ∀ ρ : Fin 512, rowW (BitVec.ofNat 32 ρ.val) = BitVec.ofNat 32 (ρ.val % 128) := by decide +kernel

theorem lo_eq : ∀ (a : Fin 8) (b : Fin 4), Scalar.select (Scalar.cmpi .eq (Scalar.addi (Scalar.muli (BitVec.ofNat 32 a.val) 4#32) (BitVec.ofNat 32 b.val)) 0#32) 128#32 0#32
    = BitVec.ofNat 32 (if 4 * a.val + b.val = 0 then 128 else 0) := by decide +kernel
theorem hi_eq : ∀ (a : Fin 8) (b : Fin 4), Scalar.select (Scalar.cmpi .eq (Scalar.addi (Scalar.muli (BitVec.ofNat 32 a.val) 4#32) (BitVec.ofNat 32 b.val)) 31#32) 256#32 384#32
    = BitVec.ofNat 32 (if 4 * a.val + b.val = 31 then 256 else 384) := by decide +kernel

/-- The mask of four heads of a block. -/
theorem msk_at (a : Fin 8) (b : Fin 4) (ρ : Fin 512) (κ : Fin 384) (r : Fin 128) (n : Fin 32) (hr : ρ.val % 128 = r.val) (hn : n.val = 4 * a.val + b.val) :
    Run.msk (BitVec.ofNat 32 a.val) (BitVec.ofNat 32 b.val) (ix2 ρ κ) = 1#1 ↔ valid n r κ := by
  have e : Run.msk (BitVec.ofNat 32 a.val) (BitVec.ofNat 32 b.val) (ix2 ρ κ)
      = IntOp.andi (IntOp.andi (IntOp.andi (IntOp.cmpi .sge (BitVec.ofNat 32 κ.val) (rowW (BitVec.ofNat 32 ρ.val)))
        (IntOp.cmpi .sle (BitVec.ofNat 32 κ.val) (IntOp.addi (rowW (BitVec.ofNat 32 ρ.val)) 256#32)))
        (IntOp.cmpi .sge (BitVec.ofNat 32 κ.val) (Scalar.select (Scalar.cmpi .eq (Scalar.addi (Scalar.muli (BitVec.ofNat 32 a.val) 4#32) (BitVec.ofNat 32 b.val)) 0#32) 128#32 0#32)))
        (IntOp.cmpi .slt (BitVec.ofNat 32 κ.val) (Scalar.select (Scalar.cmpi .eq (Scalar.addi (Scalar.muli (BitVec.ofNat 32 a.val) 4#32) (BitVec.ofNat 32 b.val)) 31#32) 256#32 384#32)) := by
    unfold rowW
    pointwise [Run.msk, k0_pay23]
  have hk := κ.isLt
  have hr' := r.isLt
  have ha := a.isLt
  have hb := b.isLt
  have e2 : IntOp.addi (BitVec.ofNat 32 r.val) 256#32 = BitVec.ofNat 32 (r.val + 256) := by rw [BitVec.ofNat_add]; rfl
  rw [e, rowW_eq, lo_eq, hi_eq, hr, e2]
  unfold valid
  rw [hn]
  split_ifs <;> word_cmp

end Cert.KernelIdeal.Val

end
-- ==== Proof.KvA.lean ====
/- The projections and the rotations the kernel computes, read at plain coordinates. -/
module

public import proofs.«01_k».proof.Proof.Gen.KernelIdeal.Skeleton
public import proofs.«01_k».proof.Proof.Mth
public import Idealize.ShloMosaic.Lib.Pointwise

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

/-- The block's projections. -/
theorem pay4_at (x : Vec Ideal S1x512x1024 .f32) (g : Vec Ideal S1x1024 .f32) (w : Vec Ideal S1024x3840 .bf16) (r : Fin 512) (n : Fin 3840) :
    k0_pay4 (F := Ideal) x g w (ix2 r n) = ∑ k, rmsN c1024 (fun k => x (ix3 0 r k)) (fun k => g (ix2 0 k)) k * w (ix2 k n) := by
  unfold rmsN
  pointwise [k0_pay4, k0_pay3]

/-- The neighbouring rows' projections, before the block. -/
theorem pay16_lo (x y : Vec Ideal S1x128x1024 .f32) (g : Vec Ideal S1x1024 .f32) (w : Vec Ideal S1024x256 .bf16) (r : Fin 128) (n : Fin 256) :
    k0_pay16 (F := Ideal) x y g w (ix2 ⟨r.val, by omega⟩ n) = ∑ k, rmsN c1024 (fun k => x (ix3 0 r k)) (fun k => g (ix2 0 k)) k * w (ix2 k n) := by
  unfold rmsN
  pointwise [k0_pay16]

/-- And after it. -/
theorem pay16_hi (x y : Vec Ideal S1x128x1024 .f32) (g : Vec Ideal S1x1024 .f32) (w : Vec Ideal S1024x256 .bf16) (r : Fin 128) (n : Fin 256) :
    k0_pay16 (F := Ideal) x y g w (ix2 ⟨128 + r.val, by omega⟩ n) = ∑ k, rmsN c1024 (fun k => y (ix3 0 r k)) (fun k => g (ix2 0 k)) k * w (ix2 k n) := by
  unfold rmsN
  pointwise [k0_pay16]

/-- A table of 128 columns repeated four times. -/
theorem lad4 (A : ℕ → EReal) (c : Fin 512) :
    (if c.val < 128 then A (c.val % 64) else if c.val - 128 < 128 then A ((c.val - 128) % 64)
      else if c.val - 128 - 128 < 128 then A ((c.val - 128 - 128) % 64) else A ((c.val - 128 - 128 - 128) % 64)) = A (c.val % 64) := by
  split_ifs
  · rfl
  all_goals exact congrArg A (by omega)

/-- The rotated queries, an eighth of them. -/
theorem pay10_at (cs lo hi : FVec Ideal S512x128 .f32) (bd : FVec Ideal S512x512 .bf16) (z : Vec Ideal S512x512 .f32) (g : Vec Ideal S1x512 .f32)
    (s : ℕ) (G : Fin 64 → EReal) (r : Fin 512) (hcs : ∀ l : Fin 128, cs (ix2 r l) = csS s (l.val % 64)) (hlo : ∀ l : Fin 128, lo (ix2 r l) = loS s (l.val % 64))
    (hhi : ∀ l : Fin 128, hi (ix2 r l) = hiS s (l.val % 64)) (hbd : ∀ x c : Fin 512, bd (ix2 x c) = if x.val / 64 = c.val / 64 then ((1 / 64 : ℝ) : EReal) else 0)
    (hg : ∀ c : Fin 512, g (ix2 0 c) = G ⟨c.val % 64, Nat.mod_lt _ (by omega)⟩) (h : Fin 8) (d : Fin 64) (c : Fin 512) (hc : c.val = 64 * h.val + d.val) :
    k0_pay10 (F := Ideal) cs lo hi bd z g (ix2 r c)
      = rope s (rmsN c64 (fun e => z (ix2 r ⟨64 * h.val + e.val, by omega⟩)) G) d * eighth := by
  have hd := d.isLt
  have hn := fun (d : Fin 64) (c : Fin 512) (hc : c.val = 64 * h.val + d.val) =>
    head_norm 8 (fun x => z (ix2 r x)) (fun x => g (ix2 0 x)) G (fun x c => bd (ix2 x c)) hbd h
      (fun d => (hg _).trans (congrArg G (Fin.ext (by show (64 * h.val + d.val) % 64 = d.val; omega)))) d c hc
  pointwise [k0_pay10]
  simp only [hcs, hlo, hhi, dite_eq_ite]
  rw [lad4 (csS s) c, lad4 (loS s) c, lad4 (hiS s) c]
  have hm : c.val % 64 = d.val := by omega
  rw [hm, hn d c hc]
  refine congrArg (· * eighth) (rot_eq s _ d _ _ (fun h1 => ?_) (fun h1 h2 => ?_))
  · exact hn ⟨d.val + 8, by omega⟩ _ (by show (c.val + 512 - 504) % 512 = 64 * h.val + (d.val + 8); omega)
  · exact hn ⟨d.val - 8, by omega⟩ _ (by show (c.val + 512 - 8) % 512 = 64 * h.val + (d.val - 8); omega)

/-- The rotated keys of the block's own rows. -/
theorem pay14_at (cs lo hi : FVec Ideal S512x128 .f32) (bd : FVec Ideal S128x128 .bf16) (z : Vec Ideal S512x128 .f32) (g : Vec Ideal S1x128 .f32)
    (s : ℕ) (G : Fin 64 → EReal) (r : Fin 512) (hcs : ∀ l : Fin 128, cs (ix2 r l) = csS s (l.val % 64)) (hlo : ∀ l : Fin 128, lo (ix2 r l) = loS s (l.val % 64))
    (hhi : ∀ l : Fin 128, hi (ix2 r l) = hiS s (l.val % 64)) (hbd : ∀ x c : Fin 128, bd (ix2 x c) = if x.val / 64 = c.val / 64 then ((1 / 64 : ℝ) : EReal) else 0)
    (hg : ∀ c : Fin 128, g (ix2 0 c) = G ⟨c.val % 64, Nat.mod_lt _ (by omega)⟩) (h : Fin 2) (d : Fin 64) (c : Fin 128) (hc : c.val = 64 * h.val + d.val) :
    k0_pay14 (F := Ideal) lo hi (k0_pay11 bd z g) (k0_pay12 cs bd z g) (k0_pay13 bd z g) (ix2 r c)
      = rope s (rmsN c64 (fun e => z (ix2 r ⟨64 * h.val + e.val, by omega⟩)) G) d := by
  have hd := d.isLt
  have hn := fun (d : Fin 64) (c : Fin 128) (hc : c.val = 64 * h.val + d.val) =>
    head_norm 2 (fun x => z (ix2 r x)) (fun x => g (ix2 0 x)) G (fun x c => bd (ix2 x c)) hbd h
      (fun d => (hg _).trans (congrArg G (Fin.ext (by show (64 * h.val + d.val) % 64 = d.val; omega)))) d c hc
  pointwise [k0_pay14, k0_pay13, k0_pay12, k0_pay11]
  simp only [hcs, hlo, hhi]
  have hm : c.val % 64 = d.val := by omega
  rw [hm, hn d c hc]
  refine rot_eq s _ d _ _ (fun h1 => ?_) (fun h1 h2 => ?_)
  · exact hn ⟨d.val + 8, by omega⟩ _ (by show (c.val + 128 - 120) % 128 = 64 * h.val + (d.val + 8); omega)
  · exact hn ⟨d.val - 8, by omega⟩ _ (by show (c.val + 128 - 8) % 128 = 64 * h.val + (d.val - 8); omega)

/-- The rotated keys of the rows before the block. -/
theorem pay19_at (bd : FVec Ideal S128x128 .bf16) (z : FVec Ideal S256x256 .f32) (g : Vec Ideal S1x128 .f32) (p n : Vec Ideal S128x384 .f32)
    (s : ℕ) (G : Fin 64 → EReal) (r : Fin 128) (hcs : ∀ l : Fin 128, p (ix2 r ⟨l.val, by omega⟩) = csS s (l.val % 64))
    (hlo : ∀ l : Fin 128, p (ix2 r ⟨128 + l.val, by omega⟩) = loS s (l.val % 64))
    (hhi : ∀ l : Fin 128, p (ix2 r ⟨256 + l.val, by omega⟩) = hiS s (l.val % 64)) (hbd : ∀ x c : Fin 128, bd (ix2 x c) = if x.val / 64 = c.val / 64 then ((1 / 64 : ℝ) : EReal) else 0)
    (hg : ∀ c : Fin 128, g (ix2 0 c) = G ⟨c.val % 64, Nat.mod_lt _ (by omega)⟩) (h : Fin 2) (d : Fin 64) (c : Fin 128) (hc : c.val = 64 * h.val + d.val) :
    k0_pay19 (F := Ideal) bd z g p n (ix2 r c)
      = rope s (rmsN c64 (fun e => z (ix2 ⟨r.val, by omega⟩ ⟨64 * h.val + e.val, by omega⟩)) G) d := by
  have hd := d.isLt
  have hn := fun (d : Fin 64) (c : Fin 128) (hc : c.val = 64 * h.val + d.val) =>
    head_norm 2 (fun x => z (ix2 ⟨r.val, by omega⟩ ⟨x.val, by omega⟩)) (fun x => g (ix2 0 x)) G (fun x c => bd (ix2 x c)) hbd h
      (fun d => (hg _).trans (congrArg G (Fin.ext (by show (64 * h.val + d.val) % 64 = d.val; omega)))) d c hc
  pointwise [k0_pay19, k0_pay17]
  simp only [hcs, hlo, hhi]
  have hm : c.val % 64 = d.val := by omega
  rw [hm, hn d c hc]
  refine rot_eq s _ d _ _ (fun h1 => ?_) (fun h1 h2 => ?_)
  · exact hn ⟨d.val + 8, by omega⟩ ⟨(c.val + 128 - 120) % 128, by omega⟩ (by show (c.val + 128 - 120) % 128 = 64 * h.val + (d.val + 8); omega)
  · exact hn ⟨d.val - 8, by omega⟩ ⟨(c.val + 128 - 8) % 128, by omega⟩ (by show (c.val + 128 - 8) % 128 = 64 * h.val + (d.val - 8); omega)

/-- The rotated keys of the rows after the block. -/
theorem pay20_at (bd : FVec Ideal S128x128 .bf16) (z : FVec Ideal S256x256 .f32) (g : Vec Ideal S1x128 .f32) (p n : Vec Ideal S128x384 .f32)
    (s : ℕ) (G : Fin 64 → EReal) (r : Fin 128) (hcs : ∀ l : Fin 128, n (ix2 r ⟨l.val, by omega⟩) = csS s (l.val % 64))
    (hlo : ∀ l : Fin 128, n (ix2 r ⟨128 + l.val, by omega⟩) = loS s (l.val % 64))
    (hhi : ∀ l : Fin 128, n (ix2 r ⟨256 + l.val, by omega⟩) = hiS s (l.val % 64)) (hbd : ∀ x c : Fin 128, bd (ix2 x c) = if x.val / 64 = c.val / 64 then ((1 / 64 : ℝ) : EReal) else 0)
    (hg : ∀ c : Fin 128, g (ix2 0 c) = G ⟨c.val % 64, Nat.mod_lt _ (by omega)⟩) (h : Fin 2) (d : Fin 64) (c : Fin 128) (hc : c.val = 64 * h.val + d.val) :
    k0_pay20 (F := Ideal) bd z g p n (ix2 r c)
      = rope s (rmsN c64 (fun e => z (ix2 ⟨128 + r.val, by omega⟩ ⟨64 * h.val + e.val, by omega⟩)) G) d := by
  have hd := d.isLt
  have hn := fun (d : Fin 64) (c : Fin 128) (hc : c.val = 64 * h.val + d.val) =>
    head_norm 2 (fun x => z (ix2 ⟨128 + r.val, by omega⟩ ⟨x.val, by omega⟩)) (fun x => g (ix2 0 x)) G (fun x c => bd (ix2 x c)) hbd h
      (fun d => (hg _).trans (congrArg G (Fin.ext (by show (64 * h.val + d.val) % 64 = d.val; omega)))) d c hc
  pointwise [k0_pay20, k0_pay17]
  simp only [hcs, hlo, hhi]
  have hm : c.val % 64 = d.val := by omega
  rw [hm, hn d c hc]
  refine rot_eq s _ d _ _ (fun h1 => ?_) (fun h1 h2 => ?_)
  · exact hn ⟨d.val + 8, by omega⟩ ⟨(c.val + 128 - 120) % 128, by omega⟩ (by show (c.val + 128 - 120) % 128 = 64 * h.val + (d.val + 8); omega)
  · exact hn ⟨d.val - 8, by omega⟩ ⟨(c.val + 128 - 8) % 128, by omega⟩ (by show (c.val + 128 - 8) % 128 = 64 * h.val + (d.val - 8); omega)

/-- The values: columns of the projections. -/
theorem pay15_at (z : Vec Ideal S512x128 .f32) (r : Fin 512) (c : Fin 128) : k0_pay15 (F := Ideal) z (ix2 r c) = z (ix2 r c) := by
  pointwise [k0_pay15]
theorem pay21_at (z : FVec Ideal S256x256 .f32) (r c : Fin 128) :
    k0_pay21 (F := Ideal) z (ix2 r c) = z (ix2 ⟨r.val, by omega⟩ ⟨128 + c.val, by omega⟩) := by
  pointwise [k0_pay21, k0_pay18]
theorem pay22_at (z : FVec Ideal S256x256 .f32) (r c : Fin 128) :
    k0_pay22 (F := Ideal) (k0_pay18 z) (ix2 r c) = z (ix2 ⟨128 + r.val, by omega⟩ ⟨128 + c.val, by omega⟩) := by
  pointwise [k0_pay22, k0_pay18]

end Cert.KernelIdeal.Val

end
-- ==== Proof.KvS.lean ====
/- What the blocks of a tile hold. -/
module

public import proofs.«01_k».proof.Proof.Mth
public import proofs.«01_k».proof.Proof.Contents
public import Idealize.ShloMosaic.Lib.Pointwise

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

variable (A : Args) (b a : Fin 8) (x0 : Vec Ideal S1x512x1024 .f32) (x1 x2 : Vec Ideal S1x128x1024 .f32) (x3 : Vec Ideal S512x384 .f32) (x4 x5 : Vec Ideal S128x384 .f32)
  (x6 : Vec Ideal S1x1024 .f32) (x7 : Vec Ideal S1024x3840 .bf16) (x8 : Vec Ideal S1x512 .f32) (x9 : Vec Ideal S1x128 .f32) (x10 : Vec Ideal S2x512x1 .f32)
  (x11 : Vec Ideal S1x512 .f32) (x12 : Vec Ideal S512x512 .bf16) (x13 : Vec Ideal S128x1024 .bf16) (x14 : Vec Ideal S128x512 .f32) (x15 : Vec Ideal S2x512x1024 .bf16)
  (x16 : Vec Ideal S1024x1024 .bf16)

/-- What the blocks of tile `a` of batch `b` hold. -/
structure Blk : Prop where
  /-- the tile's rows -/
  h0 : ∀ (r : Fin 512) (k : Fin 1024), x0 (ix3 0 r k) = A.X b ⟨512 * a.val + r.val, by omega⟩ k
  /-- the rows before -/
  h1 : ∀ (r : Fin 128) (k : Fin 1024), 0 < a.val → x1 (ix3 0 r k) = A.X b ⟨512 * a.val + r.val - 128, by omega⟩ k
  /-- the rows after -/
  h2 : ∀ (r : Fin 128) (k : Fin 1024) (h : a.val < 7), x2 (ix3 0 r k) = A.X b ⟨512 * a.val + 512 + r.val, by omega⟩ k
  /-- the position table's rows -/
  h3 : ∀ (r : Fin 512) (l : Fin 128), x3 (ix2 r ⟨l.val, by omega⟩) = csS (512 * a.val + r.val) (l.val % 64)
    ∧ x3 (ix2 r ⟨128 + l.val, by omega⟩) = loS (512 * a.val + r.val) (l.val % 64) ∧ x3 (ix2 r ⟨256 + l.val, by omega⟩) = hiS (512 * a.val + r.val) (l.val % 64)
  /-- the position table's rows before -/
  h4 : ∀ (r : Fin 128) (l : Fin 128), 0 < a.val → x4 (ix2 r ⟨l.val, by omega⟩) = csS (512 * a.val + r.val - 128) (l.val % 64)
    ∧ x4 (ix2 r ⟨128 + l.val, by omega⟩) = loS (512 * a.val + r.val - 128) (l.val % 64) ∧ x4 (ix2 r ⟨256 + l.val, by omega⟩) = hiS (512 * a.val + r.val - 128) (l.val % 64)
  /-- the position table's rows after -/
  h5 : ∀ (r : Fin 128) (l : Fin 128), a.val < 7 → x5 (ix2 r ⟨l.val, by omega⟩) = csS (512 * a.val + 512 + r.val) (l.val % 64)
    ∧ x5 (ix2 r ⟨128 + l.val, by omega⟩) = loS (512 * a.val + 512 + r.val) (l.val % 64) ∧ x5 (ix2 r ⟨256 + l.val, by omega⟩) = hiS (512 * a.val + 512 + r.val) (l.val % 64)
  /-- the norm's gain -/
  h6 : ∀ k : Fin 1024, x6 (ix2 0 k) = A.nm k
  /-- the input projection -/
  h7 : ∀ (k : Fin 1024) (n : Fin 3840), x7 (ix2 k n) = A.W k n
  /-- the query gain, once per head -/
  h8 : ∀ c : Fin 512, x8 (ix2 0 c) = A.qg ⟨c.val % 64, Nat.mod_lt _ (by omega)⟩
  /-- the key gain, once per head -/
  h9 : ∀ c : Fin 128, x9 (ix2 0 c) = A.kg ⟨c.val % 64, Nat.mod_lt _ (by omega)⟩
  /-- the sinks, one per row -/
  h10 : ∀ (j : Fin 2) (ρ : Fin 512), x10 (ix3 j ρ 0) = A.sk ⟨4 * j.val + ρ.val / 128, by omega⟩
  /-- the gating gain -/
  h11 : ∀ c : Fin 512, x11 (ix2 0 c) = A.vg ⟨c.val / 64, by omega⟩ ⟨c.val % 64, Nat.mod_lt _ (by omega)⟩
  /-- the averaging matrix -/
  h12 : ∀ x y : Fin 512, x12 (ix2 x y) = if x.val / 64 = y.val / 64 then ((1 / 64 : ℝ) : EReal) else 0
  /-- the gating weights, group by group -/
  h13 : ∀ (p : Fin 128) (c : Fin 1024), x13 (ix2 p c) = A.ws ⟨c.val / 128, by omega⟩ p ⟨c.val % 128, Nat.mod_lt _ (by omega)⟩
  /-- the gating bias, group by group -/
  h14 : ∀ (p : Fin 128) (c : Fin 512), x14 (ix2 p c) = A.bs ⟨c.val / 64, by omega⟩ p
  /-- the branch projections -/
  h15 : ∀ (j : Fin 2) (c : Fin 512) (e : Fin 1024), x15 (ix3 j c e) = A.wb j c e
  /-- the output projection -/
  h16 : ∀ e d : Fin 1024, x16 (ix2 e d) = A.wo e d

end Cert.KernelIdeal.Val

end
-- ==== Proof.KvE.lean ====
/- The projections of a tile: queries, keys and values. -/
module

public import proofs.«01_k».proof.Proof.KvA
public import proofs.«01_k».proof.Proof.KvD
public import proofs.«01_k».proof.Proof.KvS

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

variable (A : Args) (b a : Fin 8) (x0 : Vec Ideal S1x512x1024 .f32) (x1 x2 : Vec Ideal S1x128x1024 .f32) (x3 : Vec Ideal S512x384 .f32) (x4 x5 : Vec Ideal S128x384 .f32)
  (x6 : Vec Ideal S1x1024 .f32) (x7 : Vec Ideal S1024x3840 .bf16) (x8 : Vec Ideal S1x512 .f32) (x9 : Vec Ideal S1x128 .f32) (x10 : Vec Ideal S2x512x1 .f32)
  (x11 : Vec Ideal S1x512 .f32) (x12 : Vec Ideal S512x512 .bf16) (x13 : Vec Ideal S128x1024 .bf16) (x14 : Vec Ideal S128x512 .f32) (x15 : Vec Ideal S2x512x1024 .bf16)
  (x16 : Vec Ideal S1024x1024 .bf16)

variable (H : Blk A b a x0 x1 x2 x3 x4 x5 x6 x7 x8 x9 x10 x11 x12 x13 x14 x15 x16)
include H

theorem zv_at (r : Fin 512) (n : Fin 3840) : Run.zv x0 x6 x7 (ix2 r n) = A.z b ⟨512 * a.val + r.val, by omega⟩ n := by
  unfold Run.zv Args.z
  rw [pay4_at]
  pointwise []
  simp only [H.h0, H.h6, H.h7]

theorem xv_at (r : Fin 512) (d : Fin 1024) : Run.xv x0 (ix2 r d) = A.X b ⟨512 * a.val + r.val, by omega⟩ d := by
  unfold Run.xv
  rw [pay3_at]
  pointwise []
  simp only [H.h0]

theorem csv_at (r : Fin 512) (l : Fin 128) : Run.csv x3 (ix2 r l) = csS (512 * a.val + r.val) (l.val % 64) := by
  refine Eq.trans ?_ (H.h3 r l).1
  pointwise [Run.csv, k0_pay5]
theorem lov_at (r : Fin 512) (l : Fin 128) : Run.lov x3 (ix2 r l) = loS (512 * a.val + r.val) (l.val % 64) := by
  refine Eq.trans ?_ (H.h3 r l).2.1
  pointwise [Run.lov, k0_pay6]
theorem hiv_at (r : Fin 512) (l : Fin 128) : Run.hiv x3 (ix2 r l) = hiS (512 * a.val + r.val) (l.val % 64) := by
  refine Eq.trans ?_ (H.h3 r l).2.2
  pointwise [Run.hiv, k0_pay7]
theorem bdv_at (x y : Fin 512) : Run.bdv x12 (ix2 x y) = if x.val / 64 = y.val / 64 then ((1 / 64 : ℝ) : EReal) else 0 := by
  refine Eq.trans ?_ (H.h12 x y)
  pointwise [Run.bdv, k0_pay8]
theorem bcv_at (x y : Fin 128) : Run.bcv x12 (ix2 x y) = if x.val / 64 = y.val / 64 then ((1 / 64 : ℝ) : EReal) else 0 := by
  refine Eq.trans ?_ (H.h12 ⟨x.val, by omega⟩ ⟨y.val, by omega⟩)
  pointwise [Run.bcv, k0_pay9]

/-- The queries, scaled. -/
theorem qk_at (r : Fin 512) (h : Fin 8) (d : Fin 64) (c : Fin 512) (hc : c.val = 64 * h.val + d.val) :
    Run.qk x0 x3 x6 x7 x8 x12 (ix2 r c) = A.q b ⟨512 * a.val + r.val, by omega⟩ h d * eighth := by
  unfold Run.qk Run.qv Args.q
  rw [pay10_at _ _ _ _ _ _ (512 * a.val + r.val) A.qg r (csv_at A b a x0 x1 x2 x3 x4 x5 x6 x7 x8 x9 x10 x11 x12 x13 x14 x15 x16 H r) (lov_at A b a x0 x1 x2 x3 x4 x5 x6 x7 x8 x9 x10 x11 x12 x13 x14 x15 x16 H r) (hiv_at A b a x0 x1 x2 x3 x4 x5 x6 x7 x8 x9 x10 x11 x12 x13 x14 x15 x16 H r) (bdv_at A b a x0 x1 x2 x3 x4 x5 x6 x7 x8 x9 x10 x11 x12 x13 x14 x15 x16 H)
    (by intro c; pointwise []; exact H.h8 c) h d c hc]
  pointwise []
  simp only [zv_at A b a x0 x1 x2 x3 x4 x5 x6 x7 x8 x9 x10 x11 x12 x13 x14 x15 x16 H]

/-- The keys of the tile's own rows. -/
theorem kmid_at (r : Fin 512) (j : Fin 2) (d : Fin 64) (c : Fin 128) (hc : c.val = 64 * j.val + d.val) :
    Run.kmid (Run.csv x3) (Run.lov x3) (Run.hiv x3) (Run.bcv x12) (Run.zv x0 x6 x7) x9 (ix2 r c) = A.k b ⟨512 * a.val + r.val, by omega⟩ j d := by
  unfold Run.kmid Args.k
  rw [pay14_at _ _ _ _ _ _ (512 * a.val + r.val) A.kg r (csv_at A b a x0 x1 x2 x3 x4 x5 x6 x7 x8 x9 x10 x11 x12 x13 x14 x15 x16 H r) (lov_at A b a x0 x1 x2 x3 x4 x5 x6 x7 x8 x9 x10 x11 x12 x13 x14 x15 x16 H r) (hiv_at A b a x0 x1 x2 x3 x4 x5 x6 x7 x8 x9 x10 x11 x12 x13 x14 x15 x16 H r) (bcv_at A b a x0 x1 x2 x3 x4 x5 x6 x7 x8 x9 x10 x11 x12 x13 x14 x15 x16 H)
    (by intro c; pointwise []; exact H.h9 c) j d c hc]
  pointwise []
  simp only [zv_at A b a x0 x1 x2 x3 x4 x5 x6 x7 x8 x9 x10 x11 x12 x13 x14 x15 x16 H, Nat.add_assoc]

/-- The projections of the rows before and after. -/
theorem halo_lo (ha : 0 < a.val) (r : Fin 128) (n : Fin 256) :
    Run.halo x1 x2 x6 x7 (ix2 ⟨r.val, by omega⟩ n) = A.z b ⟨512 * a.val + r.val - 128, by omega⟩ ⟨512 + n.val, by omega⟩ := by
  unfold Run.halo Args.z
  rw [pay16_lo]
  pointwise []
  simp only [H.h1 _ _ ha, H.h6, H.h7]
theorem halo_hi (ha : a.val < 7) (r : Fin 128) (n : Fin 256) :
    Run.halo x1 x2 x6 x7 (ix2 ⟨128 + r.val, by omega⟩ n) = A.z b ⟨512 * a.val + 512 + r.val, by omega⟩ ⟨512 + n.val, by omega⟩ := by
  unfold Run.halo Args.z
  rw [pay16_hi]
  pointwise []
  simp only [H.h2 _ _ ha, H.h6, H.h7]

theorem kpre_at (ha : 0 < a.val) (r : Fin 128) (j : Fin 2) (d : Fin 64) (c : Fin 128) (hc : c.val = 64 * j.val + d.val) :
    Run.kpre (Run.bcv x12) (Run.halo x1 x2 x6 x7) x9 x4 x5 (ix2 r c) = A.k b ⟨512 * a.val + r.val - 128, by omega⟩ j d := by
  unfold Run.kpre Args.k
  rw [pay19_at _ _ _ _ _ (512 * a.val + r.val - 128) A.kg r (fun l => by pointwise []; exact (H.h4 r l ha).1) (fun l => by pointwise []; exact (H.h4 r l ha).2.1)
    (fun l => by pointwise []; exact (H.h4 r l ha).2.2) (bcv_at A b a x0 x1 x2 x3 x4 x5 x6 x7 x8 x9 x10 x11 x12 x13 x14 x15 x16 H) (by intro c; pointwise []; exact H.h9 c) j d c hc]
  simp only [halo_lo A b a x0 x1 x2 x3 x4 x5 x6 x7 x8 x9 x10 x11 x12 x13 x14 x15 x16 H ha, Nat.add_assoc]
theorem kpost_at (ha : a.val < 7) (r : Fin 128) (j : Fin 2) (d : Fin 64) (c : Fin 128) (hc : c.val = 64 * j.val + d.val) :
    Run.kpost (Run.bcv x12) (Run.halo x1 x2 x6 x7) x9 x4 x5 (ix2 r c) = A.k b ⟨512 * a.val + 512 + r.val, by omega⟩ j d := by
  unfold Run.kpost Args.k
  rw [pay20_at _ _ _ _ _ (512 * a.val + 512 + r.val) A.kg r (fun l => by pointwise []; exact (H.h5 r l ha).1) (fun l => by pointwise []; exact (H.h5 r l ha).2.1)
    (fun l => by pointwise []; exact (H.h5 r l ha).2.2) (bcv_at A b a x0 x1 x2 x3 x4 x5 x6 x7 x8 x9 x10 x11 x12 x13 x14 x15 x16 H) (by intro c; pointwise []; exact H.h9 c) j d c hc]
  simp only [halo_hi A b a x0 x1 x2 x3 x4 x5 x6 x7 x8 x9 x10 x11 x12 x13 x14 x15 x16 H ha, Nat.add_assoc]

end Cert.KernelIdeal.Val

end
-- ==== Proof.KvG.lean ====
/- The scratch buffers row by row. -/
module

public import proofs.«01_k».proof.Proof.KvS
public import Idealize.ShloMosaic.Lib.Pipeline.ValueKit

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

/-- The key scratch's contents, element by element. -/
def kvG (p : FVec Ideal S128x128 .bf16) (q : FVec Ideal S512x128 .bf16) (u : FVec Ideal S128x128 .bf16) (ρ : Fin 768) (c : Fin 128) : EReal :=
  if h : ρ.val < 128 then p (ix2 ⟨ρ.val, h⟩ c) else if h' : ρ.val < 640 then q (ix2 ⟨ρ.val - 128, by omega⟩ c) else u (ix2 ⟨ρ.val - 640, by omega⟩ c)

theorem kvG_lo (p q u) (ρ : Fin 768) (c : Fin 128) (x : S128x128.Idx) (h0 : ρ.val = 0 + (x 0).val) (h1 : c.val = 0 + (x 1).val) : p x = kvG p q u ρ c := by
  have l0 : (x 0).val < 128 := (x 0).isLt
  unfold kvG
  rw [dif_pos (by omega)]
  exact congrArg p (funext fun e => match e with
    | ⟨0, _⟩ => Fin.ext (by show (x 0).val = ρ.val; omega)
    | ⟨1, _⟩ => Fin.ext (by show (x 1).val = c.val; omega))
theorem kvG_mid (p q u) (ρ : Fin 768) (c : Fin 128) (x : S512x128.Idx) (h0 : ρ.val = 128 + (x 0).val) (h1 : c.val = 0 + (x 1).val) : q x = kvG p q u ρ c := by
  have l0 : (x 0).val < 512 := (x 0).isLt
  unfold kvG
  rw [dif_neg (by omega), dif_pos (by omega)]
  exact congrArg q (funext fun e => match e with
    | ⟨0, _⟩ => Fin.ext (by show (x 0).val = ρ.val - 128; omega)
    | ⟨1, _⟩ => Fin.ext (by show (x 1).val = c.val; omega))
theorem kvG_hi (p q u) (ρ : Fin 768) (c : Fin 128) (x : S128x128.Idx) (h0 : ρ.val = 640 + (x 0).val) (h1 : c.val = 0 + (x 1).val) : u x = kvG p q u ρ c := by
  unfold kvG
  rw [dif_neg (by omega), dif_neg (by omega)]
  exact congrArg u (funext fun e => match e with
    | ⟨0, _⟩ => Fin.ext (by show (x 0).val = ρ.val - 640; omega)
    | ⟨1, _⟩ => Fin.ext (by show (x 1).val = c.val; omega))

/-- The key scratch, row by row. -/
theorem kv_at (p : FVec Ideal S128x128 .bf16) (q : FVec Ideal S512x128 .bf16) (u : FVec Ideal S128x128 .bf16) (ρ : Fin 768) (c : Fin 128) :
    Run.kv p q u (ix2 ρ c) = kvG p q u ρ c := by
  unfold Run.kv
  refine (View.canon_apply_of_pieces (fun y : S768x128.Idx => kvG p q u (y 0) (y 1)) _ ?_ _ (Run.kv_cover p q u _)).trans rfl
  intro P hP x
  simp only [List.mem_cons, List.not_mem_nil, or_false] at hP
  rcases hP with rfl | rfl | rfl
  · exact kvG_hi p q u _ _ x (ValueKit.rect_emb_unit_val _ _ inb_S768x128_S128x128_640_0 x 0) (ValueKit.rect_emb_unit_val _ _ inb_S768x128_S128x128_640_0 x 1)
  · exact kvG_lo p q u _ _ x (ValueKit.rect_emb_unit_val _ _ inb_S768x128_S128x128_0_0 x 0) (ValueKit.rect_emb_unit_val _ _ inb_S768x128_S128x128_0_0 x 1)
  · exact kvG_mid p q u _ _ x (ValueKit.rect_emb_unit_val _ _ inb_S768x128_S512x128_128_0 x 0) (ValueKit.rect_emb_unit_val _ _ inb_S768x128_S512x128_128_0 x 1)

/-- One head's rows, as stored, at coordinates. -/
theorem cut_at (o : FVec Ideal S512x64 .f32) (g : Fin 4) (r : Fin 128) (d : Fin 64) : Run.cut o g (ix2 r d) = o (ix2 ⟨128 * g.val + r.val, by omega⟩ d) := by
  pointwise [Run.cut]

theorem apcs_of (w : BitVec 32) (q : Vec Ideal S512x512 .bf16) (k v : Vec Ideal S768x128 .bf16) (s : Vec Ideal S2x512x1 .f32) (P) (hP : P ∈ Run.apcs w q k v s) :
    ∃ n j g, P = Run.apc w q k v s n j g := by
  unfold Run.apcs at hP
  simp only [List.mem_cons, List.not_mem_nil, or_false] at hP
  rcases hP with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact ⟨_, _, _, rfl⟩

/-- The attention scratch, row by row. -/
theorem av_at (w : BitVec 32) (q : Vec Ideal S512x512 .bf16) (k v : Vec Ideal S768x128 .bf16) (s : Vec Ideal S2x512x1 .f32) (r c : Fin 512) :
    Run.av w q k v s (ix2 r c) = Run.att w q k v s ⟨r.val / 128, by omega⟩ ⟨c.val / 256, by omega⟩
      (ix2 ⟨128 * (c.val / 64 % 4) + r.val % 128, by omega⟩ ⟨c.val % 64, Nat.mod_lt _ (by omega)⟩) := by
  unfold Run.av
  refine (View.canon_apply_of_pieces (fun y : S512x512.Idx => have r0 : (y 0).val < 512 := (y 0).isLt; have c0 : (y 1).val < 512 := (y 1).isLt
    Run.att w q k v s ⟨(y 0).val / 128, by omega⟩ ⟨(y 1).val / 256, by omega⟩
      (ix2 ⟨128 * ((y 1).val / 64 % 4) + (y 0).val % 128, by omega⟩ ⟨(y 1).val % 64, Nat.mod_lt _ (by omega)⟩)) _ ?_ _ ?_).trans rfl
  · intro P hP x
    obtain ⟨n, j, g, rfl⟩ := apcs_of w q k v s P hP
    have h0 : (((Rect.unit ![128 * n.val, 256 * j.val + 64 * g.val] S128x64.size (Run.inq n j g) : Rect S512x512).emb x) 0).val = 128 * n.val + (x 0).val := ValueKit.rect_emb_unit_val _ _ _ _ _
    have h1 : (((Rect.unit ![128 * n.val, 256 * j.val + 64 * g.val] S128x64.size (Run.inq n j g) : Rect S512x512).emb x) 1).val = 256 * j.val + 64 * g.val + (x 1).val := ValueKit.rect_emb_unit_val _ _ _ _ _
    have l0 : (x 0).val < 128 := (x 0).isLt
    have l1 : (x 1).val < 64 := (x 1).isLt
    have ex : x = ix2 (⟨(x 0).val, l0⟩ : Fin 128) (⟨(x 1).val, l1⟩ : Fin 64) := funext fun e => match e with
      | ⟨0, _⟩ => rfl
      | ⟨1, _⟩ => rfl
    refine (congrArg (Run.cut (Run.att w q k v s n j) g) ex).trans ((cut_at _ g _ _).trans ?_)
    have en : n = ⟨(((Run.apc w q k v s n j g).1.emb x) 0).val / 128, by have := n.isLt; show (((Rect.unit ![128 * n.val, 256 * j.val + 64 * g.val] S128x64.size (Run.inq n j g) : Rect S512x512).emb x) 0).val / 128 < 4; omega⟩ :=
      Fin.ext (by show n.val = (((Rect.unit ![128 * n.val, 256 * j.val + 64 * g.val] S128x64.size (Run.inq n j g) : Rect S512x512).emb x) 0).val / 128; omega)
    have ej : j = ⟨(((Run.apc w q k v s n j g).1.emb x) 1).val / 256, by have := j.isLt; have := g.isLt; show (((Rect.unit ![128 * n.val, 256 * j.val + 64 * g.val] S128x64.size (Run.inq n j g) : Rect S512x512).emb x) 1).val / 256 < 2; omega⟩ :=
      Fin.ext (by have := g.isLt; show j.val = (((Rect.unit ![128 * n.val, 256 * j.val + 64 * g.val] S128x64.size (Run.inq n j g) : Rect S512x512).emb x) 1).val / 256; omega)
    dsimp only
    rw [← en, ← ej]
    exact congrArg (Run.att w q k v s n j) (funext fun e => match e with
      | ⟨0, _⟩ => Fin.ext (by
          have := g.isLt
          show 128 * g.val + (x 0).val = 128 * ((((Rect.unit ![128 * n.val, 256 * j.val + 64 * g.val] S128x64.size (Run.inq n j g) : Rect S512x512).emb x) 1).val / 64 % 4) + (((Rect.unit ![128 * n.val, 256 * j.val + 64 * g.val] S128x64.size (Run.inq n j g) : Rect S512x512).emb x) 0).val % 128
          omega)
      | ⟨1, _⟩ => Fin.ext (by
          show (x 1).val = (((Rect.unit ![128 * n.val, 256 * j.val + 64 * g.val] S128x64.size (Run.inq n j g) : Rect S512x512).emb x) 1).val % 64
          omega))
  · exact View.cover_of_tiled _ ![128, 64] rfl (ix2 r c)

/-- The second branch's scratch, row by row. -/
theorem gv_at (v30 : FVec Ideal S512x512 .bf16) (z : Vec Ideal S512x3840 .f32) (x11 : Vec Ideal S1x512 .f32) (x13 : Vec Ideal S128x1024 .bf16) (x14 : Vec Ideal S128x512 .f32) (r c : Fin 512) :
    Run.gv v30 z x11 x13 x14 (ix2 r c) = Run.gml v30 z x11 x13 x14 ⟨r.val / 128, by omega⟩ (ix2 ⟨r.val % 128, Nat.mod_lt _ (by omega)⟩ c) := by
  unfold Run.gv
  refine (View.canon_apply_of_pieces (fun y : S512x512.Idx => have r0 : (y 0).val < 512 := (y 0).isLt
    Run.gml v30 z x11 x13 x14 ⟨(y 0).val / 128, by omega⟩ (ix2 ⟨(y 0).val % 128, Nat.mod_lt _ (by omega)⟩ (y 1))) _ ?_ _ ?_).trans rfl
  · intro P hP x
    have : ∃ n, P = Run.gpc v30 z x11 x13 x14 n := by
      simp only [List.mem_cons, List.not_mem_nil, or_false] at hP
      rcases hP with rfl | rfl | rfl | rfl <;> exact ⟨_, rfl⟩
    obtain ⟨n, rfl⟩ := this
    have h0 : (((Rect.unit ![128 * n.val, 0] S128x512.size (Run.ing n) : Rect S512x512).emb x) 0).val = 128 * n.val + (x 0).val := ValueKit.rect_emb_unit_val _ _ _ _ _
    have h1 : (((Rect.unit ![128 * n.val, 0] S128x512.size (Run.ing n) : Rect S512x512).emb x) 1).val = 0 + (x 1).val := ValueKit.rect_emb_unit_val _ _ _ _ _
    have l0 : (x 0).val < 128 := (x 0).isLt
    have en : n = ⟨(((Run.gpc v30 z x11 x13 x14 n).1.emb x) 0).val / 128, by have := n.isLt; show (((Rect.unit ![128 * n.val, 0] S128x512.size (Run.ing n) : Rect S512x512).emb x) 0).val / 128 < 4; omega⟩ :=
      Fin.ext (by show n.val = (((Rect.unit ![128 * n.val, 0] S128x512.size (Run.ing n) : Rect S512x512).emb x) 0).val / 128; omega)
    dsimp only
    rw [← en]
    exact congrArg (Run.gml v30 z x11 x13 x14 n) (funext fun e => match e with
      | ⟨0, _⟩ => Fin.ext (by
          show (x 0).val = (((Rect.unit ![128 * n.val, 0] S128x512.size (Run.ing n) : Rect S512x512).emb x) 0).val % 128
          omega)
      | ⟨1, _⟩ => Fin.ext (by
          show (x 1).val = (((Rect.unit ![128 * n.val, 0] S128x512.size (Run.ing n) : Rect S512x512).emb x) 1).val
          omega))
  · exact View.cover_of_tiled _ ![128, 512] rfl (ix2 r c)

end Cert.KernelIdeal.Val

end
-- ==== Proof.KvH.lean ====
/- The attention of a tile. -/
module

public import proofs.«01_k».proof.Proof.KvB
public import proofs.«01_k».proof.Proof.KvE
public import proofs.«01_k».proof.Proof.KvG

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

variable (A : Args) (b a : Fin 8) (x0 : Vec Ideal S1x512x1024 .f32) (x1 x2 : Vec Ideal S1x128x1024 .f32) (x3 : Vec Ideal S512x384 .f32) (x4 x5 : Vec Ideal S128x384 .f32)
  (x6 : Vec Ideal S1x1024 .f32) (x7 : Vec Ideal S1024x3840 .bf16) (x8 : Vec Ideal S1x512 .f32) (x9 : Vec Ideal S1x128 .f32) (x10 : Vec Ideal S2x512x1 .f32)
  (x11 : Vec Ideal S1x512 .f32) (x12 : Vec Ideal S512x512 .bf16) (x13 : Vec Ideal S128x1024 .bf16) (x14 : Vec Ideal S128x512 .f32) (x15 : Vec Ideal S2x512x1024 .bf16)
  (x16 : Vec Ideal S1024x1024 .bf16)

variable (H : Blk A b a x0 x1 x2 x3 x4 x5 x6 x7 x8 x9 x10 x11 x12 x13 x14 x15 x16)
include H

/-- The key scratch: the keys of the rows from 128 before the tile to 128 after it, where the sequence has them. -/
theorem kk_at (ρ : Fin 768) (j : Fin 2) (d : Fin 64) (c : Fin 128) (hc : c.val = 64 * j.val + d.val) (h0 : 128 ≤ 512 * a.val + ρ.val) (h1 : 512 * a.val + ρ.val < 4224) :
    Run.kk x0 x1 x2 x3 x4 x5 x6 x7 x9 x12 (ix2 ρ c) = A.k b ⟨512 * a.val + ρ.val - 128, by omega⟩ j d := by
  unfold Run.kk
  rw [kv_at]
  unfold kvG
  split_ifs with h h'
  · rw [kpre_at A b a x0 x1 x2 x3 x4 x5 x6 x7 x8 x9 x10 x11 x12 x13 x14 x15 x16 H (by omega) ⟨ρ.val, h⟩ j d c hc]
  · rw [kmid_at A b a x0 x1 x2 x3 x4 x5 x6 x7 x8 x9 x10 x11 x12 x13 x14 x15 x16 H ⟨ρ.val - 128, by omega⟩ j d c hc]
    exact congrArg (fun s => A.k b s j d) (Fin.ext (by dsimp only; omega))
  · rw [kpost_at A b a x0 x1 x2 x3 x4 x5 x6 x7 x8 x9 x10 x11 x12 x13 x14 x15 x16 H (by omega) ⟨ρ.val - 640, by omega⟩ j d c hc]
    exact congrArg (fun s => A.k b s j d) (Fin.ext (by dsimp only; omega))

/-- The value scratch, likewise. -/
theorem vk_at (ρ : Fin 768) (j : Fin 2) (d : Fin 64) (c : Fin 128) (hc : c.val = 64 * j.val + d.val) (h0 : 128 ≤ 512 * a.val + ρ.val) (h1 : 512 * a.val + ρ.val < 4224) :
    Run.vk x0 x1 x2 x6 x7 (ix2 ρ c) = A.v b ⟨512 * a.val + ρ.val - 128, by omega⟩ j d := by
  unfold Run.vk Run.vv Args.v
  rw [kv_at]
  unfold kvG
  split_ifs with h h'
  · rw [pay21_at, halo_lo A b a x0 x1 x2 x3 x4 x5 x6 x7 x8 x9 x10 x11 x12 x13 x14 x15 x16 H (by omega) ⟨ρ.val, h⟩]
    exact congrArg (A.z b _) (Fin.ext (by dsimp only; omega))
  · rw [pay15_at]
    pointwise []
    rw [zv_at A b a x0 x1 x2 x3 x4 x5 x6 x7 x8 x9 x10 x11 x12 x13 x14 x15 x16 H]
    exact congrArg₂ (A.z b) (Fin.ext (by dsimp only; omega)) (Fin.ext (by dsimp only; omega))
  · rw [pay22_at, halo_hi A b a x0 x1 x2 x3 x4 x5 x6 x7 x8 x9 x10 x11 x12 x13 x14 x15 x16 H (by omega) ⟨ρ.val - 640, by omega⟩]
    exact congrArg₂ (A.z b) (Fin.ext (by dsimp only; omega)) (Fin.ext (by dsimp only; omega))

variable (hq : ∀ d, ∃ r : ℝ, A.qg d = r) (hk : ∀ d, ∃ r : ℝ, A.kg d = r) (hs : ∀ h, A.sk h ≠ ⊤)

omit H in
include hq hk in
/-- A score that the mask lets through is a real number. -/
theorem sc_real (n : Fin 32) (r : Fin 128) (h : Fin 8) (κ : Fin 384) (hv : valid n r κ) : ∃ x : ℝ, A.sc b n r h κ = x := by
  unfold Args.sc
  rw [if_pos hv]
  exact mul_real (sum_real Finset.univ (fun d => A.kw b n κ ⟨h.val / 4, by omega⟩ d * A.q b ⟨128 * n.val + r.val, by omega⟩ h d) fun d => mul_real
    (by unfold Args.kw; rw [dif_pos hv.2]; exact rope_real _ _ (rms_real _ _ hk) _) (rope_real _ _ (rms_real _ _ hq) _)) ⟨1 / 8, eighth_eq⟩

omit H in
include hq hk in
/-- The scores are never positive infinity. -/
theorem sc_ne_top (n : Fin 32) (r : Fin 128) (h : Fin 8) (κ : Fin 384) : A.sc b n r h κ ≠ ⊤ := by
  by_cases hv : valid n r κ
  · obtain ⟨x, hx⟩ := sc_real A b hq hk n r h κ hv
    rw [hx]
    exact EReal.coe_ne_top _
  · exact fun e => bot_ne_top ((if_neg hv).symm.trans e)

omit H in
include hq hk in
/-- A query row sees itself. -/
theorem sc_self (n : Fin 32) (r : Fin 128) (h : Fin 8) : ∃ κ, A.sc b n r h κ ≠ ⊥ := by
  obtain ⟨x, hx⟩ := sc_real A b hq hk n r h ⟨128 + r.val, by omega⟩ ⟨⟨by dsimp only; omega, by dsimp only; omega⟩, by dsimp only; omega, by dsimp only; omega⟩
  exact ⟨_, by rw [hx]; exact EReal.coe_ne_bot _⟩

omit H in
theorem eighth_nonneg : (0 : EReal) ≤ eighth := by rw [eighth_eq]; exact_mod_cast (by norm_num : (0 : ℝ) ≤ 1 / 8)
omit H in
theorem eighth_ne_top : eighth ≠ ⊤ := by rw [eighth_eq]; exact EReal.coe_ne_top _

/-- One score as the tile computes it. -/
theorem score_at (n : Fin 4) (j : Fin 2) (g : Fin 4) (r : Fin 128) (ρ : Fin 512) (hρ : ρ.val = 128 * g.val + r.val) (κ : Fin 384) :
    Scalar.select (Run.msk (BitVec.ofNat 32 a.val) (BitVec.ofNat 32 n.val) (ix2 ρ κ))
      (∑ e : Fin 64, (Run.qk x0 x3 x6 x7 x8 x12) (ix2 ⟨128 * n.val + r.val, by omega⟩ ⟨256 * j.val + 64 * g.val + e.val, by omega⟩)
        * (Run.kk x0 x1 x2 x3 x4 x5 x6 x7 x9 x12) (ix2 ⟨128 * n.val + κ.val, by omega⟩ ⟨64 * j.val + e.val, by omega⟩)) ⊥
      = A.sc b ⟨4 * a.val + n.val, by omega⟩ r ⟨4 * j.val + g.val, by omega⟩ κ := by
  have hm := msk_at a n ρ κ r ⟨4 * a.val + n.val, by omega⟩ (by omega) rfl
  unfold Args.sc
  by_cases hv : valid ⟨4 * a.val + n.val, by omega⟩ r κ
  · rw [if_pos hv, hm.2 hv]
    refine (if_pos rfl).trans (Eq.trans ?_ (sum_mul Finset.univ _ eighth_nonneg eighth_ne_top))
    refine Finset.sum_congr rfl fun e _ => ?_
    have hv2 := hv.2
    dsimp only at hv2
    unfold Args.kw
    rw [dif_pos hv.2, qk_at A b a x0 x1 x2 x3 x4 x5 x6 x7 x8 x9 x10 x11 x12 x13 x14 x15 x16 H ⟨128 * n.val + r.val, by omega⟩ ⟨4 * j.val + g.val, by omega⟩ e _ (by dsimp only; omega),
      kk_at A b a x0 x1 x2 x3 x4 x5 x6 x7 x8 x9 x10 x11 x12 x13 x14 x15 x16 H ⟨128 * n.val + κ.val, by omega⟩ j e _ rfl (by dsimp only; omega) (by dsimp only; omega)]
    have e1 : (⟨512 * a.val + (⟨128 * n.val + r.val, by omega⟩ : Fin 512).val, by dsimp only; omega⟩ : Fin 4096) = ⟨128 * (⟨4 * a.val + n.val, by omega⟩ : Fin 32).val + r.val, by dsimp only; omega⟩ := Fin.ext (by dsimp only; omega)
    have e2 : (⟨512 * a.val + (⟨128 * n.val + κ.val, by omega⟩ : Fin 768).val - 128, by dsimp only; omega⟩ : Fin 4096) = ⟨128 * (⟨4 * a.val + n.val, by omega⟩ : Fin 32).val + κ.val - 128, by dsimp only; omega⟩ := Fin.ext (by dsimp only; omega)
    have e3 : (⟨(⟨4 * j.val + g.val, by omega⟩ : Fin 8).val / 4, by dsimp only; omega⟩ : Fin 2) = j := Fin.ext (by dsimp only; omega)
    rw [e1, e2, e3, mul_right_comm, mul_comm (A.q _ _ _ _)]
  · rw [if_neg hv]
    exact if_neg fun h => hv (hm.1 h)

include hq hk hs
/-- The attention of one query row, as the tile computes it. -/
theorem att_at (n : Fin 4) (j : Fin 2) (g : Fin 4) (r : Fin 128) (ρ : Fin 512) (hρ : ρ.val = 128 * g.val + r.val) (d : Fin 64) :
    Run.att (BitVec.ofNat 32 a.val) (Run.qk x0 x3 x6 x7 x8 x12) (Run.kk x0 x1 x2 x3 x4 x5 x6 x7 x9 x12) (Run.vk x0 x1 x2 x6 x7) x10 n j (ix2 ρ d)
      = A.att b ⟨4 * a.val + n.val, by omega⟩ r ⟨4 * j.val + g.val, by omega⟩ d := by
  unfold Run.att Args.att
  refine (pay25_at _ (fun g : Fin 4 => View.ld (Run.qk x0 x3 x6 x7 x8 x12) (Rect.unit ![128 * n.val, 256 * j.val + 64 * g.val] S128x64.size (Run.inq n j g))) _ _ _ ρ d g r hρ).trans ?_
  pointwise []
  simp only [score_at A b a x0 x1 x2 x3 x4 x5 x6 x7 x8 x9 x10 x11 x12 x13 x14 x15 x16 H n j g r ρ hρ]
  rw [H.h10]
  have e3 : (⟨4 * j.val + ρ.val / 128, by omega⟩ : Fin 8) = ⟨4 * j.val + g.val, by omega⟩ := Fin.ext (by dsimp only; omega)
  rw [e3]
  refine attn_eq _ _ _ _ (hs _) (sc_ne_top A b hq hk _ _ _) (sc_self A b hq hk _ _ _) fun κ hκ => ?_
  have hv : valid ⟨4 * a.val + n.val, by omega⟩ r κ := by
    by_contra hv
    exact hκ (if_neg hv)
  have hv2 := hv.2
  dsimp only at hv2
  unfold Args.vw
  rw [dif_pos hv.2, vk_at A b a x0 x1 x2 x3 x4 x5 x6 x7 x8 x9 x10 x11 x12 x13 x14 x15 x16 H ⟨128 * n.val + κ.val, by omega⟩ j d _ rfl (by dsimp only; omega) (by dsimp only; omega)]
  have e2 : (⟨512 * a.val + (⟨128 * n.val + κ.val, by omega⟩ : Fin 768).val - 128, by dsimp only; omega⟩ : Fin 4096) = ⟨128 * (⟨4 * a.val + n.val, by omega⟩ : Fin 32).val + κ.val - 128, by dsimp only; omega⟩ := Fin.ext (by dsimp only; omega)
  have e4 : (⟨(⟨4 * j.val + g.val, by omega⟩ : Fin 8).val / 4, by dsimp only; omega⟩ : Fin 2) = j := Fin.ext (by dsimp only; omega)
  rw [e2, e4]

end Cert.KernelIdeal.Val

end
-- ==== Proof.KvC.lean ====
/- The sequence mixing the kernel computes, read at plain coordinates. -/
module

public import proofs.«01_k».proof.Proof.Gen.KernelIdeal.Skeleton
public import proofs.«01_k».proof.Proof.Mth
public import Idealize.ShloMosaic.Lib.Pointwise
public import proofs.«01_k».proof.Proof.KvB

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

theorem gelu_eq' (x : EReal) : half * x * (1 + FloatOps.erf (F := Ideal) (φ := .f32) (x * rt)) = gelu x := gelu_eq x

/-- The normed gating values. -/
theorem pay88_at (bd : FVec Ideal S512x512 .bf16) (z : Vec Ideal S128x512 .f32) (g : Vec Ideal S1x512 .f32) (G : Fin 64 → EReal) (r : Fin 128)
    (hbd : ∀ x c : Fin 512, bd (ix2 x c) = if x.val / 64 = c.val / 64 then ((1 / 64 : ℝ) : EReal) else 0)
    (h : Fin 8) (hg : ∀ d : Fin 64, g (ix2 0 ⟨64 * h.val + d.val, by omega⟩) = G d) (d : Fin 64) (c : Fin 512) (hc : c.val = 64 * h.val + d.val) :
    k0_pay88 (F := Ideal) bd z g (ix2 r c) = rmsN c64 (fun e => gelu (z (ix2 r ⟨64 * h.val + e.val, by omega⟩))) G d := by
  pointwise [k0_pay88]
  simp only [gelu_eq']
  exact head_norm 8 (fun x => gelu (z (ix2 r x))) (fun x => g (ix2 0 x)) G (fun x c => bd (ix2 x c)) hbd h hg d c hc

/-- The number of a column's group, as the kernel computes it. -/
def grpW (w : BitVec 32) : BitVec 32 :=
  Scalar.select (IntOp.andi
        (IntOp.cmpi .ne
          (IntOp.subi (BitVec.setWidth 32 (IntOp.cmpi .sgt w 0#32)) (BitVec.setWidth 32 (IntOp.cmpi .slt w 0#32)))
          (Scalar.subi (Scalar.extui (Scalar.cmpi .sgt 64#32 0#32)) (Scalar.extui (Scalar.cmpi .slt 64#32 0#32))))
        (IntOp.cmpi .ne (IntOp.remsi .vector w 64#32) 0#32))
      (IntOp.subi (IntOp.divsi .vector w 64#32) 1#32) (IntOp.divsi .vector w 64#32)

theorem grpW_eq : ∀ c : Fin 256, grpW (BitVec.ofNat 32 c.val) = BitVec.ofNat 32 (c.val / 64) := by decide +kernel

theorem grp_at (p : Fin 128) (c : Fin 256) : k0_pay87 k0_pay84 k0_pay85 k0_pay86 (ix2 p c) = BitVec.ofNat 32 (c.val / 64) := by
  rw [← grpW_eq]
  unfold grpW
  pointwise [k0_pay87, k0_pay84, k0_pay85, k0_pay86]

theorem eq_word : ∀ g j : Fin 4, IntOp.cmpi .eq (BitVec.ofNat 32 g.val) (![0#32, 1#32, 2#32, 3#32] j) = if j = g then 1#1 else 0#1 := by decide +kernel

/-- A product with the four masked copies of a column is the product with the column's own group. -/
theorem mixsum (W : Fin 512 → EReal) (V : Fin 128 → EReal) (g : Fin 4) (w : BitVec 32) (hw : w = BitVec.ofNat 32 g.val) :
    ∑ x : Fin 512, W x * (if h : x.val < 128 then Scalar.select (IntOp.cmpi .eq w 0#32) (V ⟨x.val, h⟩) 0
      else if h : x.val - 128 < 128 then Scalar.select (IntOp.cmpi .eq w 1#32) (V ⟨x.val - 128, h⟩) 0
      else if h : x.val - 128 - 128 < 128 then Scalar.select (IntOp.cmpi .eq w 2#32) (V ⟨x.val - 128 - 128, h⟩) 0
      else Scalar.select (IntOp.cmpi .eq w 3#32) (V ⟨x.val - 128 - 128 - 128, by omega⟩) 0)
      = ∑ k : Fin 128, V k * W ⟨128 * g.val + k.val, by omega⟩ := by
  subst hw
  rw [Fin.sum_univ_tiles 4 128 rfl, Finset.sum_eq_single g]
  · refine Finset.sum_congr rfl fun t _ => ?_
    refine (congrArg (W _ * ·) (lad4r (fun j t => Scalar.select (IntOp.cmpi .eq (BitVec.ofNat 32 g.val) (![0#32, 1#32, 2#32, 3#32] j)) (V t) 0)
      ⟨g.val * 128 + t.val, by omega⟩ g t (by show g.val * 128 + t.val = _; omega))).trans ?_
    show W _ * Scalar.select (IntOp.cmpi .eq (BitVec.ofNat 32 g.val) (![0#32, 1#32, 2#32, 3#32] g)) (V t) 0 = _
    rw [eq_word, if_pos rfl]
    show W _ * V t = _
    rw [mul_comm]
    exact congrArg (V t * W ·) (Fin.ext (by show g.val * 128 + t.val = 128 * g.val + t.val; omega))
  · intro j _ hj
    refine Finset.sum_eq_zero fun t _ => ?_
    refine (congrArg (W _ * ·) (lad4r (fun j t => Scalar.select (IntOp.cmpi .eq (BitVec.ofNat 32 g.val) (![0#32, 1#32, 2#32, 3#32] j)) (V t) 0)
      ⟨j.val * 128 + t.val, by omega⟩ j t (by show j.val * 128 + t.val = _; omega))).trans ?_
    show W _ * Scalar.select (IntOp.cmpi .eq (BitVec.ofNat 32 g.val) (![0#32, 1#32, 2#32, 3#32] j)) (V t) 0 = _
    rw [eq_word, if_neg hj]
    exact mul_zero _
  · intro h; exact absurd (Finset.mem_univ _) h

/-- The spatially mixed values. -/
theorem pay94_at (bd : FVec Ideal S512x512 .bf16) (z : Vec Ideal S128x512 .f32) (g : Vec Ideal S1x512 .f32)
    (wA wB : Vec Ideal S128x512 .bf16) (bs : Vec Ideal S128x512 .f32) (W : Fin 1024 → EReal) (p : Fin 128)
    (hA : ∀ x : Fin 512, wA (ix2 p x) = W ⟨x.val, by omega⟩) (hB : ∀ x : Fin 512, wB (ix2 p x) = W ⟨512 + x.val, by omega⟩)
    (h : Fin 8) (c : Fin 512) (hc : c.val / 64 = h.val) :
    k0_pay94 (F := Ideal) (k0_pay87 k0_pay84 k0_pay85 k0_pay86) (k0_pay88 bd z g) (k0_pay90 bd k0_pay84 k0_pay85 k0_pay86 z g)
      (k0_pay91 bd k0_pay84 k0_pay85 k0_pay86 z g) (k0_pay92 bd k0_pay84 k0_pay85 k0_pay86 z g) (k0_pay93 bd k0_pay84 k0_pay85 k0_pay86 z g)
      wA wB bs (ix2 p c) = ∑ q : Fin 128, k0_pay88 (F := Ideal) bd z g (ix2 q c) * W ⟨128 * h.val + q.val, by omega⟩ + bs (ix2 p c) := by
  pointwise [k0_pay94, k0_pay90, k0_pay91, k0_pay92, k0_pay93, k0_pay89, grp_at]
  refine congrArg (· + _) ?_
  have hh := h.isLt
  by_cases h1 : c.val < 256
  · rw [dif_pos h1]
    refine (mixsum (fun x => wA (ix2 p x)) (fun q => k0_pay88 (F := Ideal) bd z g (ix2 q c)) ⟨c.val / 64, by omega⟩ _ rfl).trans (Finset.sum_congr rfl fun q _ => ?_)
    refine congrArg (_ * ·) ((hA _).trans (congrArg W (Fin.ext ?_)))
    show 128 * (c.val / 64) + q.val = 128 * h.val + q.val
    omega
  · rw [dif_neg h1]
    have e : (⟨256 + (c.val - 256), by omega⟩ : Fin 512) = c := Fin.ext (by show 256 + (c.val - 256) = c.val; omega)
    refine (mixsum (fun x => wB (ix2 p x)) (fun q => k0_pay88 (F := Ideal) bd z g (ix2 q ⟨256 + (c.val - 256), by omega⟩)) ⟨(c.val - 256) / 64, by omega⟩ _ rfl).trans (Finset.sum_congr rfl fun q _ => ?_)
    rw [e]
    refine congrArg (_ * ·) ((hB _).trans (congrArg W (Fin.ext ?_)))
    show 512 + (128 * ((c.val - 256) / 64) + q.val) = 128 * h.val + q.val
    omega

/-- The gate of the mixed values. -/
theorem pay97_at (m u : FVec Ideal S128x512 .f32) (p : Fin 128) (c : Fin 512) :
    k0_pay97 (F := Ideal) m (k0_pay95 u) (k0_pay96 u) (Scalar.ofBits .f32 0x3F800000#32) (ix2 p c) = gelu (u (ix2 p c)) * m (ix2 p c) := by
  pointwise [k0_pay97, k0_pay95, k0_pay96]
  exact congrArg (· * _) (gelu_eq' _)

end Cert.KernelIdeal.Val

end
-- ==== Proof.KvI.lean ====
/- The sequence mixing of a tile. -/
module

public import proofs.«01_k».proof.Proof.KvC
public import proofs.«01_k».proof.Proof.KvE
public import proofs.«01_k».proof.Proof.KvG

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

variable (A : Args) (b a : Fin 8) (x0 : Vec Ideal S1x512x1024 .f32) (x1 x2 : Vec Ideal S1x128x1024 .f32) (x3 : Vec Ideal S512x384 .f32) (x4 x5 : Vec Ideal S128x384 .f32)
  (x6 : Vec Ideal S1x1024 .f32) (x7 : Vec Ideal S1024x3840 .bf16) (x8 : Vec Ideal S1x512 .f32) (x9 : Vec Ideal S1x128 .f32) (x10 : Vec Ideal S2x512x1 .f32)
  (x11 : Vec Ideal S1x512 .f32) (x12 : Vec Ideal S512x512 .bf16) (x13 : Vec Ideal S128x1024 .bf16) (x14 : Vec Ideal S128x512 .f32) (x15 : Vec Ideal S2x512x1024 .bf16)
  (x16 : Vec Ideal S1024x1024 .bf16)

variable (H : Blk A b a x0 x1 x2 x3 x4 x5 x6 x7 x8 x9 x10 x11 x12 x13 x14 x15 x16)
include H

/-- The gated sequence mixing, as the tile computes it. -/
theorem gml_at (n : Fin 4) (p : Fin 128) (c : Fin 512) :
    Run.gml (Run.bdv x12) (Run.zv x0 x6 x7) x11 x13 x14 n (ix2 p c)
      = A.gm b ⟨4 * a.val + n.val, by omega⟩ p ⟨c.val / 64, by omega⟩ ⟨c.val % 64, Nat.mod_lt _ (by omega)⟩ := by
  unfold Run.gml Run.gmw Args.gm Args.mix Args.vn
  rw [pay97_at]
  rw [pay94_at _ _ _ _ _ _ (fun x => A.ws ⟨x.val / 128, by omega⟩ p ⟨x.val % 128, Nat.mod_lt _ (by omega)⟩) p (fun x => by pointwise []; exact H.h13 p _) (fun x => by pointwise []; exact H.h13 p _) ⟨c.val / 64, by omega⟩ c rfl]
  have e : ∀ q : Fin 128, k0_pay88 (F := Ideal) (Run.bdv x12) (View.ld (Run.zv x0 x6 x7) (Rect.unit ![128 * n.val, 1280] S128x512.size (Run.inz1 n)))
      (View.ld x11 (Rect.unit ![0, 0] S1x512.size inb_S1x512_S1x512_0_0)) (ix2 q c)
      = rmsN c64 (fun d : Fin 64 => gelu (A.z b ⟨128 * (4 * a.val + n.val) + q.val, by omega⟩ ⟨1280 + 64 * (c.val / 64) + d.val, by omega⟩)) (A.vg ⟨c.val / 64, by omega⟩) ⟨c.val % 64, Nat.mod_lt _ (by omega)⟩ := fun q => by
    rw [pay88_at _ _ _ (A.vg ⟨c.val / 64, by omega⟩) q (bdv_at A b a x0 x1 x2 x3 x4 x5 x6 x7 x8 x9 x10 x11 x12 x13 x14 x15 x16 H) ⟨c.val / 64, by omega⟩ (fun d => by
      pointwise []
      rw [H.h11]
      exact congrArg₂ A.vg (Fin.ext (by dsimp only; omega)) (Fin.ext (by dsimp only; omega))) ⟨c.val % 64, Nat.mod_lt _ (by omega)⟩ c (by dsimp only; omega)]
    pointwise []
    simp only [zv_at A b a x0 x1 x2 x3 x4 x5 x6 x7 x8 x9 x10 x11 x12 x13 x14 x15 x16 H]
    have es : (⟨512 * a.val + (128 * n.val + q.val), by omega⟩ : Fin 4096) = ⟨128 * (4 * a.val + n.val) + q.val, by omega⟩ := Fin.ext (by dsimp only; omega)
    have en : ∀ d : Fin 64, (⟨1280 + (64 * (c.val / 64) + d.val), by omega⟩ : Fin 3840) = ⟨1280 + 64 * (c.val / 64) + d.val, by omega⟩ := fun d => Fin.ext (by dsimp only; omega)
    simp only [es, en]
  simp only [e]
  pointwise []
  rw [zv_at A b a x0 x1 x2 x3 x4 x5 x6 x7 x8 x9 x10 x11 x12 x13 x14 x15 x16 H, H.h14]
  have es : (⟨512 * a.val + (128 * n.val + p.val), by omega⟩ : Fin 4096) = ⟨128 * (4 * a.val + n.val) + p.val, by omega⟩ := Fin.ext (by dsimp only; omega)
  have en : (⟨768 + c.val, by omega⟩ : Fin 3840) = ⟨768 + 64 * (c.val / 64) + c.val % 64, by omega⟩ := Fin.ext (by dsimp only; omega)
  have ew : ∀ q : Fin 128, A.ws ⟨(128 * (c.val / 64) + q.val) / 128, by omega⟩ p ⟨(128 * (c.val / 64) + q.val) % 128, Nat.mod_lt _ (by omega)⟩ = A.ws ⟨c.val / 64, by omega⟩ p q := fun q => by
    have e1 : (⟨(128 * (c.val / 64) + q.val) / 128, by omega⟩ : Fin 8) = ⟨c.val / 64, by omega⟩ := Fin.ext (by dsimp only; omega)
    have e2 : (⟨(128 * (c.val / 64) + q.val) % 128, Nat.mod_lt _ (by omega)⟩ : Fin 128) = q := Fin.ext (by dsimp only; omega)
    rw [e1, e2]
  simp only [es, en, ew]

end Cert.KernelIdeal.Val

end
-- ==== Proof.KvJ.lean ====
/- The result of a tile. -/
module

public import proofs.«01_k».proof.Proof.KvD
public import proofs.«01_k».proof.Proof.KvH
public import proofs.«01_k».proof.Proof.KvI

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

variable (A : Args) (b a : Fin 8) (x0 : Vec Ideal S1x512x1024 .f32) (x1 x2 : Vec Ideal S1x128x1024 .f32) (x3 : Vec Ideal S512x384 .f32) (x4 x5 : Vec Ideal S128x384 .f32)
  (x6 : Vec Ideal S1x1024 .f32) (x7 : Vec Ideal S1024x3840 .bf16) (x8 : Vec Ideal S1x512 .f32) (x9 : Vec Ideal S1x128 .f32) (x10 : Vec Ideal S2x512x1 .f32)
  (x11 : Vec Ideal S1x512 .f32) (x12 : Vec Ideal S512x512 .bf16) (x13 : Vec Ideal S128x1024 .bf16) (x14 : Vec Ideal S128x512 .f32) (x15 : Vec Ideal S2x512x1024 .bf16)
  (x16 : Vec Ideal S1024x1024 .bf16)

variable (H : Blk A b a x0 x1 x2 x3 x4 x5 x6 x7 x8 x9 x10 x11 x12 x13 x14 x15 x16)
include H

/-- The sequence mixing of a tile, row by row. -/
theorem gvA_at (r c : Fin 512) :
    Run.gv (Run.bdv x12) (Run.zv x0 x6 x7) x11 x13 x14 (ix2 r c)
      = A.gm b ⟨(512 * a.val + r.val) / 128, by omega⟩ ⟨(512 * a.val + r.val) % 128, Nat.mod_lt _ (by omega)⟩ ⟨c.val / 64, by omega⟩ ⟨c.val % 64, Nat.mod_lt _ (by omega)⟩ := by
  rw [gv_at, gml_at A b a x0 x1 x2 x3 x4 x5 x6 x7 x8 x9 x10 x11 x12 x13 x14 x15 x16 H]
  have e1 : (⟨4 * a.val + (⟨r.val / 128, by omega⟩ : Fin 4).val, by dsimp only; omega⟩ : Fin 32) = ⟨(512 * a.val + r.val) / 128, by omega⟩ := Fin.ext (by dsimp only; omega)
  have e2 : (⟨r.val % 128, Nat.mod_lt _ (by omega)⟩ : Fin 128) = ⟨(512 * a.val + r.val) % 128, Nat.mod_lt _ (by omega)⟩ := Fin.ext (by dsimp only; omega)
  rw [e1, e2]

variable (hq : ∀ d, ∃ r : ℝ, A.qg d = r) (hk : ∀ d, ∃ r : ℝ, A.kg d = r) (hs : ∀ h, A.sk h ≠ ⊤)
include hq hk hs
/-- The attention of a tile, row by row. -/
theorem avA_at (r c : Fin 512) :
    Run.av (BitVec.ofNat 32 a.val) (Run.qk x0 x3 x6 x7 x8 x12) (Run.kk x0 x1 x2 x3 x4 x5 x6 x7 x9 x12) (Run.vk x0 x1 x2 x6 x7) x10 (ix2 r c)
      = A.att b ⟨(512 * a.val + r.val) / 128, by omega⟩ ⟨(512 * a.val + r.val) % 128, Nat.mod_lt _ (by omega)⟩ ⟨c.val / 64, by omega⟩ ⟨c.val % 64, Nat.mod_lt _ (by omega)⟩ := by
  rw [av_at, att_at A b a x0 x1 x2 x3 x4 x5 x6 x7 x8 x9 x10 x11 x12 x13 x14 x15 x16 H hq hk hs ⟨r.val / 128, by omega⟩ ⟨c.val / 256, by omega⟩ ⟨c.val / 64 % 4, Nat.mod_lt _ (by omega)⟩ ⟨r.val % 128, Nat.mod_lt _ (by omega)⟩ _ rfl _]
  have e1 : (⟨4 * a.val + (⟨r.val / 128, by omega⟩ : Fin 4).val, by dsimp only; omega⟩ : Fin 32) = ⟨(512 * a.val + r.val) / 128, by omega⟩ := Fin.ext (by dsimp only; omega)
  have e2 : (⟨r.val % 128, Nat.mod_lt _ (by omega)⟩ : Fin 128) = ⟨(512 * a.val + r.val) % 128, Nat.mod_lt _ (by omega)⟩ := Fin.ext (by dsimp only; omega)
  have e3 : (⟨4 * (⟨c.val / 256, by omega⟩ : Fin 2).val + (⟨c.val / 64 % 4, Nat.mod_lt _ (by omega)⟩ : Fin 4).val, by dsimp only; omega⟩ : Fin 8) = ⟨c.val / 64, by omega⟩ := Fin.ext (by dsimp only; omega)
  rw [e1, e2, e3]

/-- The block of the result: the mixer's first result at the tile's rows. -/
theorem h1v_at (r : Fin 512) (d : Fin 1024) :
    Run.h1v (BitVec.ofNat 32 a.val) x0 x1 x2 x3 x4 x5 x6 x7 x8 x9 x10 x11 x12 x13 x14 x15 x16 (ix3 0 r d) = A.h1 b ⟨512 * a.val + r.val, by omega⟩ d := by
  unfold Run.h1v Run.hv Args.h1
  rw [pay126_at, xv_at A b a x0 x1 x2 x3 x4 x5 x6 x7 x8 x9 x10 x11 x12 x13 x14 x15 x16 H]
  have g0 : ∀ e, Run.za (Run.zv x0 x6 x7) (ix2 r e) = A.z b ⟨512 * a.val + r.val, by omega⟩ ⟨1792 + e.val, by omega⟩ := fun e => by
    unfold Run.za
    pointwise []
    exact zv_at A b a x0 x1 x2 x3 x4 x5 x6 x7 x8 x9 x10 x11 x12 x13 x14 x15 x16 H r _
  have g1 : ∀ e, Run.zb (Run.zv x0 x6 x7) (ix2 r e) = A.z b ⟨512 * a.val + r.val, by omega⟩ ⟨2816 + e.val, by omega⟩ := fun e => by
    unfold Run.zb
    pointwise []
    exact zv_at A b a x0 x1 x2 x3 x4 x5 x6 x7 x8 x9 x10 x11 x12 x13 x14 x15 x16 H r _
  have w : ∀ e, Run.wv x16 (ix2 e d) = A.wo e d := fun e => by
    unfold Run.wv
    pointwise []
    exact H.h16 _ _
  have y0 : ∀ e, Run.y0v (BitVec.ofNat 32 a.val) x0 x1 x2 x3 x4 x5 x6 x7 x8 x9 x10 x12 x15 (ix2 r e) = ∑ c, A.wb 0 c e * A.br b ⟨512 * a.val + r.val, by omega⟩ 0 c := fun e => by
    unfold Run.y0v Run.yv0 Args.br
    rw [pay123_at]
    pointwise []
    refine Finset.sum_congr rfl fun c _ => ?_
    rw [avA_at A b a x0 x1 x2 x3 x4 x5 x6 x7 x8 x9 x10 x11 x12 x13 x14 x15 x16 H hq hk hs, H.h15, mul_comm]
  have y1 : ∀ e, Run.y1v x0 x6 x7 x11 x12 x13 x14 x15 (ix2 r e) = ∑ c, A.wb 1 c e * A.br b ⟨512 * a.val + r.val, by omega⟩ 1 c := fun e => by
    unfold Run.y1v Run.yv1 Args.br
    rw [pay124_at]
    pointwise []
    refine Finset.sum_congr rfl fun c _ => ?_
    rw [gvA_at A b a x0 x1 x2 x3 x4 x5 x6 x7 x8 x9 x10 x11 x12 x13 x14 x15 x16 H, H.h15, mul_comm]
  simp only [g0, g1, w, y0, y1]
  unfold Args.mrg
  simp only [Fin.sum_univ_two]
  rfl

end Cert.KernelIdeal.Val

end
-- ==== Proof.KvT.lean ====
/- The position table. -/
module

public import proofs.«01_k».proof.Proof.Frame
public import proofs.«01_k».proof.Proof.Mth
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

/-- The angles' table. -/
def t67 : FVec Ideal S4096x8 .f32 :=
  mulf (broadcastInDim S4096x8 ![0, 1] bcast_S4096x1_S4096x8_0_1
          (broadcastInDim S4096x1 ![0] bcast_S4096_S4096x1_0 (sitofp FTy.f32 (iotaInDim S4096 32 0))))
        (broadcastInDim S4096x8 ![0, 1] bcast_S1x8_S4096x8_0_1
          (broadcastInDim S1x8 ![1] bcast_S8_S1x8_1
            (Host.powf (broadcastInDim S8 ![] bcast_S_S8 (constant S_ FTy.f32 0x48F42400#32))
              (mulf (Host.negf (sitofp FTy.f32 (iotaInDim S8 32 0)))
                (broadcastInDim S8 ![] bcast_S_S8 (constant S_ FTy.f32 0x3E000000#32))))))
/-- The constant columns. -/
def o70 : FVec Ideal S4096x48 .f32 := broadcastInDim S4096x48 ![] bcast_S_S4096x48 (constant S_ .f32 0x3F800000#32)
def o71 : FVec Ideal S4096x56 .f32 := broadcastInDim S4096x56 ![] bcast_S_S4096x56 (constant S_ .f32 0x00000000#32)
def o75 : FVec Ideal S4096x8 .f32 := broadcastInDim S4096x8 ![] bcast_S_S4096x8 (constant S_ .f32 0x00000000#32)
/-- The three groups of 64 columns. -/
def t72 : FVec Ideal S4096x64 .f32 := concatenate S4096x64 1 [⟨S4096x8, Host.cos t67⟩, ⟨S4096x8, Host.cos t67⟩, ⟨S4096x48, o70⟩] concatenates_S4096x8_S4096x8_S4096x48_S4096x64_d1
def t74 : FVec Ideal S4096x64 .f32 := concatenate S4096x64 1 [⟨S4096x8, Host.negf (Host.sin t67)⟩, ⟨S4096x56, o71⟩] concatenates_S4096x8_S4096x56_S4096x64_d1
def t77 : FVec Ideal S4096x64 .f32 := concatenate S4096x64 1 [⟨S4096x8, o75⟩, ⟨S4096x8, Host.sin t67⟩, ⟨S4096x48, extractStridedSlice S4096x48 ![0, 8] o71 slices_S4096x56_S4096x48_0_8⟩] concatenates_S4096x8_S4096x8_S4096x48_S4096x64_d1
/-- Twice side by side. -/
def two (t : FVec Ideal S4096x64 .f32) : FVec Ideal S4096x128 .f32 := concatenate S4096x128 1 [⟨S4096x64, t⟩, ⟨S4096x64, t⟩] concatenates_S4096x64_S4096x64_S4096x128_d1
/-- The position table. -/
def t81 : FVec Ideal S4096x384 .f32 := concatenate S4096x384 1 [⟨S4096x128, two t72⟩, ⟨S4096x128, two t74⟩, ⟨S4096x128, two t77⟩] concatenates_S4096x128_S4096x128_S4096x128_S4096x384_d1

theorem cat3 {s s1 s2 s3 : Shape} {d} {α : Type} {a a' : s1.Idx → α} {b b' : s2.Idx → α} {c c' : s3.Idx → α} (ha : a = a') (hb : b = b') (hc : c = c') (h) :
    concatenate s d [⟨s1, a⟩, ⟨s2, b⟩, ⟨s3, c⟩] h = concatenate s d [⟨s1, a'⟩, ⟨s2, b'⟩, ⟨s3, c'⟩] h := by subst ha hb hc; rfl
theorem cat2 {s s1 s2 : Shape} {d} {α : Type} {a a' : s1.Idx → α} {b b' : s2.Idx → α} (ha : a = a') (hb : b = b') (h) :
    concatenate s d [⟨s1, a⟩, ⟨s2, b⟩] h = concatenate s d [⟨s1, a'⟩, ⟨s2, b'⟩] h := by subst ha hb; rfl

variable (m : (ℓ : Loc nD τ sig) → Buf (Elt Ideal) ℓ) (c : Dev nD)

set_option maxHeartbeats 1600000 in
/-- The position table, from the host operations. -/
theorem V_81 : V m c main_v81 = t81 := by
  unfold V
  simp only [hostOps0, hostOps0_1, hostOps0_2, hostOps0_3, hostOps0_4, hostOps0_5, hostOps0_6, List.flatten_cons, List.flatten_nil, List.append_nil, List.cons_append, List.nil_append]
  after_reads_simp
  refine cat3 ?_ ?_ ?_ _
  · dsimp only [Matrix.cons_val]
    after_reads_simp
    refine cat2 ?_ ?_ _ <;> refine cat3 ?_ ?_ ?_ _ <;> (dsimp only [Matrix.cons_val]; after_results_loop; rfl)
  · dsimp only [Matrix.cons_val]
    after_reads_simp
    refine cat2 ?_ ?_ _ <;> rfl
  · dsimp only [Matrix.cons_val]
    after_reads_simp
    refine cat2 ?_ ?_ _ <;> refine cat3 ?_ ?_ ?_ _ <;> (dsimp only [Matrix.cons_val]; after_results_loop; rfl)

theorem sitofp_ofNat (s : ℕ) (h : s < 2 ^ 31) : FloatOps.sitofp (F := Ideal) .f32 (BitVec.ofNat 32 s) = ((s : ℝ) : EReal) := by
  have e : (BitVec.ofNat 32 s).toInt = (s : ℤ) := by
    rw [BitVec.toInt_eq_toNat_cond, BitVec.toNat_ofNat, Nat.mod_eq_of_lt (by omega), if_pos (by omega)]
  show (((BitVec.ofNat 32 s).toInt : ℝ) : EReal) = _
  rw [e, Int.cast_natCast]

theorem t67_at (s : Fin 4096) (f : Fin 8) : t67 (ix2 s f) = ang s.val f.val := by
  pointwise [t67]
  rw [sitofp_ofNat _ (by omega), sitofp_ofNat _ (by omega)]
  rfl

theorem t72_at (s : Fin 4096) (l : Fin 64) : t72 (ix2 s l) = csS s.val l.val := by
  unfold csS
  pointwise [t72, o70]
  simp only [t67_at]
  split_ifs <;> first | rfl | omega
theorem t74_at (s : Fin 4096) (l : Fin 64) : t74 (ix2 s l) = loS s.val l.val := by
  unfold loS
  pointwise [t74, o71]
  simp only [t67_at]
  split_ifs <;> first | rfl | omega
theorem t77_at (s : Fin 4096) (l : Fin 64) : t77 (ix2 s l) = hiS s.val l.val := by
  unfold hiS
  pointwise [t77, o71, o75]
  simp only [t67_at]
  split_ifs <;> first | rfl | omega

theorem two_at (t : FVec Ideal S4096x64 .f32) (s : Fin 4096) (l : Fin 128) : two t (ix2 s l) = t (ix2 s ⟨l.val % 64, Nat.mod_lt _ (by decide)⟩) := by
  pointwise [two]
  split_ifs <;> exact congrArg (fun x => t (ix2 s x)) (Fin.ext (by dsimp only; omega))

theorem cat_at (a b d : FVec Ideal S4096x128 .f32) (h) (s : Fin 4096) (l : Fin 128) :
    concatenate S4096x384 1 [⟨S4096x128, a⟩, ⟨S4096x128, b⟩, ⟨S4096x128, d⟩] h (ix2 s ⟨l.val, by omega⟩) = a (ix2 s l)
    ∧ concatenate S4096x384 1 [⟨S4096x128, a⟩, ⟨S4096x128, b⟩, ⟨S4096x128, d⟩] h (ix2 s ⟨128 + l.val, by omega⟩) = b (ix2 s l)
    ∧ concatenate S4096x384 1 [⟨S4096x128, a⟩, ⟨S4096x128, b⟩, ⟨S4096x128, d⟩] h (ix2 s ⟨256 + l.val, by omega⟩) = d (ix2 s l) := by
  refine ⟨?_, ?_, ?_⟩
  · pointwise []
    try rw [dif_pos (by omega)]
  · pointwise []
    try rw [dif_neg (by omega), dif_pos (by omega)]
    try exact congrArg (fun x => b (ix2 s x)) (Fin.ext (by dsimp only; omega))
  · pointwise []
    try rw [dif_neg (by omega), dif_neg (by omega)]
    try exact congrArg (fun x => d (ix2 s x)) (Fin.ext (by dsimp only; omega))

/-- The position table, column by column. -/
theorem t81_at (s : Fin 4096) (l : Fin 128) : t81 (ix2 s ⟨l.val, by omega⟩) = csS s.val (l.val % 64)
    ∧ t81 (ix2 s ⟨128 + l.val, by omega⟩) = loS s.val (l.val % 64) ∧ t81 (ix2 s ⟨256 + l.val, by omega⟩) = hiS s.val (l.val % 64) := by
  have h := cat_at (two t72) (two t74) (two t77) concatenates_S4096x128_S4096x128_S4096x128_S4096x384_d1 s l
  exact ⟨h.1.trans ((two_at _ s l).trans (t72_at s _)), h.2.1.trans ((two_at _ s l).trans (t74_at s _)), h.2.2.trans ((two_at _ s l).trans (t77_at s _))⟩

end Cert.KernelIdeal.Val

end
-- ==== Proof.KvF.lean ====
/- The operands the host operations prepare. -/
module

public import proofs.«01_k».proof.Proof.Frame
public import proofs.«01_k».proof.Proof.KvT
public import proofs.«01_k».proof.Proof.KvS
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

variable (m : (ℓ : Loc nD τ sig) → Buf (Elt Ideal) ℓ) (c : Dev nD)

/-- The argument arrays at plain coordinates, from arrays. -/
def kargs (x0 : FVec Ideal S8x4096x1024 .f32) (x1 : FVec Ideal S1x1024 .f32) (x2 : FVec Ideal S1x1024x3840 .f32) (x3 : FVec Ideal S1x64 .f32) (x4 : FVec Ideal S1x64 .f32) (x5 : FVec Ideal S1x8 .f32) (x6 : FVec Ideal S1x8x64 .f32) (x7 : FVec Ideal S1x8x128x128 .f32) (x8 : FVec Ideal S1x8x128 .f32) (x9 : FVec Ideal S1x2x512x1024 .f32) (x10 : FVec Ideal S1x1024x1024 .f32) : Args where
  X b s k := x0 (ix3 b s k)
  nm k := x1 (ix2 0 k)
  W k n := x2 (ix3 0 k n)
  qg d := x3 (ix2 0 d)
  kg d := x4 (ix2 0 d)
  sk h := x5 (ix2 0 h)
  vg g d := x6 (ix3 0 g d)
  ws g p q := x7 (ix4 0 g p q)
  bs g p := x8 (ix3 0 g p)
  wb j c e := x9 (ix4 0 j c e)
  wo e d := x10 (ix3 0 e d)

/-- The argument arrays as launched. -/
def ka : Args := kargs (m (c.tc.loc main_arg0)) (m (c.tc.loc main_arg1)) (m (c.tc.loc main_arg2)) (m (c.tc.loc main_arg3)) (m (c.tc.loc main_arg4)) (m (c.tc.loc main_arg5))
  (m (c.tc.loc main_arg6)) (m (c.tc.loc main_arg7)) (m (c.tc.loc main_arg8)) (m (c.tc.loc main_arg9)) (m (c.tc.loc main_arg10))

/-- The windows' index maps. -/
theorem idx : ∀ t : Fin cfg0.N, win0_0.index t = ![(grid0.coords t 0).val, (grid0.coords t 1).val, 0]
    ∧ win0_1.index t = ![(grid0.coords t 0).val, (grid0.coords t 1).val * 4 - 1, 0]
    ∧ win0_2.index t = ![(grid0.coords t 0).val, min (((grid0.coords t 1).val + 1) * 4) 31, 0]
    ∧ win0_3.index t = ![(grid0.coords t 1).val, 0]
    ∧ win0_4.index t = ![(grid0.coords t 1).val * 4 - 1, 0]
    ∧ win0_5.index t = ![min (((grid0.coords t 1).val + 1) * 4) 31, 0]
    ∧ win0_6.index t = ![0, 0] ∧ win0_7.index t = ![0, 0] ∧ win0_8.index t = ![0, 0] ∧ win0_9.index t = ![0, 0] ∧ win0_10.index t = ![0, 0, 0]
    ∧ win0_11.index t = ![0, 0] ∧ win0_12.index t = ![0, 0] ∧ win0_13.index t = ![0, 0] ∧ win0_14.index t = ![0, 0] ∧ win0_15.index t = ![0, 0, 0]
    ∧ win0_16.index t = ![0, 0] ∧ win0_20.index t = ![(grid0.coords t 0).val, (grid0.coords t 1).val, 0] :=
  (by decide +kernel : ∀ t : Fin grid0.N, _)

theorem v32_at (k : Fin 1024) : V m c main_v32 (ix2 0 k) = (ka m c).nm k := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  pointwise
  rfl

theorem v34_at (k : Fin 1024) (n : Fin 3840) : V m c main_v34 (ix2 k n) = (ka m c).W k n := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  pointwise
  rfl

theorem v39_at (x : Fin 512) : V m c main_v39 (ix2 0 x) = (ka m c).qg ⟨x.val % 64, Nat.mod_lt _ (by omega)⟩ := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  pointwise
  rfl

theorem v44_at (x : Fin 128) : V m c main_v44 (ix2 0 x) = (ka m c).kg ⟨x.val % 64, Nat.mod_lt _ (by omega)⟩ := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  pointwise
  rfl

theorem v13_at (j : Fin 2) (x : Fin 512) : V m c main_v13 (ix3 j x 0) = (ka m c).sk ⟨4 * j.val + x.val / 128, by omega⟩ := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  pointwise
  simp only [Nat.mul_comm _ 4]
  rfl

theorem v46_at (x : Fin 512) : V m c main_v46 (ix2 0 x) = (ka m c).vg ⟨x.val / 64, by omega⟩ ⟨x.val % 64, Nat.mod_lt _ (by omega)⟩ := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  pointwise
  rfl

theorem v17_at (p : Fin 128) (x : Fin 1024) : V m c main_v17 (ix2 p x) = (ka m c).ws ⟨x.val / 128, by omega⟩ p ⟨x.val % 128, Nat.mod_lt _ (by omega)⟩ := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  pointwise
  rfl

theorem v21_at (p : Fin 128) (x : Fin 512) : V m c main_v21 (ix2 p x) = (ka m c).bs ⟨x.val / 64, by omega⟩ p := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  pointwise
  rfl

theorem v48_at (j : Fin 2) (x : Fin 512) (e : Fin 1024) : V m c main_v48 (ix3 j x e) = (ka m c).wb j x e := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  pointwise
  rfl

theorem v50_at (e d : Fin 1024) : V m c main_v50 (ix2 e d) = (ka m c).wo e d := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  pointwise
  rfl

theorem eye_word : ∀ x y : Fin 8, IntOp.cmpi .eq (IntOp.addi (BitVec.ofNat 32 x.val) 0#32) (BitVec.ofNat 32 y.val) = if x.val = y.val then 1#1 else 0#1 := by decide +kernel
theorem r64 : Ideal.ofBits .f32 0x3C800000#32 = ((1 / 64 : ℝ) : EReal) := by
  simp [Ideal.ofBits, Ideal.ieee, -EReal.coe_mul]
  norm_num
theorem v8_at (x y : Fin 512) : V m c main_v8 (ix2 x y) = if x.val / 64 = y.val / 64 then ((1 / 64 : ℝ) : EReal) else 0 := by
  unfold V
  simp only [hostOps0, hostOps0_1, hostOps0_2, hostOps0_3, hostOps0_4, hostOps0_5, hostOps0_6, List.flatten_cons, List.flatten_nil, List.append_nil, List.cons_append, List.nil_append]
  after_reads_simp
  try simp only [id_eq, StableHlo.TRef.ofBuf_toBuf]
  simp only [StableHlo.TRef.toBuf, StableHlo.TRef.ofBuf, cast_eq]
  pointwise
  have h := eye_word ⟨x.val / 64, by omega⟩ ⟨y.val / 64, by omega⟩
  dsimp only at h
  rw [h, r64]
  split_ifs
  · show (((1#1 : BitVec 1).toNat : ℝ) : EReal) * _ = _
    simp
  · show (((0#1 : BitVec 1).toNat : ℝ) : EReal) * _ = _
    simp

end Cert.KernelIdeal.Val

end
-- ==== Proof.KvK.lean ====
/- The blocks of a point. -/
module

public import proofs.«01_k».proof.Proof.KvF

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

variable (m : (ℓ : Loc nD τ sig) → Buf (Elt Ideal) ℓ) (c : Dev nD) (t : Fin cfg0.N)

/-- The batch and the tile of a point. -/
abbrev tb : Fin 8 := ⟨(grid0.coords t 0).val, (grid0.coords t 0).isLt⟩
abbrev ta : Fin 8 := ⟨(grid0.coords t 1).val, (grid0.coords t 1).isLt⟩

/-! ## The blocks that are whole arrays -/

theorem blk6 (i : Fin 1) (j : Fin 1024) : iblk m c 6 t (ix2 i j) = V m c main_v32 (ix2 i j) := by blk_ext [iblk, idx t]
theorem blk7 (i : Fin 1024) (j : Fin 3840) : iblk m c 7 t (ix2 i j) = V m c main_v34 (ix2 i j) := by blk_ext [iblk, idx t]
theorem blk8 (i : Fin 1) (j : Fin 512) : iblk m c 8 t (ix2 i j) = V m c main_v39 (ix2 i j) := by blk_ext [iblk, idx t]
theorem blk9 (i : Fin 1) (j : Fin 128) : iblk m c 9 t (ix2 i j) = V m c main_v44 (ix2 i j) := by blk_ext [iblk, idx t]
theorem blk10 (i : Fin 2) (j : Fin 512) (k : Fin 1) : iblk m c 10 t (ix3 i j k) = V m c main_v13 (ix3 i j k) := by blk_ext [iblk, idx t]
theorem blk11 (i : Fin 1) (j : Fin 512) : iblk m c 11 t (ix2 i j) = V m c main_v46 (ix2 i j) := by blk_ext [iblk, idx t]
theorem blk12 (i : Fin 512) (j : Fin 512) : iblk m c 12 t (ix2 i j) = V m c main_v8 (ix2 i j) := by blk_ext [iblk, idx t]
theorem blk13 (i : Fin 128) (j : Fin 1024) : iblk m c 13 t (ix2 i j) = V m c main_v17 (ix2 i j) := by blk_ext [iblk, idx t]
theorem blk14 (i : Fin 128) (j : Fin 512) : iblk m c 14 t (ix2 i j) = V m c main_v21 (ix2 i j) := by blk_ext [iblk, idx t]
theorem blk15 (i : Fin 2) (j : Fin 512) (k : Fin 1024) : iblk m c 15 t (ix3 i j k) = V m c main_v48 (ix3 i j k) := by blk_ext [iblk, idx t]
theorem blk16 (i : Fin 1024) (j : Fin 1024) : iblk m c 16 t (ix2 i j) = V m c main_v50 (ix2 i j) := by blk_ext [iblk, idx t]

/-! ## The blocks of the tile -/

theorem in0 (r : Fin 512) (k : Fin 1024) (s : Fin 4096) (hs : s.val = 512 * (ta t).val + r.val) : iblk m c 0 t (ix3 0 r k) = V m c main_arg0 (ix3 (tb t) s k) := by
  dsimp only at hs
  blk_ext [iblk, idx t]
theorem in1 (r : Fin 128) (k : Fin 1024) (s : Fin 4096) (h0 : 0 < (ta t).val) (hs : s.val = 512 * (ta t).val + r.val - 128) : iblk m c 1 t (ix3 0 r k) = V m c main_arg0 (ix3 (tb t) s k) := by
  dsimp only at h0 hs
  blk_ext [iblk, idx t]
theorem in2 (r : Fin 128) (k : Fin 1024) (s : Fin 4096) (h0 : (ta t).val < 7) (hs : s.val = 512 * (ta t).val + 512 + r.val) : iblk m c 2 t (ix3 0 r k) = V m c main_arg0 (ix3 (tb t) s k) := by
  dsimp only at h0 hs
  blk_ext [iblk, idx t]
theorem in3 (r : Fin 512) (l : Fin 384) (s : Fin 4096) (hs : s.val = 512 * (ta t).val + r.val) : iblk m c 3 t (ix2 r l) = V m c main_v81 (ix2 s l) := by
  dsimp only at hs
  blk_ext [iblk, idx t]
theorem in4 (r : Fin 128) (l : Fin 384) (s : Fin 4096) (h0 : 0 < (ta t).val) (hs : s.val = 512 * (ta t).val + r.val - 128) : iblk m c 4 t (ix2 r l) = V m c main_v81 (ix2 s l) := by
  dsimp only at h0 hs
  blk_ext [iblk, idx t]
theorem in5 (r : Fin 128) (l : Fin 384) (s : Fin 4096) (h0 : (ta t).val < 7) (hs : s.val = 512 * (ta t).val + 512 + r.val) : iblk m c 5 t (ix2 r l) = V m c main_v81 (ix2 s l) := by
  dsimp only at h0 hs
  blk_ext [iblk, idx t]

/-- What the blocks of a point hold. -/
theorem blk : Blk (ka m c) (tb t) (ta t) (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t) where
  h0 r k := by
    rw [in0 m c t r k ⟨512 * (ta t).val + r.val, by omega⟩ rfl, V_main_arg0]
    rfl
  h1 r k h := by
    rw [in1 m c t r k ⟨512 * (ta t).val + r.val - 128, by omega⟩ h rfl, V_main_arg0]
    rfl
  h2 r k h := by
    rw [in2 m c t r k ⟨512 * (ta t).val + 512 + r.val, by omega⟩ h rfl, V_main_arg0]
    rfl
  h3 r l := by
    rw [in3 m c t r _ ⟨512 * (ta t).val + r.val, by omega⟩ rfl, in3 m c t r _ ⟨512 * (ta t).val + r.val, by omega⟩ rfl, in3 m c t r _ ⟨512 * (ta t).val + r.val, by omega⟩ rfl, V_81]
    exact t81_at _ l
  h4 r l h := by
    rw [in4 m c t r _ ⟨512 * (ta t).val + r.val - 128, by omega⟩ h rfl, in4 m c t r _ ⟨512 * (ta t).val + r.val - 128, by omega⟩ h rfl, in4 m c t r _ ⟨512 * (ta t).val + r.val - 128, by omega⟩ h rfl, V_81]
    exact t81_at _ l
  h5 r l h := by
    rw [in5 m c t r _ ⟨512 * (ta t).val + 512 + r.val, by omega⟩ h rfl, in5 m c t r _ ⟨512 * (ta t).val + 512 + r.val, by omega⟩ h rfl, in5 m c t r _ ⟨512 * (ta t).val + 512 + r.val, by omega⟩ h rfl, V_81]
    exact t81_at _ l
  h6 k := by rw [blk6]; exact v32_at m c k
  h7 k n := by rw [blk7]; exact v34_at m c k n
  h8 x := by rw [blk8]; exact v39_at m c x
  h9 x := by rw [blk9]; exact v44_at m c x
  h10 j x := by rw [blk10]; exact v13_at m c j x
  h11 x := by rw [blk11]; exact v46_at m c x
  h12 x y := by rw [blk12]; exact v8_at m c x y
  h13 p x := by rw [blk13]; exact v17_at m c p x
  h14 p x := by rw [blk14]; exact v21_at m c p x
  h15 j x e := by rw [blk15]; exact v48_at m c j x e
  h16 e d := by rw [blk16]; exact v50_at m c e d

end Cert.KernelIdeal.Val

end
-- ==== Proof.KvL.lean ====
/- The kernel's result array. -/
module

public import proofs.«01_k».proof.Proof.KvJ
public import proofs.«01_k».proof.Proof.KvK

@[expose] public section

set_option maxRecDepth 16384

noncomputable section

namespace Cert.KernelIdeal.Val

open Cert.KernelIdeal Cert.KernelIdeal.Gen Cert.Mix
open Idealize.ShloMosaic Idealize.ShloMosaic.TcCoe Idealize.SL.Sem

variable (m : (ℓ : Loc nD τ sig) → Buf (Elt Ideal) ℓ) (c : Dev nD)

/-- The mixer's first result over the kernel's arguments, as an array. -/
def res : FVec Ideal S8x4096x1024 .f32 := fun i => (ka m c).h1 (i 0) (i 1) (i 2)

variable (hq : ∀ d, ∃ r : ℝ, (ka m c).qg d = r) (hk : ∀ d, ∃ r : ℝ, (ka m c).kg d = r) (hs : ∀ h, (ka m c).sk h ≠ ⊤)
include hq hk hs

theorem point (t : Fin cfg0.N) (r : Fin 512) (d : Fin 1024) :
    Run.o20 m c t (ix3 0 r d) = (ka m c).h1 (tb t) ⟨512 * (ta t).val + r.val, by omega⟩ d := by
  unfold Run.o20
  exact h1v_at (ka m c) (tb t) (ta t) _ _ _ _ _ _ _ _ _ _ _ _ _ _ _ _ _ (blk m c t) hq hk hs r d

/-- The result array after the run. -/
theorem final : (Run.dats m 0 c).arrAt 20 (cfgs 0).N = res m c := by
  refine (Run.dats m 0 c).arrAt_eq_of_covers 20 _ (by decide +kernel) fun t _ y => ?_
  blk_simp
  rw [Run.after0_20]
  have h : ∀ y : S1x512x1024.Idx, Run.o20 m c t y = (ka m c).h1 (tb t) ⟨512 * (ta t).val + (y 1).val, by have := (y 1).isLt; have : (y 1).val < 512 := this; omega⟩ (y 2) := fun y => by
    obtain ⟨r, d, rfl⟩ : ∃ r d, y = ix3 0 r d := ⟨y 1, y 2, by funext k; fin_cases k; · exact Subsingleton.elim (α := Fin 1) _ _
                                                               · rfl
                                                               · rfl⟩
    exact point m c hq hk hs t r d
  refine (h y).trans ?_
  unfold res
  refine congr (congr (congrArg _ (Fin.ext ?_)) (Fin.ext ?_)) (Fin.ext ?_)
  · blk_simp [idx t]
  · dsimp only
    blk_simp [idx t]
    dsimp only
    omega
  · blk_simp [idx t]

end Cert.KernelIdeal.Val

end
-- ==== Proof.Args.lean ====
/- The argument arrays, read at plain coordinates. -/
module

public import proofs.«01_k».proof.Proof.Gen.ReferenceIdeal.Read
public import proofs.«01_k».proof.Proof.Mth
public import Idealize.ShloMosaic.Lib.Pointwise

@[expose] public section

set_option maxRecDepth 16384

noncomputable section

namespace Cert.ReferenceIdeal.Val

open Cert.ReferenceIdeal Cert.ReferenceIdeal.Gen Cert.ReferenceIdeal.Read Cert.Mix
open Idealize.ShloMosaic Idealize.ShloMosaic.TcCoe Idealize.SL.Sem

variable (x0 : FVec Ideal S8x4096x1024 .f32) (x1 : FVec Ideal S1x1024 .f32) (x2 : FVec Ideal S1x1024x3840 .f32) (x3 : FVec Ideal S1x64 .f32) (x4 : FVec Ideal S1x64 .f32) (x5 : FVec Ideal S1x8 .f32) (x6 : FVec Ideal S1x8x64 .f32) (x7 : FVec Ideal S1x8x128x128 .f32) (x8 : FVec Ideal S1x8x128 .f32) (x9 : FVec Ideal S1x2x512x1024 .f32) (x10 : FVec Ideal S1x1024x1024 .f32)

/-- The argument arrays at plain coordinates. -/
def args : Args where
  X b s k := x0 (ix3 b s k)
  nm k := x1 (ix2 0 k)
  W k n := x2 (ix3 0 k n)
  qg d := x3 (ix2 0 d)
  kg d := x4 (ix2 0 d)
  sk h := x5 (ix2 0 h)
  vg g d := x6 (ix3 0 g d)
  ws g p q := x7 (ix4 0 g p q)
  bs g p := x8 (ix3 0 g p)
  wb j c e := x9 (ix4 0 j c e)
  wo e d := x10 (ix3 0 e d)

end Cert.ReferenceIdeal.Val

end
-- ==== Proof.RvA.lean ====
/- The reference's projections, queries, keys and values. -/
module

public import proofs.«01_k».proof.Proof.Args

@[expose] public section

set_option maxRecDepth 16384

noncomputable section

namespace Cert.ReferenceIdeal.Val

open Cert.ReferenceIdeal Cert.ReferenceIdeal.Gen Cert.ReferenceIdeal.Read Cert.Mix
open Idealize.ShloMosaic Idealize.ShloMosaic.TcCoe Idealize.SL.Sem

variable (x0 : FVec Ideal S8x4096x1024 .f32) (x1 : FVec Ideal S1x1024 .f32) (x2 : FVec Ideal S1x1024x3840 .f32) (x3 : FVec Ideal S1x64 .f32) (x4 : FVec Ideal S1x64 .f32) (x5 : FVec Ideal S1x8 .f32) (x6 : FVec Ideal S1x8x64 .f32) (x7 : FVec Ideal S1x8x128x128 .f32) (x8 : FVec Ideal S1x8x128 .f32) (x9 : FVec Ideal S1x2x512x1024 .f32) (x10 : FVec Ideal S1x1024x1024 .f32)

/-- A small word as a number. -/
theorem sitofp_ofNat (s : ℕ) (h : s < 2 ^ 31) : FloatOps.sitofp (F := Ideal) .f32 (BitVec.ofNat 32 s) = ((s : ℝ) : EReal) := by
  have e : (BitVec.ofNat 32 s).toInt = (s : ℤ) := by
    rw [BitVec.toInt_eq_toNat_cond, BitVec.toNat_ofNat, Nat.mod_eq_of_lt (by omega), if_pos (by omega)]
  show (((BitVec.ofNat 32 s).toInt : ℝ) : EReal) = _
  rw [e, Int.cast_natCast]

theorem z_at (b : Fin 8) (s : Fin 4096) (n : Fin 3840) : val_main_v15 (F := Ideal) x0 x1 x2 (ix3 b s n) = (args x0 x1 x2 x3 x4 x5 x6 x7 x8 x9 x10).z b s n := by
  unfold Args.z rmsN args
  pointwise [val_main_v15, val_main_v13, val_main_v10, val_main_v9, val_main_v8, val_main_v7, val_main_v5, val_main_v3, val_main_v2, val_main_v1, val_main_cst, val_main_v4, val_main_cst_0, val_main_v6, val_main_cst_1, val_main_v12, val_main_v11, val_main_v0, val_main_v14]

theorem qn_at (b : Fin 8) (s : Fin 4096) (h : Fin 8) (d : Fin 64) : val_main_v36 (F := Ideal) x0 x1 x2 x3 (ix4 b s h d)
    = rmsN c64 (fun d => (args x0 x1 x2 x3 x4 x5 x6 x7 x8 x9 x10).z b s ⟨64 * h.val + d.val, by omega⟩) (args x0 x1 x2 x3 x4 x5 x6 x7 x8 x9 x10).qg d := by
  unfold rmsN
  pointwise [val_main_v36, val_main_v33, val_main_v22, val_main_v16, val_main_v32, val_main_v31, val_main_v30, val_main_v28, val_main_v26, val_main_v25, val_main_v24, val_main_cst_2, val_main_v27, val_main_cst_3, val_main_v29, val_main_cst_4, val_main_v35, val_main_v34, val_main_v23]
  simp only [z_at x0 x1 x2 x3 x4 x5 x6 x7 x8 x9 x10, Nat.mul_comm 64]
  rfl

theorem kn_at (b : Fin 8) (s : Fin 4096) (h : Fin 2) (d : Fin 64) : val_main_v81 (F := Ideal) x0 x1 x2 x4 (ix4 b s h d)
    = rmsN c64 (fun d => (args x0 x1 x2 x3 x4 x5 x6 x7 x8 x9 x10).z b s ⟨512 + 64 * h.val + d.val, by omega⟩) (args x0 x1 x2 x3 x4 x5 x6 x7 x8 x9 x10).kg d := by
  unfold rmsN
  pointwise [val_main_v81, val_main_v78, val_main_v67, val_main_v17, val_main_v77, val_main_v76, val_main_v75, val_main_v73, val_main_v71, val_main_v70, val_main_v69, val_main_cst_7, val_main_v72, val_main_cst_8, val_main_v74, val_main_cst_9, val_main_v80, val_main_v79, val_main_v68]
  simp only [z_at x0 x1 x2 x3 x4 x5 x6 x7 x8 x9 x10, Nat.mul_comm 64, Nat.add_assoc]
  rfl

theorem ang_at (s : Fin 4096) (f : Fin 8) : val_main_v48 (F := Ideal) (ix2 s f) = ang s.val f.val := by
  unfold ang
  pointwise [val_main_v48, val_main_v46, val_main_v44, val_main_v37, val_main_v47, val_main_v45, val_main_v43, val_main_v42, val_main_cst_6, val_main_v41, val_main_v39, val_main_v38, val_main_v40, val_main_cst_5]
  rw [sitofp_ofNat _ (by omega), sitofp_ofNat _ (by omega)]

theorem ang_at' (s : Fin 4096) (f : Fin 8) : val_main_v93 (F := Ideal) (ix2 s f) = ang s.val f.val := by
  unfold ang
  pointwise [val_main_v93, val_main_v91, val_main_v89, val_main_v82, val_main_v92, val_main_v90, val_main_v88, val_main_v87, val_main_cst_11, val_main_v86, val_main_v84, val_main_v83, val_main_v85, val_main_cst_10]
  rw [sitofp_ofNat _ (by omega), sitofp_ofNat _ (by omega)]

/-- The rotation as the reference lays it out. -/
theorem rope_lad (s : ℕ) (y : Fin 64 → EReal) (d : Fin 64) :
    (if h : d.val < 8 then y d * Ideal.cos (ang s d.val) - y ⟨8 + d.val, by omega⟩ * Ideal.sin (ang s d.val)
     else if h : d.val - 8 < 8 then y ⟨8 + (d.val - 8), by omega⟩ * Ideal.cos (ang s (d.val - 8)) + y ⟨d.val - 8, by omega⟩ * Ideal.sin (ang s (d.val - 8))
     else y ⟨16 + (d.val - 8 - 8), by omega⟩) = rope s y d := by
  unfold rope
  by_cases h1 : d.val < 8
  · rw [dif_pos h1, dif_pos h1, show (⟨8 + d.val, by omega⟩ : Fin 64) = ⟨d.val + 8, by omega⟩ from Fin.ext (Nat.add_comm _ _)]
  · rw [dif_neg h1, dif_neg h1]
    by_cases h2 : d.val - 8 < 8
    · rw [dif_pos h2, if_pos (by omega), show (⟨8 + (d.val - 8), by omega⟩ : Fin 64) = d from Fin.ext (by dsimp only; omega)]
    · rw [dif_neg h2, if_neg (by omega), show (⟨16 + (d.val - 8 - 8), by omega⟩ : Fin 64) = d from Fin.ext (by dsimp only; omega)]

theorem q_at (b : Fin 8) (s : Fin 4096) (h : Fin 8) (d : Fin 64) : val_main_v66 (F := Ideal) x0 x1 x2 x3 (ix4 b s h d) = (args x0 x1 x2 x3 x4 x5 x6 x7 x8 x9 x10).q b s h d := by
  unfold Args.q
  pointwise [val_main_v66, val_main_v59, val_main_v56, val_main_v53, val_main_v55, val_main_v50, val_main_v49, val_main_v58, val_main_v54, val_main_v57, val_main_v52, val_main_v51, val_main_v64, val_main_v61, val_main_v60, val_main_v63, val_main_v62, val_main_v65]
  simp only [qn_at x0 x1 x2 x3 x4 x5 x6 x7 x8 x9 x10, ang_at]
  exact rope_lad _ _ _

theorem k_at (b : Fin 8) (s : Fin 4096) (h : Fin 2) (d : Fin 64) : val_main_v111 (F := Ideal) x0 x1 x2 x4 (ix4 b s h d) = (args x0 x1 x2 x3 x4 x5 x6 x7 x8 x9 x10).k b s h d := by
  unfold Args.k
  pointwise [val_main_v111, val_main_v104, val_main_v101, val_main_v98, val_main_v100, val_main_v95, val_main_v94, val_main_v103, val_main_v99, val_main_v102, val_main_v97, val_main_v96, val_main_v109, val_main_v106, val_main_v105, val_main_v108, val_main_v107, val_main_v110]
  simp only [kn_at x0 x1 x2 x3 x4 x5 x6 x7 x8 x9 x10, ang_at']
  exact rope_lad _ _ _

theorem v_at (b : Fin 8) (s : Fin 4096) (j : Fin 2) (d : Fin 64) : val_main_v113 (F := Ideal) x0 x1 x2 (ix4 b s j d) = (args x0 x1 x2 x3 x4 x5 x6 x7 x8 x9 x10).v b s j d := by
  unfold Args.v
  pointwise [val_main_v113, val_main_v18]
  simp only [z_at x0 x1 x2 x3 x4 x5 x6 x7 x8 x9 x10, Nat.mul_comm 64, Nat.add_assoc]

end Cert.ReferenceIdeal.Val

end
-- ==== Proof.RvB.lean ====
/- The reference's windows and mask. -/
module

public import proofs.«01_k».proof.Proof.RvA

@[expose] public section

set_option maxRecDepth 16384

noncomputable section

namespace Cert.ReferenceIdeal.Val

open Cert.ReferenceIdeal Cert.ReferenceIdeal.Gen Cert.ReferenceIdeal.Read Cert.Mix
open Idealize.ShloMosaic Idealize.ShloMosaic.TcCoe Idealize.SL.Sem

variable (x0 : FVec Ideal S8x4096x1024 .f32) (x1 : FVec Ideal S1x1024 .f32) (x2 : FVec Ideal S1x1024x3840 .f32) (x3 : FVec Ideal S1x64 .f32) (x4 : FVec Ideal S1x64 .f32) (x5 : FVec Ideal S1x8 .f32) (x6 : FVec Ideal S1x8x64 .f32) (x7 : FVec Ideal S1x8x128x128 .f32) (x8 : FVec Ideal S1x8x128 .f32) (x9 : FVec Ideal S1x2x512x1024 .f32) (x10 : FVec Ideal S1x1024x1024 .f32)

theorem z0 : FloatOps.sitofp (F := Ideal) .f32 0#32 = 0 := (sitofp_ofNat 0 (by omega)).trans (by simp)

/-- The window of three blocks as the reference lays it out. -/
theorem win_lad (f : Fin 4096 → EReal) (n : Fin 32) (κ : Fin 384) :
    (if h : κ.val < 128 then
      if h : 128 ≤ n.val * 128 + κ.val ∧ n.val * 128 + κ.val - 128 < 4096 then f ⟨n.val * 128 + κ.val - 128, h.2⟩ else 0
    else if h : κ.val - 128 < 128 then
      if h : 128 ≤ (1 + n.val) * 128 + (κ.val - 128) ∧ (1 + n.val) * 128 + (κ.val - 128) - 128 < 4096 then f ⟨(1 + n.val) * 128 + (κ.val - 128) - 128, h.2⟩ else 0
    else
      if h : 128 ≤ (2 + n.val) * 128 + (κ.val - 128 - 128) ∧ (2 + n.val) * 128 + (κ.val - 128 - 128) - 128 < 4096 then f ⟨(2 + n.val) * 128 + (κ.val - 128 - 128) - 128, h.2⟩ else 0)
    = if h : 128 ≤ 128 * n.val + κ.val ∧ 128 * n.val + κ.val < 4224 then f ⟨128 * n.val + κ.val - 128, by omega⟩ else 0 := by
  split_ifs <;> first
    | with_reducible rfl
    | (exfalso; omega)
    | exact congrArg f (Fin.ext (by dsimp only; omega))

/-- The keys of a window. -/
theorem kw_at (b : Fin 8) (n : Fin 32) (κ : Fin 384) (j : Fin 2) (d : Fin 64) : val_main_v123 (F := Ideal) x0 x1 x2 x4 (ix5 b n κ j d) = (args x0 x1 x2 x3 x4 x5 x6 x7 x8 x9 x10).kw b n κ j d := by
  unfold Args.kw
  pointwise [val_main_v123, val_main_v120, val_main_v117, val_main_v116, val_main_call0_v0, val_main_c, val_main_v121, val_main_v122]
  simp only [k_at x0 x1 x2 x3 x4 x5 x6 x7 x8 x9 x10, z0]
  exact win_lad (fun s => (args x0 x1 x2 x3 x4 x5 x6 x7 x8 x9 x10).k b s j d) n κ

/-- The values of a window. -/
theorem vw_at (b : Fin 8) (n : Fin 32) (κ : Fin 384) (j : Fin 2) (d : Fin 64) : val_main_v127 (F := Ideal) x0 x1 x2 (ix5 b n κ j d) = (args x0 x1 x2 x3 x4 x5 x6 x7 x8 x9 x10).vw b n κ j d := by
  unfold Args.vw
  pointwise [val_main_v127, val_main_v124, val_main_v119, val_main_v118, val_main_call1_v0, val_main_c_12, val_main_v125, val_main_v126]
  simp only [v_at x0 x1 x2 x3 x4 x5 x6 x7 x8 x9 x10, z0]
  exact win_lad (fun s => (args x0 x1 x2 x3 x4 x5 x6 x7 x8 x9 x10).v b s j d) n κ

theorem qb_at (b : Fin 8) (n : Fin 32) (r : Fin 128) (j : Fin 2) (g : Fin 4) (d : Fin 64) : val_main_v128 (F := Ideal) x0 x1 x2 x3 (ix6 b n r j g d)
    = (args x0 x1 x2 x3 x4 x5 x6 x7 x8 x9 x10).q b ⟨128 * n.val + r.val, by omega⟩ ⟨4 * j.val + g.val, by omega⟩ d := by
  pointwise [val_main_v128, val_main_v112]
  simp only [q_at x0 x1 x2 x3 x4 x5 x6 x7 x8 x9 x10, Nat.mul_comm 128, Nat.mul_comm 4]

theorem and1 : ∀ a b : BitVec 1, IntOp.andi a b = 1#1 ↔ a = 1#1 ∧ b = 1#1 := by decide

theorem band : ∀ (r : Fin 128) (κ : Fin 384), (IntOp.cmpi CmpIPredicate.sle
        (IntOp.absi (IntOp.subi (IntOp.addi (BitVec.ofNat 32 r.val) 128#32) (BitVec.ofNat 32 κ.val))) 128#32) = 1#1 ↔ (r.val ≤ κ.val ∧ κ.val ≤ r.val + 256) := by decide +kernel

theorem seqw : ∀ (n : Fin 32) (κ : Fin 384), (IntOp.andi
        (IntOp.cmpi CmpIPredicate.sge
          (IntOp.addi (IntOp.muli (IntOp.subi (BitVec.ofNat 32 n.val) 1#32) 128#32) (BitVec.ofNat 32 κ.val)) 0#32)
        (IntOp.cmpi CmpIPredicate.slt
          (IntOp.addi (IntOp.muli (IntOp.subi (BitVec.ofNat 32 n.val) 1#32) 128#32) (BitVec.ofNat 32 κ.val)) 4096#32)) = 1#1
    ↔ (128 ≤ 128 * n.val + κ.val ∧ 128 * n.val + κ.val < 4224) := by decide +kernel

theorem valid_at (n : Fin 32) (r : Fin 128) (κ : Fin 384) : val_main_v161 (F := Ideal) (ix3 n r κ) = 1#1 ↔ valid n r κ := by
  unfold valid
  pointwise [val_main_v161, val_main_v159, val_main_v152, val_main_v140, val_main_v138, val_main_v137, val_main_v135, val_main_v132, val_main_v130, val_main_v129, val_main_v131, val_main_c_13, val_main_v136, val_main_v134, val_main_v133, val_main_v139, val_main_c_14, val_main_v160, val_main_v158, val_main_v157, val_main_v154, val_main_v151, val_main_v149, val_main_v146, val_main_v144, val_main_v142, val_main_v141, val_main_v143, val_main_c_15, val_main_v145, val_main_c_16, val_main_v150, val_main_v148, val_main_v147, val_main_v153, val_main_c_17, val_main_v156, val_main_v155, val_main_c_18]
  rw [and1, band, seqw]

end Cert.ReferenceIdeal.Val

end
-- ==== Proof.RvC.lean ====
/- The reference's attention. -/
module

public import proofs.«01_k».proof.Proof.RvB

@[expose] public section

set_option maxRecDepth 16384

noncomputable section

namespace Cert.ReferenceIdeal.Val

open Cert.ReferenceIdeal Cert.ReferenceIdeal.Gen Cert.ReferenceIdeal.Read Cert.Mix
open Idealize.ShloMosaic Idealize.ShloMosaic.TcCoe Idealize.SL.Sem

/-- The sources of a reduction over the last of six axes. -/
theorem drop6 {n0 n1 n2 n3 n4 n5 : ℕ} (h : (⟨6, ![n0, n1, n2, n3, n4, n5]⟩ : Shape).ReducesTo [5] ⟨5, ![n0, n1, n2, n3, n4]⟩) (a : Fin n0) (b : Fin n1) (c : Fin n2) (d : Fin n3) (e : Fin n4)
    (i : (⟨6, ![n0, n1, n2, n3, n4, n5]⟩ : Shape).Idx) : h.drop i = ix5 a b c d e ↔ ∃ k : Fin n5, ix6 a b c d e k = i := by
  constructor
  · intro E
    refine ⟨i 5, ?_⟩
    funext x; apply Fin.ext
    match x with
    | ⟨0, _⟩ => exact (congrArg Fin.val (congrFun E 0)).symm
    | ⟨1, _⟩ => exact (congrArg Fin.val (congrFun E 1)).symm
    | ⟨2, _⟩ => exact (congrArg Fin.val (congrFun E 2)).symm
    | ⟨3, _⟩ => exact (congrArg Fin.val (congrFun E 3)).symm
    | ⟨4, _⟩ => exact (congrArg Fin.val (congrFun E 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem fold6 {n0 n1 n2 n3 n4 n5 : ℕ} (h : (⟨6, ![n0, n1, n2, n3, n4, n5]⟩ : Shape).ReducesTo [5] ⟨5, ![n0, n1, n2, n3, n4]⟩) (init : FVec Ideal ⟨0, ![]⟩ .f32) (hu : 0 < (⟨0, ![]⟩ : Shape).numel)
    (v : FVec Ideal ⟨6, ![n0, n1, n2, n3, n4, n5]⟩ .f32) (a : Fin n0) (b : Fin n1) (c : Fin n2) (d : Fin n3) (e : Fin n4) :
    Host.reduce FloatOps.maximumf v init h hu (ix5 a b c d e) = (Finset.univ : Finset (Fin n5)).fold max (init (Shape.Idx.first hu)) (fun k => v (ix6 a b c d e k)) := by
  rw [Host.reduce_eq_fold]
  exact Finset.fold_filter_eq_fold_of_fiber max _ (fun k : Fin n5 => ix6 a b c d e k) (fun _ _ E => congrFun E 5) (drop6 h a b c d e) _ v

theorem sum6 {n0 n1 n2 n3 n4 n5 : ℕ} (h : (⟨6, ![n0, n1, n2, n3, n4, n5]⟩ : Shape).ReducesTo [5] ⟨5, ![n0, n1, n2, n3, n4]⟩) (init : FVec Ideal ⟨0, ![]⟩ .f32) (hu : 0 < (⟨0, ![]⟩ : Shape).numel)
    (v : FVec Ideal ⟨6, ![n0, n1, n2, n3, n4, n5]⟩ .f32) (a : Fin n0) (b : Fin n1) (c : Fin n2) (d : Fin n3) (e : Fin n4) :
    Host.reduceAdd v init h hu (ix5 a b c d e) = init (Shape.Idx.first hu) + ∑ k : Fin n5, v (ix6 a b c d e k) :=
  congrArg (_ + ·) (Finset.sum_filter_eq_sum_of_fiber _ (fun k : Fin n5 => ix6 a b c d e k) (fun _ _ E => congrFun E 5) (drop6 h a b c d e) v)

variable (x0 : FVec Ideal S8x4096x1024 .f32) (x1 : FVec Ideal S1x1024 .f32) (x2 : FVec Ideal S1x1024x3840 .f32) (x3 : FVec Ideal S1x64 .f32) (x4 : FVec Ideal S1x64 .f32) (x5 : FVec Ideal S1x8 .f32) (x6 : FVec Ideal S1x8x64 .f32) (x7 : FVec Ideal S1x8x128x128 .f32) (x8 : FVec Ideal S1x8x128 .f32) (x9 : FVec Ideal S1x2x512x1024 .f32) (x10 : FVec Ideal S1x1024x1024 .f32)

theorem sc_at (b : Fin 8) (n : Fin 32) (j : Fin 2) (g : Fin 4) (r : Fin 128) (κ : Fin 384) :
    val_main_v167 (F := Ideal) x0 x1 x2 x3 x4 (ix6 b n j g r κ) = (args x0 x1 x2 x3 x4 x5 x6 x7 x8 x9 x10).sc b n r ⟨4 * j.val + g.val, by omega⟩ κ := by
  unfold Args.sc
  pointwise [val_main_v167, val_main_call2_v1, val_main_v166, val_main_v165, val_main_v163, val_main_v162, val_main_v164, val_main_cst_19, val_main_call2_v2, val_main_call2_v0, val_main_cst_20]
  simp only [kw_at x0 x1 x2 x3 x4 x5 x6 x7 x8 x9 x10, qb_at x0 x1 x2 x3 x4 x5 x6 x7 x8 x9 x10]
  have ej : (⟨(4 * j.val + g.val) / 4, by omega⟩ : Fin 2) = j := Fin.ext (by dsimp only; omega)
  by_cases hv : valid n r κ
  · rw [if_pos hv, (valid_at n r κ).2 hv, ej]
    rfl
  · rw [if_neg hv]
    exact (if_neg (fun h => hv ((valid_at n r κ).1 h))).trans ninf_eq

theorem mx0_at (b : Fin 8) (n : Fin 32) (j : Fin 2) (g : Fin 4) (r : Fin 128) :
    val_main_v169 (F := Ideal) x0 x1 x2 x3 x4 (ix5 b n j g r) = (Finset.univ : Finset (Fin 384)).fold max ⊥ ((args x0 x1 x2 x3 x4 x5 x6 x7 x8 x9 x10).sc b n r ⟨4 * j.val + g.val, by omega⟩) := by
  have e : (fun κ => val_main_v167 (F := Ideal) x0 x1 x2 x3 x4 (ix6 b n j g r κ)) = (args x0 x1 x2 x3 x4 x5 x6 x7 x8 x9 x10).sc b n r ⟨4 * j.val + g.val, by omega⟩ := funext fun κ => sc_at x0 x1 x2 x3 x4 x5 x6 x7 x8 x9 x10 b n j g r κ
  rw [← e]
  unfold val_main_v169
  refine (fold6 reducesTo_S8x32x2x4x128x384_S8x32x2x4x128_d5 _ h_S_ _ b n j g r).trans ?_
  rw [val_main_cst_21_apply]
  exact congrArg (fun t => Finset.fold max t _ _) ninf_eq

theorem ix170 (b : Fin 8) (n : Fin 32) (j : Fin 2) (g : Fin 4) (r : Fin 128) : idx_main_v170 (ix6 b n j g r 0) = ix5 b n j g r :=
  funext fun a => match a with
    | ⟨0, _⟩ => rfl
    | ⟨1, _⟩ => rfl
    | ⟨2, _⟩ => rfl
    | ⟨3, _⟩ => rfl
    | ⟨4, _⟩ => rfl

theorem mx1_at (b : Fin 8) (n : Fin 32) (j : Fin 2) (g : Fin 4) (r : Fin 128) :
    val_main_v170 (F := Ideal) x0 x1 x2 x3 x4 (ix6 b n j g r 0) = (Finset.univ : Finset (Fin 384)).fold max ⊥ ((args x0 x1 x2 x3 x4 x5 x6 x7 x8 x9 x10).sc b n r ⟨4 * j.val + g.val, by omega⟩) := by
  rw [val_main_v170_apply, ix170]
  exact mx0_at x0 x1 x2 x3 x4 x5 x6 x7 x8 x9 x10 b n j g r

theorem sk_at (b : Fin 8) (n : Fin 32) (j : Fin 2) (g : Fin 4) (r : Fin 128) :
    val_main_v171 (F := Ideal) x5 (ix6 b n j g r 0) = (args x0 x1 x2 x3 x4 x5 x6 x7 x8 x9 x10).sk ⟨4 * j.val + g.val, by omega⟩ := by
  pointwise [val_main_v171, val_main_v168, val_main_v115, val_main_v114]
  simp only [Nat.mul_comm 4]
  rfl

theorem maxf (a b : EReal) : FloatOps.maximumf (F := Ideal) (φ := .f32) a b = max a b := rfl

theorem mx_at (b : Fin 8) (n : Fin 32) (j : Fin 2) (g : Fin 4) (r : Fin 128) :
    val_main_v172 (F := Ideal) x0 x1 x2 x3 x4 x5 (ix6 b n j g r 0) = rowMax ((args x0 x1 x2 x3 x4 x5 x6 x7 x8 x9 x10).sc b n r ⟨4 * j.val + g.val, by omega⟩) ((args x0 x1 x2 x3 x4 x5 x6 x7 x8 x9 x10).sk ⟨4 * j.val + g.val, by omega⟩) := by
  rw [val_main_v172_apply, mx1_at x0 x1 x2 x3 x4 x5 x6 x7 x8 x9 x10, sk_at x0 x1 x2 x3 x4 x5 x6 x7 x8 x9 x10]
  unfold rowMax
  generalize Finset.fold max ⊥ ((args x0 x1 x2 x3 x4 x5 x6 x7 x8 x9 x10).sc b n r ⟨4 * j.val + g.val, by omega⟩) (Finset.univ : Finset (Fin 384)) = u
  generalize (args x0 x1 x2 x3 x4 x5 x6 x7 x8 x9 x10).sk ⟨4 * j.val + g.val, by omega⟩ = w
  exact maxf u w

theorem ex_at (b : Fin 8) (n : Fin 32) (j : Fin 2) (g : Fin 4) (r : Fin 128) (κ : Fin 384) :
    val_main_v175 (F := Ideal) x0 x1 x2 x3 x4 x5 (ix6 b n j g r κ) = Ideal.exp ((args x0 x1 x2 x3 x4 x5 x6 x7 x8 x9 x10).sc b n r ⟨4 * j.val + g.val, by omega⟩ κ
      - rowMax ((args x0 x1 x2 x3 x4 x5 x6 x7 x8 x9 x10).sc b n r ⟨4 * j.val + g.val, by omega⟩) ((args x0 x1 x2 x3 x4 x5 x6 x7 x8 x9 x10).sk ⟨4 * j.val + g.val, by omega⟩)) := by
  pointwise [val_main_v175, val_main_v174, val_main_v173]
  rw [sc_at x0 x1 x2 x3 x4 x5 x6 x7 x8 x9 x10, mx_at x0 x1 x2 x3 x4 x5 x6 x7 x8 x9 x10]

theorem den_at (b : Fin 8) (n : Fin 32) (j : Fin 2) (g : Fin 4) (r : Fin 128) :
    val_main_v181 (F := Ideal) x0 x1 x2 x3 x4 x5 (ix6 b n j g r 0) = rowDen ((args x0 x1 x2 x3 x4 x5 x6 x7 x8 x9 x10).sc b n r ⟨4 * j.val + g.val, by omega⟩) ((args x0 x1 x2 x3 x4 x5 x6 x7 x8 x9 x10).sk ⟨4 * j.val + g.val, by omega⟩) := by
  unfold rowDen
  have e : val_main_v176 (F := Ideal) x0 x1 x2 x3 x4 x5 (ix5 b n j g r) = ∑ κ, Ideal.exp ((args x0 x1 x2 x3 x4 x5 x6 x7 x8 x9 x10).sc b n r ⟨4 * j.val + g.val, by omega⟩ κ
      - rowMax ((args x0 x1 x2 x3 x4 x5 x6 x7 x8 x9 x10).sc b n r ⟨4 * j.val + g.val, by omega⟩) ((args x0 x1 x2 x3 x4 x5 x6 x7 x8 x9 x10).sk ⟨4 * j.val + g.val, by omega⟩)) := by
    unfold val_main_v176
    refine (sum6 reducesTo_S8x32x2x4x128x384_S8x32x2x4x128_d5 _ h_S_ _ b n j g r).trans ?_
    simp only [ex_at x0 x1 x2 x3 x4 x5 x6 x7 x8 x9 x10]
    rw [val_main_cst_22_apply]
    exact (congrArg (· + _) (by simp [FloatOps.ofBits, Ideal.ofBits, Ideal.ieee] : FloatOps.ofBits (F := Ideal) .f32 0#32 = 0)).trans (zero_add _)
  rw [← e]
  pointwise [val_main_v181, val_main_v177, val_main_v180, val_main_v179, val_main_v178, val_main_v168, val_main_v115, val_main_v114]
  rw [mx_at x0 x1 x2 x3 x4 x5 x6 x7 x8 x9 x10]
  simp only [Nat.mul_comm 4]
  rfl

theorem p_at (b : Fin 8) (n : Fin 32) (j : Fin 2) (g : Fin 4) (r : Fin 128) (κ : Fin 384) : val_main_v183 (F := Ideal) x0 x1 x2 x3 x4 x5 (ix6 b n j g r κ)
    = Ideal.div (Ideal.exp ((args x0 x1 x2 x3 x4 x5 x6 x7 x8 x9 x10).sc b n r ⟨4 * j.val + g.val, by omega⟩ κ
      - rowMax ((args x0 x1 x2 x3 x4 x5 x6 x7 x8 x9 x10).sc b n r ⟨4 * j.val + g.val, by omega⟩) ((args x0 x1 x2 x3 x4 x5 x6 x7 x8 x9 x10).sk ⟨4 * j.val + g.val, by omega⟩)))
      (rowDen ((args x0 x1 x2 x3 x4 x5 x6 x7 x8 x9 x10).sc b n r ⟨4 * j.val + g.val, by omega⟩) ((args x0 x1 x2 x3 x4 x5 x6 x7 x8 x9 x10).sk ⟨4 * j.val + g.val, by omega⟩)) := by
  pointwise [val_main_v183, val_main_v182]
  rw [ex_at x0 x1 x2 x3 x4 x5 x6 x7 x8 x9 x10, den_at x0 x1 x2 x3 x4 x5 x6 x7 x8 x9 x10]

theorem o_at (b : Fin 8) (s : Fin 4096) (c : Fin 512) : val_main_v186 (F := Ideal) x0 x1 x2 x3 x4 x5 (ix3 b s c)
    = (args x0 x1 x2 x3 x4 x5 x6 x7 x8 x9 x10).att b ⟨s.val / 128, by omega⟩ ⟨s.val % 128, by omega⟩ ⟨c.val / 64, by omega⟩ ⟨c.val % 64, by omega⟩ := by
  unfold Args.att attnRow
  pointwise [val_main_v186, val_main_v185, val_main_v184]
  simp only [p_at x0 x1 x2 x3 x4 x5 x6 x7 x8 x9 x10, vw_at x0 x1 x2 x3 x4 x5 x6 x7 x8 x9 x10]
  have eh : (⟨4 * (c.val / 256) + c.val / 64 % 4, by omega⟩ : Fin 8) = ⟨c.val / 64, by omega⟩ := Fin.ext (by dsimp only; omega)
  have ej : (⟨c.val / 64 / 4, by omega⟩ : Fin 2) = ⟨c.val / 256, by omega⟩ := Fin.ext (by dsimp only; omega)
  rw [eh, ej]

end Cert.ReferenceIdeal.Val

end
-- ==== Proof.RvD.lean ====
/- The reference's sequence mixing. -/
module

public import proofs.«01_k».proof.Proof.RvA

@[expose] public section

set_option maxRecDepth 16384

noncomputable section

namespace Cert.ReferenceIdeal.Val

open Cert.ReferenceIdeal Cert.ReferenceIdeal.Gen Cert.ReferenceIdeal.Read Cert.Mix
open Idealize.ShloMosaic Idealize.ShloMosaic.TcCoe Idealize.SL.Sem

variable (x0 : FVec Ideal S8x4096x1024 .f32) (x1 : FVec Ideal S1x1024 .f32) (x2 : FVec Ideal S1x1024x3840 .f32) (x3 : FVec Ideal S1x64 .f32) (x4 : FVec Ideal S1x64 .f32) (x5 : FVec Ideal S1x8 .f32) (x6 : FVec Ideal S1x8x64 .f32) (x7 : FVec Ideal S1x8x128x128 .f32) (x8 : FVec Ideal S1x8x128 .f32) (x9 : FVec Ideal S1x2x512x1024 .f32) (x10 : FVec Ideal S1x1024x1024 .f32)

theorem vn_at (b : Fin 8) (n : Fin 32) (q : Fin 128) (g : Fin 8) (d : Fin 64) : val_main_v217 (F := Ideal) x0 x1 x2 x6 (ix5 b n q g d)
    = (args x0 x1 x2 x3 x4 x5 x6 x7 x8 x9 x10).vn b ⟨128 * n.val + q.val, by omega⟩ g d := by
  unfold Args.vn rmsN gelu
  pointwise [val_main_v217, val_main_v214, val_main_v204, val_main_v203, val_main_v198, val_main_v197, val_main_cst_25, val_main_v20, val_main_v202, val_main_v201, val_main_v199, val_main_v200, val_main_cst_26, val_main_v213, val_main_v212, val_main_v211, val_main_v209, val_main_v207, val_main_v206, val_main_v205, val_main_cst_27, val_main_v208, val_main_cst_28, val_main_v210, val_main_cst_29, val_main_v216, val_main_v215, val_main_v187]
  simp only [z_at x0 x1 x2 x3 x4 x5 x6 x7 x8 x9 x10, Nat.mul_comm 64, Nat.mul_comm 128, Nat.add_assoc]
  rfl

theorem gm_at (b : Fin 8) (s : Fin 4096) (c : Fin 512) : val_main_v225 (F := Ideal) x0 x1 x2 x6 x7 x8 (ix3 b s c)
    = (args x0 x1 x2 x3 x4 x5 x6 x7 x8 x9 x10).gm b ⟨s.val / 128, by omega⟩ ⟨s.val % 128, by omega⟩ ⟨c.val / 64, by omega⟩ ⟨c.val % 64, by omega⟩ := by
  unfold Args.gm Args.mix gelu
  pointwise [val_main_v225, val_main_v196, val_main_v191, val_main_v190, val_main_cst_23, val_main_v19, val_main_v195, val_main_v194, val_main_v192, val_main_v193, val_main_cst_24, val_main_v224, val_main_v223, val_main_v219, val_main_v218, val_main_v188, val_main_v222, val_main_v221, val_main_v220, val_main_v189]
  simp only [z_at x0 x1 x2 x3 x4 x5 x6 x7 x8 x9 x10, vn_at x0 x1 x2 x3 x4 x5 x6 x7 x8 x9 x10]
  have es : (⟨128 * (s.val / 128) + s.val % 128, by omega⟩ : Fin 4096) = s := Fin.ext (by dsimp only; omega)
  have ec : (⟨768 + 64 * (c.val / 64) + c.val % 64, by omega⟩ : Fin 3840) = ⟨768 + c.val, by omega⟩ := Fin.ext (by dsimp only; omega)
  rw [es, ec]
  rfl

end Cert.ReferenceIdeal.Val

end
-- ==== Proof.RvE.lean ====
/- The reference's merge. -/
module

public import proofs.«01_k».proof.Proof.RvC
public import proofs.«01_k».proof.Proof.RvD

@[expose] public section

set_option maxRecDepth 16384

noncomputable section

namespace Cert.ReferenceIdeal.Val

open Cert.ReferenceIdeal Cert.ReferenceIdeal.Gen Cert.ReferenceIdeal.Read Cert.Mix
open Idealize.ShloMosaic Idealize.ShloMosaic.TcCoe Idealize.SL.Sem

variable (x0 : FVec Ideal S8x4096x1024 .f32) (x1 : FVec Ideal S1x1024 .f32) (x2 : FVec Ideal S1x1024x3840 .f32) (x3 : FVec Ideal S1x64 .f32) (x4 : FVec Ideal S1x64 .f32) (x5 : FVec Ideal S1x8 .f32) (x6 : FVec Ideal S1x8x64 .f32) (x7 : FVec Ideal S1x8x128x128 .f32) (x8 : FVec Ideal S1x8x128 .f32) (x9 : FVec Ideal S1x2x512x1024 .f32) (x10 : FVec Ideal S1x1024x1024 .f32)

theorem h1_at (b : Fin 8) (s : Fin 4096) (d : Fin 1024) : val_main_v243 (F := Ideal) x0 x1 x2 x3 x4 x5 x6 x7 x8 x9 x10 (ix3 b s d) = (args x0 x1 x2 x3 x4 x5 x6 x7 x8 x9 x10).h1 b s d := by
  unfold Args.h1 Args.mrg sigm
  pointwise [val_main_v243, val_main_v242, val_main_v240, val_main_v239, val_main_v238, val_main_v237, val_main_cst_31, val_main_v236, val_main_v235, val_main_cst_30, val_main_v234, val_main_v233, val_main_v232, val_main_v21, val_main_v231, val_main_v230, val_main_v229, val_main_v228, val_main_v226, val_main_v227, val_main_cst_32, val_main_v241]
  simp only [z_at x0 x1 x2 x3 x4 x5 x6 x7 x8 x9 x10, o_at x0 x1 x2 x3 x4 x5 x6 x7 x8 x9 x10, gm_at x0 x1 x2 x3 x4 x5 x6 x7 x8 x9 x10]
  refine congrArg (x0 (ix3 b s d) + ·) (Finset.sum_congr rfl fun e _ => congrArg (· * x10 (ix3 0 e d)) ?_)
  rw [Fin.sum_univ_two]
  simp only [Finset.univ_unique, Finset.sum_singleton]
  refine congrArg₂ (· + ·) (congrArg₂ (· * ·) ?_ rfl) (congrArg₂ (· * ·) ?_ rfl)
  · exact congrArg (fun n => sigm ((args x0 x1 x2 x3 x4 x5 x6 x7 x8 x9 x10).z b s n)) (Fin.ext (by show 1792 + e.val = 1792 + 1024 * 0 + e.val; omega))
  · exact congrArg (fun n => sigm ((args x0 x1 x2 x3 x4 x5 x6 x7 x8 x9 x10).z b s n)) (Fin.ext (by show 1792 + (1024 + e.val) = 1792 + 1024 * 1 + e.val; omega))

end Cert.ReferenceIdeal.Val

end
-- ==== Proof.Value.lean ====
/- The value claim: the kernel's first result and the reference's are the same function of the arguments. -/
module

public import proofs.«01_k».proof.Proof.Frames
public import proofs.«01_k».proof.Proof.KvL
public import proofs.«01_k».proof.Proof.RvE
public import Idealize.ShloMosaic.Lib.Claim
public import Idealize.ShloMosaic.Lib.Pointwise

@[expose] public section

set_option maxRecDepth 16384

noncomputable section

namespace Cert.Proof

open Idealize.ShloMosaic Idealize.ShloMosaic.TcCoe Idealize.SL.Sem

/-- The facts the precondition's operations take. -/
theorem preFacts : Cert.Pre_finite_scores.Facts where
  bcast_S_S1x64 := by decide
  bcast_S_S1x8 := by decide

theorem inf_eq : Ideal.ofBits .f32 0x7F800000#32 = ⊤ := by simp [Ideal.ofBits, Ideal.ieee]

/-- A number under positive infinity is not it. -/
theorem ne_top_of_lt (x : EReal) (h : Ideal.cmp .olt x (Ideal.ofBits .f32 0x7F800000#32) = 1#1) : x ≠ ⊤ := by
  rintro rfl
  rw [inf_eq] at h
  exact absurd h (by simp [Ideal.cmp])

/-- A number whose absolute value lies under positive infinity is a real one. -/
theorem real_of_lt (x : EReal) (h : Ideal.cmp .olt (max x (-x)) (Ideal.ofBits .f32 0x7F800000#32) = 1#1) : ∃ r : ℝ, x = r := by
  rw [inf_eq] at h
  induction x with
  | bot => exact absurd h (by simp [Ideal.cmp])
  | coe r => exact ⟨r, rfl⟩
  | top => exact absurd h (by simp [Ideal.cmp])

section
variable (m : (ℓ : Loc Cert.KernelIdeal.nD Cert.KernelIdeal.τ Cert.KernelIdeal.sig) → Buf (Elt Ideal) ℓ)

/-- What the precondition gives: the two gains are real numbers, and no sink is positive infinity. -/
theorem reals (h : Cert.Pre_KernelIdeal_finite_scores (hPre_finite_scores := preFacts) m) (c : Dev Cert.KernelIdeal.nD) :
    (∀ d, ∃ r : ℝ, (Cert.KernelIdeal.Val.ka m c).qg d = r) ∧ (∀ d, ∃ r : ℝ, (Cert.KernelIdeal.Val.ka m c).kg d = r)
      ∧ (∀ x, (Cert.KernelIdeal.Val.ka m c).sk x ≠ ⊤) := by
  obtain ⟨h1, h2, h3⟩ := h c
  exact ⟨fun d => real_of_lt _ (congrFun h1 (ix2 0 d)), fun d => real_of_lt _ (congrFun h2 (ix2 0 d)), fun x => ne_top_of_lt _ (congrFun h3 (ix2 0 x))⟩
end

/-- The reference's term as an array of the mixer's first result. -/
theorem ref_res (x0 : FVec Ideal Cert.ReferenceIdeal.S8x4096x1024 .f32) (x1 : FVec Ideal Cert.ReferenceIdeal.S1x1024 .f32) (x2 : FVec Ideal Cert.ReferenceIdeal.S1x1024x3840 .f32)
    (x3 x4 : FVec Ideal Cert.ReferenceIdeal.S1x64 .f32) (x5 : FVec Ideal Cert.ReferenceIdeal.S1x8 .f32) (x6 : FVec Ideal Cert.ReferenceIdeal.S1x8x64 .f32)
    (x7 : FVec Ideal Cert.ReferenceIdeal.S1x8x128x128 .f32) (x8 : FVec Ideal Cert.ReferenceIdeal.S1x8x128 .f32) (x9 : FVec Ideal Cert.ReferenceIdeal.S1x2x512x1024 .f32)
    (x10 : FVec Ideal Cert.ReferenceIdeal.S1x1024x1024 .f32) :
    Cert.ReferenceIdeal.Read.val_main_v243 (F := Ideal) x0 x1 x2 x3 x4 x5 x6 x7 x8 x9 x10 = fun i => (Cert.KernelIdeal.Val.kargs x0 x1 x2 x3 x4 x5 x6 x7 x8 x9 x10).h1 (i 0) (i 1) (i 2) := by
  funext i
  obtain ⟨b, s, d, rfl⟩ : ∃ (b : Fin 8) (s : Fin 4096) (d : Fin 1024), i = ix3 b s d := ⟨i 0, i 1, i 2, by funext k; fin_cases k <;> rfl⟩
  exact Cert.ReferenceIdeal.Val.h1_at x0 x1 x2 x3 x4 x5 x6 x7 x8 x9 x10 b s d

theorem frame_KernelIdeal_pre : Cert.quiescent_KernelIdeal_pre_finite_scores (hPre_finite_scores := preFacts) := fun m g _ => Cert.KernelIdeal.Run.frame m g
theorem frame_ReferenceIdeal_pre : Cert.quiescent_ReferenceIdeal_pre_finite_scores (hPre_finite_scores := preFacts) := fun m g _ => frame_ReferenceIdeal m g trivial

set_option maxHeartbeats 1600000 in
/-- The value claim. -/
theorem algebraic : Cert.algebraic_KernelIdeal_ReferenceIdeal_pre_finite_scores (hPre_finite_scores := preFacts) := by
  intro m g m' g' hpre hagree
  refine ⟨fun c => Cert.KernelIdeal.Val.res m c, ?_, ?_⟩
  · exact (θ_run Cert.KernelIdeal.defs _ _).mono
      (fun r h c => ⟨((h.2 c).1 20).trans (Cert.KernelIdeal.Val.final m c (reals m hpre c).1 (reals m hpre c).2.1 (reals m hpre c).2.2), h.1.1 c⟩)
      (θ_run_and (Cert.KernelIdeal.Run.frame m g) (Cert.KernelIdeal.Run.run_main m g))
  · refine (θ_run Cert.ReferenceIdeal.defs _ _).mono (fun r h c => ⟨((h c).1.trans (Cert.ReferenceIdeal.Read.val_main_v243_eq _)).trans ?_, (h c).2⟩) (Cert.ReferenceIdeal.Value.run m' g')
    obtain ⟨a0, a1, a2, a3, a4, a5, a6, a7, a8, a9, a10, _⟩ := hagree c
    refine (ref_res _ _ _ _ _ _ _ _ _ _ _).trans ?_
    unfold Cert.KernelIdeal.Val.res Cert.KernelIdeal.Val.ka
    have e : ∀ b, StableHlo.launchContents m' c (Proc.devRef .tc b) = m' ((c.tc : Thread Cert.ReferenceIdeal.nD Cert.ReferenceIdeal.τ).loc b) := fun b => rfl
    rw [e, e, e, e, e, e, e, e, e, e, e, a0, a1, a2, a3, a4, a5, a6, a7, a8, a9, a10]

end Cert.Proof

end
-- ==== Proof.MoeICopy.lean ====
module

public import proofs.«01_k».proof.Proof.Gen.Kernel2Ideal.Launch
public import proofs.«01_k».proof.Proof.Gen.Kernel2Ideal.Loops
public import Idealize.ShloMosaic.Lib.Batch
public import Idealize.ShloMosaic.Lib.Ring
public import Idealize.ShloMosaic.Lib.ValueLayout
public import Idealize.ShloMosaic.Lib.Pipeline.FrameValue
public import Idealize.ShloMosaic.Lib.Pipeline.FrameBody
public import Idealize.ShloMosaic.Lib.Tactic
public import Idealize.ShloMosaic.Lib.Tactic.Stretches
public import Idealize.ShloMosaic.Lib.WholeRead

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- Two families of pieces as one, -/
theorem sep_join {ι : Type} [Fintype ι] [DecidableEq ι] (Φ Ψ : ι → sProp 𝕄) : iprop(bigSep Finset.univ Φ ∗ bigSep Finset.univ Ψ) ⊢ bigSep Finset.univ (fun i => iprop(Φ i ∗ Ψ i)) :=
  Entails.of_eq (bigSep_sep _ _ _).symm
/-- and each piece of a family by what it gives. -/
theorem sep_mono' {ι : Type} [Fintype ι] [DecidableEq ι] {Φ Ψ : ι → sProp 𝕄} (h : ∀ i, Φ i ⊢ Ψ i) : bigSep Finset.univ Φ ⊢ bigSep Finset.univ Ψ :=
  bigSep_mono fun i _ => h i

/-! ## The rows: of the two slots, and of the tokens -/

theorem inb_slot (s : Fin 2) : ∀ a, (![s.val, 0, 0] : Fin 3 → Nat) a + S1x256x1024.size a ≤ S2x256x1024.size a := by
  have := s.isLt; intro a; fin_cases a
  · show s.val + 1 ≤ 2; omega
  · show 0 + 256 ≤ 256; omega
  · show 0 + 1024 ≤ 1024; omega
theorem inb_row (r : Fin 256) : ∀ a, (![r.val, 0] : Fin 2 → Nat) a + S1x1024.size a ≤ S256x1024.size a := by
  have := r.isLt; intro a; fin_cases a
  · show r.val + 1 ≤ 256; omega
  · show 0 + 1024 ≤ 1024; omega
theorem inb_tok (n : Fin 32768) : ∀ a, (![n.val, 0] : Fin 2 → Nat) a + S1x1024.size a ≤ S32768x1024.size a := by
  have := n.isLt; intro a; fin_cases a
  · show n.val + 1 ≤ 32768; omega
  · show 0 + 1024 ≤ 1024; omega

/-- Row `r` of slot `s`. -/
def xrow (s : Fin 2) (r : Fin 256) : Memref sig .tc .vmem S1x1024 .f32 :=
  (((Memref.whole cc0_scratch0).slice (Rect.unit (s := S2x256x1024) ![s.val, 0, 0] S1x256x1024.size (inb_slot s)) (fun _ => rfl)).squeeze S256x1024 squeezes_S1x256x1024_S256x1024).slice
    (Rect.unit (s := S256x1024) ![r.val, 0] S1x1024.size (inb_row r)) (fun _ => rfl)
/-- The row of token `n`. -/
def hrow (n : Fin 32768) : Memref sig .tc .hbm S1x1024 .f32 :=
  (Memref.whole main_arg2).slice (Rect.unit (s := S32768x1024) ![n.val, 0] S1x1024.size (inb_tok n)) (fun _ => rfl)
theorem inb_cell (s : Fin 2) : ∀ a, (![s.val] : Fin 1 → Nat) a + S1.size a ≤ S2.size a := by
  have := s.isLt; intro a; fin_cases a
  show s.val + 1 ≤ 2; omega
/-- The semaphore of slot `s`. -/
def cell (s : Fin 2) : DmaSem sig := ((cc0_scratch1.slice (Rect.unit (s := S2) ![s.val] S1.size (inb_cell s))).squeeze S_ squeezes_S1_S_).sem

theorem xrow_emb (s : Fin 2) (r : Fin 256) (j : S1x1024.Idx) : (xrow s r).view.emb j = (ix3 s r (j 1) : S2x256x1024.Idx) := by
  show (Rect.unit (s := S2x256x1024) ![s.val, 0, 0] S1x256x1024.size (inb_slot s)).emb
    (Shape.reshapeEquiv _ ((Rect.unit (s := S256x1024) ![r.val, 0] S1x1024.size (inb_row r)).emb j)) = _
  have h : (Rect.unit (s := S256x1024) ![r.val, 0] S1x1024.size (inb_row r)).emb j = ix2 r (j 1) := by
    have := (j 0).isLt
    funext a; fin_cases a
    · exact Fin.ext (by show r.val + 1 * (j 0).val = r.val; have : (j 0).val < 1 := (j 0).isLt; omega)
    · exact Fin.ext (by show 0 + 1 * (j 1).val = (j 1).val; omega)
  rw [h]
  have h2 := reshapeEquiv_ix2_1ab (a := 256) (b := 1024) (squeezes_S1x256x1024_S256x1024.numel_eq) r (j 1)
  refine (congrArg _ h2).trans ?_
  funext a; fin_cases a
  · exact Fin.ext (by show s.val + 1 * 0 = s.val; omega)
  · exact Fin.ext (by show 0 + 1 * r.val = r.val; omega)
  · exact Fin.ext (by show 0 + 1 * (j 1).val = (j 1).val; omega)

theorem hrow_emb (n : Fin 32768) (j : S1x1024.Idx) : (hrow n).view.emb j = (ix2 n (j 1) : S32768x1024.Idx) := by
  show (Rect.unit (s := S32768x1024) ![n.val, 0] S1x1024.size (inb_tok n)).emb j = _
  funext a; fin_cases a
  · exact Fin.ext (by show n.val + 1 * (j 0).val = n.val; have : (j 0).val < 1 := (j 0).isLt; omega)
  · exact Fin.ext (by show 0 + 1 * (j 1).val = (j 1).val; omega)

theorem mem_xrow (s : Fin 2) (r : Fin 256) (y : S2x256x1024.Idx) : y ∈ (xrow s r).view.set ↔ (y 0).val = s.val ∧ (y 1).val = r.val := by
  constructor
  · intro h
    obtain ⟨j, -, hj⟩ := Finset.mem_map.mp h
    have e : y = ix3 s r (j 1) := hj.symm.trans (xrow_emb s r j)
    subst e; exact ⟨rfl, rfl⟩
  · rintro ⟨h0, h1⟩
    refine Finset.mem_map.mpr ⟨ix2 0 (y 2), Finset.mem_univ _, (xrow_emb s r _).trans ?_⟩
    funext a; fin_cases a
    · exact Fin.ext h0.symm
    · exact Fin.ext h1.symm
    · rfl

/-- The token a table word names. -/
def tok (v : BitVec 32) : Fin 32768 := ⟨v.toNat % 32768, Nat.mod_lt _ (by decide)⟩
/-- What both slots hold once the rows a table names are in: row `r` the row of the `r`-th token. -/
def X (h : S32768x1024.Idx → Elt F .f32) (x : S1x1x256.Idx → BitVec 32) : S2x256x1024.Idx → Elt F .f32 :=
  fun y => h (ix2 (tok (x (ix3 0 0 (y 1)))) (y 2))

/-- Slot `s`. -/
def slotSet (s : Fin 2) : Finset S2x256x1024.Idx := Finset.univ.filter fun y => (y 0).val = s.val

section Core
variable (c : Dev nD)

abbrev ℓx : Loc nD τ sig := (c : Thread nD τ).loc cc0_scratch0
abbrev ℓh : Loc nD τ sig := (c : Thread nD τ).loc main_arg2

/-- Slot `s`'s share of the tokens' rows, and the share row `r` of it is copied under. -/
def qs (s : Fin 2) : PosShare TreeShare := Transfers.shareTokN fullShare s.val

abbrev xRow (s : Fin 2) (r : Fin 256) : Finset (Idx (ℓx c)) := (xrow s r).view.set
abbrev hRow (n : Fin 32768) : Finset (Idx (ℓh c)) := (hrow n).view.set

/-- What the copy of row `r` leaves: the row in its slot, and the source row's share back. -/
def D (s : Fin 2) (h : Buf (Elt F) (ℓh c)) (x : S1x1x256.Idx → BitVec 32) (r : Fin 256) : sProp 𝕄 :=
  iprop((ℓx c ↦[xRow c s r]{fullShare} X h x) ∗ (ℓh c ↦[hRow c (tok (x (ix3 0 0 r)))]{Transfers.shareTok (qs s) 256 r} h))
instance D_storable (s : Fin 2) (h : Buf (Elt F) (ℓh c)) (x : S1x1x256.Idx → BitVec 32) (r : Fin 256) : BI.Storable (upEmb : UEmb _ 𝕄) (D c s h x r) := by
  unfold D; infer_instance

/-- One row's credit. -/
abbrev NN : ℕ := (xrow 0 0).view.dmaCredit

/-- The copies on slot `s`'s semaphore: `j` started, `u` consumed. -/
abbrev batch (s : Fin 2) (h : Buf (Elt F) (ℓh c)) (x : S1x1x256.Idx → BitVec 32) (j u : ℕ) : sProp 𝕄 :=
  Transfers.Batch (countersEmb (U := Pipeline.UD sig nD τ)) (c : Thread nD τ) (.dma (cell s)) () NN (D (F := F) c s h x) j u

/-- What stays of the source under row `r`'s share while the row's copy is in flight. -/
def rest (s : Fin 2) (h : Buf (Elt F) (ℓh c)) (x : S1x1x256.Idx → BitVec 32) (r : Fin 256) : sProp 𝕄 :=
  iprop(ℓh c ↦[Finset.univ \ hRow c (tok (x (ix3 0 0 r)))]{Transfers.shareTok (qs s) 256 r} h)
/-- Row `r` of slot `s` before its copy, and the source under its share. -/
def free (s : Fin 2) (h : Buf (Elt F) (ℓh c)) (r : Fin 256) : sProp 𝕄 :=
  iprop((∃ f, ℓx c ↦[xRow c s r]{fullShare} f) ∗ (ℓh c ↦{Transfers.shareTok (qs s) 256 r} h))

/-- Before copy `k` of slot `s`: the copies below it in flight, the rows from it on free. -/
def issueAt (s : Fin 2) (h : Buf (Elt F) (ℓh c)) (x : S1x1x256.Idx → BitVec 32) (k : ℕ) : sProp 𝕄 :=
  iprop(batch c s h x k 0 ∗ bigSep (Ring.rangeSet 256 0 k) (rest c s h x) ∗ bigSep (Ring.rangeSet 256 k 256) (free c s h))

theorem xrow_write (s : Fin 2) (r : Fin 256) (h : Buf (Elt F) (ℓh c)) (x : S1x1x256.Idx → BitVec 32) (fd : Buf (Elt F) (ℓx c))
    (y : S2x256x1024.Idx) (hy : y ∈ (xrow s r).view.set) :
    (xrow s r).view.write (Elt F) fd ((ReadAs.same : ReadAs (Elt F) S1x1024 .f32 S1x1024 .f32).apply ((hrow (tok (x (ix3 0 0 r)))).view.read (Elt F) h)) Finset.univ y = X h x y := by
  obtain ⟨j, -, rfl⟩ := Finset.mem_map.mp hy
  refine (View.write_emb_of_mem _ _ (Finset.mem_univ j)).trans ?_
  exact (congrArg (fun z : S32768x1024.Idx => h z) (hrow_emb (tok (x (ix3 0 0 r))) j)).trans (congrArg (fun z : S2x256x1024.Idx => X h x z) (xrow_emb s r j)).symm

/-- The start of copy `k`, at offsets equal to the row's. -/
theorem issue_dma (s : Fin 2) (h : Buf (Elt F) (ℓh c)) (x : S1x1x256.Idx → BitVec 32) (k : Fin 256)
    {o6 : Fin 1 → Nat} (e6 : o6 = ![s.val]) (i6 : ∀ a, o6 a + S1.size a ≤ S2.size a)
    {o7 : Fin 3 → Nat} (e7 : o7 = ![s.val, 0, 0]) (i7 : ∀ a, o7 a + S1x256x1024.size a ≤ S2x256x1024.size a)
    {o8 : Fin 2 → Nat} (e8 : o8 = ![k.val, 0]) (i8 : ∀ a, o8 a + S1x1024.size a ≤ S256x1024.size a)
    {o9 : Fin 2 → Nat} (e9 : o9 = ![(tok (x (ix3 0 0 k))).val, 0]) (i9 : ∀ a, o9 a + S1x1024.size a ≤ S32768x1024.size a)
    {hs hd ht} {α : Type} (K : PUnit → Prog (TpuEff nD τ sig (Elt F) Λ₀ .tc) α) (Q : α → sProp 𝕄) :
    issueAt c s h x k.val ⊢ iprop((issueAt c s h x (k.val + 1) -∗ wp frame (wpE (defs₀ (F := F)) Variants.none (c : Thread nD τ) none) Set.univ (K ⟨⟩) Q)
      -∗ wp frame (wpE (defs₀ (F := F)) Variants.none (c : Thread nD τ) none) Set.univ
        (.op (TpuEff.enqueueDma ((Memref.whole main_arg2).slice (Rect.unit (s := S32768x1024) o9 S1x1024.size i9) (fun _ => rfl))
          (.here ((((Memref.whole cc0_scratch0).slice (Rect.unit (s := S2x256x1024) o7 S1x256x1024.size i7) (fun _ => rfl)).squeeze S256x1024 squeezes_S1x256x1024_S256x1024).slice
            (Rect.unit (s := S256x1024) o8 S1x1024.size i8) (fun _ => rfl)))
          (.dma ((cc0_scratch1.slice (Rect.unit (s := S2) o6 S1.size i6)).squeeze S_ squeezes_S1_S_).sem) hs hd ht) K) Q) := by
  subst e6 e7 e8 e9
  have hk := k.isLt
  unfold issueAt
  rw [Ring.bigSep_rangeSet_head (Φ := free c s h) (lo := k.val) (by omega) (by omega),
    Ring.bigSep_rangeSet_last (Φ := rest c s h x) (lo := 0) (hi := k.val + 1) (by omega) (by omega)]
  iintro ⟨HB, HR, ⟨Hf, HF⟩⟩ Hk
  unfold free
  icases Hf with ⟨⟨%f, Hx⟩, Hh⟩
  ihave Hh := (pointsTo_split_subset (S := Finset.univ) (I := hRow c (tok (x (ix3 0 0 k)))) (Finset.subset_univ _)).1 $$ Hh
  icases Hh with ⟨Hs, Hr⟩
  iapply (Transfers.wp_dmaBatch (countersEmb (U := Pipeline.UD sig nD τ)) Variants.none (c : Thread nD τ) none
    (src := hrow (tok (x (ix3 0 0 k)))) (dst := xrow s k) () NN (sm := .dma (cell s)) (Sd := xRow c s k) (fs := h) (fd := f)
    (q := Transfers.shareTok (qs s) 256 k) rfl (Finset.Subset.refl _) hk (Nat.zero_le _) (D := D (F := F) c s h x) ?hD) $$ [Hs Hx HB] [HR HF Hr Hk]
  case hD =>
    unfold D
    iintro ⟨H1, H2⟩
    isplitl [H1]
    · iapply (Entails.of_eq (pointsTo_congr (xrow_write c s k h x f))); iexact H1
    iexact H2
  · isplitl [Hs]; · iexact Hs
    isplitl [Hx]; · iexact Hx
    iexact HB
  iintro HB
  iapply Hk
  isplitl [HB]; · iexact HB
  isplitl [Hr HR]
  · isplitl [Hr]; · unfold rest; iexact Hr
    iexact HR
  iexact HF

/-- The rows are the slot. -/
theorem rows_cover (s : Fin 2) : Finset.univ.biUnion (xRow c s) = (slotSet s : Finset (Idx (ℓx c))) := by
  ext y
  refine ⟨fun hy => ?_, fun hy => ?_⟩
  · obtain ⟨r, -, hr⟩ := Finset.mem_biUnion.mp hy
    exact Finset.mem_filter.mpr ⟨Finset.mem_univ _, ((mem_xrow s r y).mp hr).1⟩
  · exact Finset.mem_biUnion.mpr ⟨(y : S2x256x1024.Idx) 1, Finset.mem_univ _, (mem_xrow s _ y).mpr ⟨(Finset.mem_filter.mp hy).2, rfl⟩⟩
theorem rows_disjoint (s : Fin 2) (r r' : Fin 256) (h : r ≠ r') : Disjoint (xRow c s r) (xRow c s r') :=
  Finset.disjoint_left.mpr fun y hy hy' => h (Fin.ext (((mem_xrow s r y).mp hy).2.symm.trans ((mem_xrow s r' y).mp hy').2))
theorem slots_cover : Finset.univ.biUnion (fun s => (slotSet s : Finset (Idx (ℓx c)))) = Finset.univ := by
  ext y
  exact ⟨fun _ => Finset.mem_univ _, fun _ => Finset.mem_biUnion.mpr ⟨(y : S2x256x1024.Idx) 0, Finset.mem_univ _, Finset.mem_filter.mpr ⟨Finset.mem_univ _, rfl⟩⟩⟩
theorem slots_disjoint (s s' : Fin 2) (h : s ≠ s') : Disjoint (slotSet s : Finset (Idx (ℓx c))) (slotSet s') :=
  Finset.disjoint_left.mpr fun y hy hy' => h (Fin.ext ((Finset.mem_filter.mp hy).2.symm.trans (Finset.mem_filter.mp hy').2))

/-- Slot `s` with nothing in flight: its semaphore at zero, its rows at some contents, its share of the source. -/
def idle (s : Fin 2) (h : Buf (Elt F) (ℓh c)) : sProp 𝕄 :=
  iprop(semVal ((c : Thread nD τ), SemLoc.dma (cell s)) 0 ∗ (∃ f, ℓx c ↦[(slotSet s : Finset (Idx (ℓx c)))]{fullShare} f) ∗ (ℓh c ↦{qs s} h))
/-- Slot `s` with every row's copy in flight. -/
def flying (s : Fin 2) (h : Buf (Elt F) (ℓh c)) (x : S1x1x256.Idx → BitVec 32) : sProp 𝕄 :=
  iprop(batch c s h x 256 0 ∗ bigSep Finset.univ (rest c s h x) ∗ (ℓh c ↦{Transfers.shareDrop (qs s) 256} h))
/-- Slot `s` with every row in. -/
def landed (s : Fin 2) (h : Buf (Elt F) (ℓh c)) (x : S1x1x256.Idx → BitVec 32) : sProp 𝕄 :=
  iprop(semVal ((c : Thread nD τ), SemLoc.dma (cell s)) 0 ∗ (ℓx c ↦[(slotSet s : Finset (Idx (ℓx c)))]{fullShare} X h x) ∗ (ℓh c ↦{qs s} h))

theorem landed_idle (s : Fin 2) (h : Buf (Elt F) (ℓh c)) (x : S1x1x256.Idx → BitVec 32) : landed c s h x ⊢ idle c s h := by
  unfold landed idle
  iintro ⟨H1, H2, H3⟩
  isplitl [H1]; · iexact H1
  isplitl [H2]; · iexists _; iexact H2
  iexact H3

theorem free_of (s : Fin 2) (h : Buf (Elt F) (ℓh c)) (f : Buf (Elt F) (ℓx c)) (r : Fin 256) :
    iprop((ℓx c ↦[xRow c s r]{fullShare} f) ∗ (ℓh c ↦{Transfers.shareTok (qs s) 256 r} h)) ⊢ free (F := F) c s h r := by
  unfold free
  iintro ⟨H1, H2⟩
  isplitl [H1]; · iexists f; iexact H1
  iexact H2
theorem rest_join (s : Fin 2) (h : Buf (Elt F) (ℓh c)) (x : S1x1x256.Idx → BitVec 32) (r : Fin 256) :
    iprop((ℓh c ↦[hRow c (tok (x (ix3 0 0 r)))]{Transfers.shareTok (qs s) 256 r} h) ∗ rest (F := F) c s h x r)
      ⊢ (ℓh c ↦{Transfers.shareTok (qs s) 256 r} h : sProp 𝕄) := by
  unfold rest
  exact (pointsTo_split_subset (S := Finset.univ) (I := hRow c (tok (x (ix3 0 0 r)))) (Finset.subset_univ _)).2

theorem frees_of (s : Fin 2) (h : Buf (Elt F) (ℓh c)) (f : Buf (Elt F) (ℓx c)) :
    iprop(bigSep Finset.univ (fun r => ℓx c ↦[xRow c s r]{fullShare} f) ∗ bigSep Finset.univ (fun r : Fin 256 => ℓh c ↦{Transfers.shareTok (qs s) 256 r} h))
      ⊢ bigSep Finset.univ (free (F := F) c s h) :=
  (sep_join _ _).trans (sep_mono' (free_of c s h f))
theorem rests_join (s : Fin 2) (h : Buf (Elt F) (ℓh c)) (x : S1x1x256.Idx → BitVec 32) :
    iprop(bigSep Finset.univ (fun r : Fin 256 => ℓh c ↦[hRow c (tok (x (ix3 0 0 r)))]{Transfers.shareTok (qs s) 256 r} h) ∗ bigSep Finset.univ (rest (F := F) c s h x))
      ⊢ bigSep Finset.univ (fun r : Fin 256 => (ℓh c ↦{Transfers.shareTok (qs s) 256 r} h : sProp 𝕄)) :=
  (sep_join _ _).trans (sep_mono' (rest_join c s h x))

theorem idle_start (s : Fin 2) (h : Buf (Elt F) (ℓh c)) (x : S1x1x256.Idx → BitVec 32) :
    idle c s h ⊢ |={Set.univ}=> iprop(issueAt c s h x 0 ∗ (ℓh c ↦{Transfers.shareDrop (qs s) 256} h)) := by
  unfold idle issueAt
  iintro ⟨Hc, ⟨%f, Hx⟩, Hh⟩
  imod (Transfers.batch_alloc' (Lvl := ℕ) (countersEmb (U := Pipeline.UD sig nD τ)) (c : Thread nD τ) () NN (D (F := F) c s h x)
    (sm := .dma (cell s)) (E := Set.univ)) $$ Hc with HB
  imodintro
  ihave Hh := (Transfers.pointsTo_toks_split (qs s) 256) $$ Hh
  icases Hh with ⟨Hd, Hh⟩
  ihave Hx := (Entails.of_eq (Ring.pointsTo_sub_blocks (xRow c s) (rows_disjoint c s) _ (rows_cover c s) f)) $$ Hx
  isplitr [Hd]
  · isplitl [HB]; · iexact HB
    isplitr [Hx Hh]
    · rw [Ring.bigSep_rangeSet_empty (le_refl 0)]; iempintro
    rw [show Ring.rangeSet 256 0 256 = Finset.univ from by decide +kernel]
    iapply (frees_of c s h f)
    isplitl [Hx]; · iexact Hx
    iexact Hh
  iexact Hd

theorem issue_flying (s : Fin 2) (h : Buf (Elt F) (ℓh c)) (x : S1x1x256.Idx → BitVec 32) :
    iprop(issueAt c s h x 256 ∗ (ℓh c ↦{Transfers.shareDrop (qs s) 256} h)) ⊢ flying c s h x := by
  unfold flying issueAt
  rw [show Ring.rangeSet 256 0 256 = Finset.univ from by decide +kernel]
  iintro ⟨⟨HB, HR, -⟩, Hd⟩
  isplitl [HB]; · iexact HB
  isplitl [HR]; · iexact HR
  iexact Hd

/-- The rows in, and their shares put together. -/
theorem landed_of (s : Fin 2) (h : Buf (Elt F) (ℓh c)) (x : S1x1x256.Idx → BitVec 32) :
    iprop(bigSep Finset.univ (D (F := F) c s h x) ∗ semVal ((c : Thread nD τ), SemLoc.dma (cell s)) 0 ∗ bigSep Finset.univ (rest c s h x)
      ∗ (ℓh c ↦{Transfers.shareDrop (qs s) 256} h)) ⊢ landed c s h x := by
  unfold landed
  iintro ⟨HD, Hc, HR, Hd⟩
  isplitl [Hc]; · iexact Hc
  ihave HD := (show bigSep Finset.univ (D (F := F) c s h x) ⊢ iprop(bigSep Finset.univ (fun r => ℓx c ↦[xRow c s r]{fullShare} X h x)
      ∗ bigSep Finset.univ (fun r : Fin 256 => ℓh c ↦[hRow c (tok (x (ix3 0 0 r)))]{Transfers.shareTok (qs s) 256 r} h)) from
    Entails.of_eq (bigSep_sep _ _ _)) $$ HD
  icases HD with ⟨Hx, Hs⟩
  isplitl [Hx]
  · iapply (Entails.of_eq (Ring.pointsTo_sub_blocks (xRow c s) (rows_disjoint c s) _ (rows_cover c s) (X h x)).symm); iexact Hx
  iapply (Transfers.pointsTo_toks_join (qs s) 256)
  isplitl [Hd]; · iexact Hd
  iapply (rests_join c s h x)
  isplitl [Hs]; · iexact Hs
  iexact HR

/-- Before wait `k` of slot `s`: `k` rows' units consumed, or everything in. -/
def drainAt (s : Fin 2) (h : Buf (Elt F) (ℓh c)) (x : S1x1x256.Idx → BitVec 32) (k : ℕ) : sProp 𝕄 :=
  iprop((∃ W, owes (c : Thread nD τ) 0 W) ∗ (if k < 256 then batch c s h x 256 (k * NN)
    else iprop(bigSep Finset.univ (D (F := F) c s h x) ∗ semVal ((c : Thread nD τ), SemLoc.dma (cell s)) 0)))

theorem NN_pos : 0 < NN := View.dmaCredit_pos _ (by decide)

/-- Wait `k`, at a destination of one row's shape. -/
theorem drain_wait (s : Fin 2) (h : Buf (Elt F) (ℓh c)) (x : S1x1x256.Idx → BitVec 32) (k : Fin 256)
    {o6 : Fin 1 → Nat} (e6 : o6 = ![s.val]) (i6 : ∀ a, o6 a + S1.size a ≤ S2.size a)
    {o7 : Fin 3 → Nat} (i7 : ∀ a, o7 a + S1x256x1024.size a ≤ S2x256x1024.size a)
    {o8 : Fin 2 → Nat} (i8 : ∀ a, o8 a + S1x1024.size a ≤ S256x1024.size a)
    {o9 : Fin 2 → Nat} (i9 : ∀ a, o9 a + S1x1024.size a ≤ S32768x1024.size a)
    {hs hd} {α : Type} (K : PUnit → Prog (TpuEff nD τ sig (Elt F) Λ₀ .tc) α) (Q : α → sProp 𝕄) :
    drainAt c s h x k.val ⊢ iprop((drainAt c s h x (k.val + 1) -∗ wp frame (wpE (defs₀ (F := F)) Variants.none (c : Thread nD τ) none) Set.univ (K ⟨⟩) Q)
      -∗ wp frame (wpE (defs₀ (F := F)) Variants.none (c : Thread nD τ) none) Set.univ
        (.op (TpuEff.waitDma2 ((cc0_scratch1.slice (Rect.unit (s := S2) o6 S1.size i6)).squeeze S_ squeezes_S1_S_).sem
          ((Memref.whole main_arg2).slice (Rect.unit (s := S32768x1024) o9 S1x1024.size i9) (fun _ => rfl))
          ((((Memref.whole cc0_scratch0).slice (Rect.unit (s := S2x256x1024) o7 S1x256x1024.size i7) (fun _ => rfl)).squeeze S256x1024 squeezes_S1x256x1024_S256x1024).slice
            (Rect.unit (s := S256x1024) o8 S1x1024.size i8) (fun _ => rfl)) hs hd) K) Q) := by
  subst e6
  have hk := k.isLt
  unfold drainAt
  rw [if_pos hk]
  rcases Nat.lt_or_ge (k.val + 1) 256 with h1 | h1
  · rw [if_pos h1]
    iintro ⟨⟨%W, HO⟩, HB⟩ Hk
    iapply (Transfers.wp_waitBatch (countersEmb (U := Pipeline.UD sig nD τ)) Variants.none (c : Thread nD τ) none () (N := NN)
      (srcw := (Memref.whole main_arg2).slice (Rect.unit (s := S32768x1024) o9 S1x1024.size i9) (fun _ => rfl))
      (dstw := (((Memref.whole cc0_scratch0).slice (Rect.unit (s := S2x256x1024) o7 S1x256x1024.size i7) (fun _ => rfl)).squeeze S256x1024 squeezes_S1x256x1024_S256x1024).slice
            (Rect.unit (s := S256x1024) o8 S1x1024.size i8) (fun _ => rfl)) (hsrc := hs) (hdst := hd) rfl
      (D := D (F := F) c s h x) (sem := cell s) (u := k.val * NN)
      (by have := NN_pos; have e : k.val * NN + NN = (k.val + 1) * NN := (Nat.succ_mul _ _).symm; rw [e, Nat.mul_comm NN]; exact Nat.mul_lt_mul_of_pos_right h1 this)) $$ [HB HO]
    · isplitl [HB]; · iexact HB
      iexact HO
    iintro ⟨HB, HO⟩
    iapply Hk
    isplitl [HO]; · iexists _; iexact HO
    rw [Nat.succ_mul]; iexact HB
  · rw [if_neg (Nat.not_lt.mpr h1)]
    iintro ⟨⟨%W, HO⟩, HB⟩ Hk
    iapply (Transfers.wp_waitBatchLast (countersEmb (U := Pipeline.UD sig nD τ)) Variants.none (c : Thread nD τ) none () (N := NN)
      (srcw := (Memref.whole main_arg2).slice (Rect.unit (s := S32768x1024) o9 S1x1024.size i9) (fun _ => rfl))
      (dstw := (((Memref.whole cc0_scratch0).slice (Rect.unit (s := S2x256x1024) o7 S1x256x1024.size i7) (fun _ => rfl)).squeeze S256x1024 squeezes_S1x256x1024_S256x1024).slice
            (Rect.unit (s := S256x1024) o8 S1x1024.size i8) (fun _ => rfl)) (hsrc := hs) (hdst := hd) rfl NN_pos
      (D := D (F := F) c s h x) (sem := cell s) (u := k.val * NN)
      (by have e : k.val * NN + NN = (k.val + 1) * NN := (Nat.succ_mul _ _).symm; rw [e, Nat.mul_comm NN, show k.val + 1 = 256 by omega])) $$ [HB HO]
    · isplitl [HB]; · iexact HB
      iexact HO
    iintro ⟨HD, Hc, HO⟩
    iapply Hk
    isplitl [HO]; · iexists _; iexact HO
    isplitl [HD]; · iexact HD
    iexact Hc

end Core

end Cert.Kernel2Ideal.Run

end
-- ==== Proof.MoeITrip.lean ====
module

public import proofs.«01_k».proof.Proof.MoeICopy

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The loops' counts and offsets -/

theorem trips1 : k0_t1_loop.trips = 256 := by decide +kernel
theorem trips2 : k0_t2_loop.trips = 256 := by decide +kernel
theorem trips3 : k0_t3_loop.trips = 256 := by decide +kernel

/-- The slot of grid point `n`, and the other one. -/
def sl (n : ℕ) : Fin 2 := ⟨n % 2, Nat.mod_lt _ (by decide)⟩

theorem off2_eq : ∀ k : Fin k0_t1_loop.trips, k0_off2 k = ![0, 0, k.val] := by decide +kernel
theorem off3_eq : ∀ k : Fin k0_t1_loop.trips, k0_off3 k = ![k.val, 0] := by decide +kernel
theorem off5_eq : ∀ k : Fin k0_t2_loop.trips, k0_off5 k = ![0, 0, k.val] := by decide +kernel
theorem off8_eq : ∀ k : Fin k0_t2_loop.trips, k0_off8 k = ![k.val, 0] := by decide +kernel
theorem off10_eq : ∀ k : Fin k0_t3_loop.trips, k0_off10 k = ![0, 0, k.val] := by decide +kernel
theorem off6_eq : ∀ t : Fin grid0.N, k0_off6 (grid0.coords t) = ![(sl (t.val + 1)).val] := by decide +kernel
theorem off7_eq : ∀ t : Fin grid0.N, k0_off7 (grid0.coords t) = ![(sl (t.val + 1)).val, 0, 0] := by decide +kernel
theorem off11_eq : ∀ t : Fin grid0.N, k0_off11 (grid0.coords t) = ![(sl t.val).val] := by decide +kernel
theorem off15_eq : ∀ t : Fin grid0.N, k0_off15 (grid0.coords t) = ![(sl t.val).val, 0, 0] := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val + 1 < 544 := by decide +kernel

/-- The word a table's load reads. -/
theorem smem_val (m : Memref sig .tc .smem S1x1x256 .i32) {o : Fin 3 → Nat} (k : Fin 256) (e : o = ![0, 0, k.val])
    (i : ∀ a, o a + S1x1x1.size a ≤ S1x1x256.size a) (f : m.view.ty.shape.Idx → Elt F m.view.ty.elt) (y : S1x1x1.Idx) :
    (m.access (Rect.unit (s := S1x1x256) o S1x1x1.size i)).read (Elt F) f y = m.view.read (Elt F) f (ix3 0 0 k) := by
  subst e
  show m.view.read (Elt F) f ((Rect.unit (s := S1x1x256) ![0, 0, k.val] S1x1x1.size i).emb y) = _
  congr 1
  funext a; fin_cases a
  · exact Fin.ext (by show 0 + 1 * (y 0).val = 0; have : (y 0).val < 1 := (y 0).isLt; omega)
  · exact Fin.ext (by show 0 + 1 * (y 1).val = 0; have : (y 1).val < 1 := (y 1).isLt; omega)
  · exact Fin.ext (by show k.val + 1 * (y 2).val = k.val; have : (y 2).val < 1 := (y 2).isLt; omega)

theorem word_bind {α β : Type} (m : Memref sig .tc .smem S1x1x256 .i32) (r : Rect S1x1x256) (hl : (m.access r).Loads) (y : r.shape.Idx)
    (k : BitVec 32 → Prog (TpuEff nD τ sig (Elt F) Λ₀ .tc) α) (k' : α → Prog (TpuEff nD τ sig (Elt F) Λ₀ .tc) β) :
    (smemLoadElt (p := .tc) m r hl y k >>= k') = smemLoadElt (p := .tc) m r hl y (fun w => k w >>= k') := rfl

/-- A table's word read: the program goes on at the word, named. -/
theorem wp_word (c : Dev nD) (m : Memref sig .tc .smem S1x1x256 .i32) (x : S1x1x256.Idx → BitVec 32) (k : Fin 256) {o : Fin 3 → Nat} (e : o = ![0, 0, k.val])
    (i : ∀ a, o a + S1x1x1.size a ≤ S1x1x256.size a) (hl) (y) {α : Type} (kk : BitVec 32 → Prog (TpuEff nD τ sig (Elt F) Λ₀ .tc) α) (Q : α → sProp 𝕄) :
    owns (c : Thread nD τ) m fullShare x ⊢ iprop((owns (c : Thread nD τ) m fullShare x -∗ ∀ v, ⌜v = x (ix3 0 0 k)⌝ -∗
        wp frame (wpE (defs₀ (F := F)) Variants.none (c : Thread nD τ) none) Set.univ (kk v) Q)
      -∗ wp frame (wpE (defs₀ (F := F)) Variants.none (c : Thread nD τ) none) Set.univ
        (smemLoadElt (p := .tc) m (Rect.unit (s := S1x1x256) o S1x1x1.size i) hl y kk) Q) := by
  unfold owns
  iintro ⟨%f, %hf, Hf⟩ Hk
  iapply (wp_smemLoadElt_named Variants.none (c : Thread nD τ) none Set.univ (m := m) (r := Rect.unit (s := S1x1x256) o S1x1x1.size i) (x := y)
    (S := m.view.set) (q := fullShare) (f := f) (View.set_slice_subset m.view _)) $$ Hf
  iintro Hf %v %hv
  iapply Hk $$ [Hf]
  · iexists f; isplitr; · ipureintro; exact hf
    iexact Hf
  ipureintro
  exact hv.trans ((smem_val m k e i f y).trans (congrFun hf _))

section Trips
variable (c : Dev nD)
  (arg1 : Memref sig .tc .smem S544 .i32) (harg1 : arg1.IsWhole) (arg2 : Memref sig .tc .smem S1x1x256 .i32) (harg2 : arg2.IsWhole)
  (arg3 : Memref sig .tc .smem S1x1x256 .i32) (harg3 : arg3.IsWhole) (harg4 : (Memref.whole main_arg2 : Memref sig .tc .hbm S32768x1024 .f32).IsWhole)
  (arg5 : Memref sig .tc .vmem S1x1024 .f32) (harg5 : arg5.IsWhole) (arg6 : Memref sig .tc .vmem S1x1024x2048 .bf16) (harg6 : arg6.IsWhole)
  (arg7 : Memref sig .tc .vmem S1x1x2048 .f32) (harg7 : arg7.IsWhole) (arg8 : Memref sig .tc .vmem S1x1024x1024 .bf16) (harg8 : arg8.IsWhole)
  (arg9 : Memref sig .tc .vmem S1x1x1024 .f32) (harg9 : arg9.IsWhole) (arg10 : Memref sig .tc .vmem S256x1024 .f32) (harg10 : arg10.IsWhole)
  (harg11 : (Memref.whole cc0_scratch0 : Memref sig .tc .vmem S2x256x1024 .f32).IsWhole)
  (h : Buf (Elt F) (ℓh c)) (x : S1x1x256.Idx → BitVec 32) (hx : ∀ y, (x y).toNat < 32768)

include hx in
theorem tok_val (y : S1x1x256.Idx) : (tok (x y)).val = (x y).toNat := Nat.mod_eq_of_lt (hx y)

/-- A row a word below 32768 names is inside the tokens. -/
theorem inb_word (v : BitVec 32) (hv : v.toNat < 32768) : ∀ a, (![v.toNat, 0] : Fin 2 → Nat) a + S1x1024.size a ≤ S32768x1024.size a :=
  inb_tok ⟨v.toNat, hv⟩

include hx in
theorem trip1 (t : Fin grid0.N) (h1 : k0_cond1 (grid0.coords t) = 1#1) (k : Fin k0_t1_loop.trips) :
    iprop(owns (c : Thread nD τ) arg2 fullShare x ∗ issueAt c 0 h x k.val)
      ⊢ wp frame (wpE (defs₀ (F := F)) Variants.none (c : Thread nD τ) none) Set.univ
        (k0_t1_body (F := F) (grid0.coords t) arg1 harg1 arg2 harg2 arg3 harg3 (Memref.whole main_arg2) harg4 arg5 harg5 arg6 harg6 arg7 harg7 arg8 harg8
          arg9 harg9 arg10 harg10 (Memref.whole cc0_scratch0) harg11 cc0_scratch1 h1 k ⟨⟩)
        (fun _ => iprop(owns (c : Thread nD τ) arg2 fullShare x ∗ issueAt c 0 h x (k.val + 1))) := by
  have hk : k.val < 256 := lt_of_lt_of_eq k.isLt trips1
  unfold k0_t1_body
  simp only [smemLoad]
  rw [word_bind]
  iintro ⟨Hf, HI⟩
  iapply (wp_word c arg2 x ⟨k.val, hk⟩ (off2_eq k) _ _ _ _ _) $$ Hf
  iintro Hf %v %hv
  simp only [Prog.lift, Prog.bind_op, Prog.bind_ret, Prog.pure_eq_ret]
  have hchk : k0_chk1 (grid0.coords t) v := by
    unfold k0_chk1; intro _; rw [hv]; exact inb_word _ (hx _)
  iapply (wp_assume Variants.none (c : Thread nD τ) none Set.univ hchk)
  have e9 : k0_off4 v = ![(tok (x (ix3 0 0 ⟨k.val, hk⟩))).val, 0] := by
    rw [hv]; show ![_, 0] = ![_, 0]; rw [tok_val x hx]
  iapply (issue_dma c 0 h x ⟨k.val, hk⟩ (by rfl) _ (by rfl) _ (off3_eq k) _ e9 _) $$ HI
  iintro HI
  sl_step
  isplitl [Hf]; · iexact Hf
  iexact HI

include hx in
theorem trip2 (t : Fin grid0.N) (h2 : k0_cond2 (grid0.coords t) = 1#1) (k : Fin k0_t2_loop.trips) :
    iprop(owns (c : Thread nD τ) arg3 fullShare x ∗ issueAt c (sl (t.val + 1)) h x k.val)
      ⊢ wp frame (wpE (defs₀ (F := F)) Variants.none (c : Thread nD τ) none) Set.univ
        (k0_t2_body (F := F) (grid0.coords t) arg1 harg1 arg2 harg2 arg3 harg3 (Memref.whole main_arg2) harg4 arg5 harg5 arg6 harg6 arg7 harg7 arg8 harg8
          arg9 harg9 arg10 harg10 (Memref.whole cc0_scratch0) harg11 cc0_scratch1 h2 k ⟨⟩)
        (fun _ => iprop(owns (c : Thread nD τ) arg3 fullShare x ∗ issueAt c (sl (t.val + 1)) h x (k.val + 1))) := by
  have hk : k.val < 256 := lt_of_lt_of_eq k.isLt trips2
  unfold k0_t2_body
  simp only [smemLoad]
  rw [word_bind]
  iintro ⟨Hf, HI⟩
  iapply (wp_word c arg3 x ⟨k.val, hk⟩ (off5_eq k) _ _ _ _ _) $$ Hf
  iintro Hf %v %hv
  simp only [Prog.lift, Prog.bind_op, Prog.bind_ret, Prog.pure_eq_ret]
  have hchk : k0_chk2 (grid0.coords t) v := by
    unfold k0_chk2; intro _; rw [hv]; exact inb_word _ (hx _)
  iapply (wp_assume Variants.none (c : Thread nD τ) none Set.univ hchk)
  have e9 : k0_off9 v = ![(tok (x (ix3 0 0 ⟨k.val, hk⟩))).val, 0] := by
    rw [hv]; show ![_, 0] = ![_, 0]; rw [tok_val x hx]
  iapply (issue_dma c (sl (t.val + 1)) h x ⟨k.val, hk⟩ (off6_eq t) _ (off7_eq t) _ (off8_eq k) _ e9 _) $$ HI
  iintro HI
  sl_step
  isplitl [Hf]; · iexact Hf
  iexact HI

include hx in
theorem trip3 (t : Fin grid0.N) (k : Fin k0_t3_loop.trips) :
    iprop(owns (c : Thread nD τ) arg2 fullShare x ∗ drainAt c (sl t.val) h x k.val)
      ⊢ wp frame (wpE (defs₀ (F := F)) Variants.none (c : Thread nD τ) none) Set.univ
        (k0_t3_body (F := F) (grid0.coords t) arg1 harg1 arg2 harg2 arg3 harg3 (Memref.whole main_arg2) harg4 arg5 harg5 arg6 harg6 arg7 harg7 arg8 harg8
          arg9 harg9 arg10 harg10 (Memref.whole cc0_scratch0) harg11 cc0_scratch1 k ⟨⟩)
        (fun _ => iprop(owns (c : Thread nD τ) arg2 fullShare x ∗ drainAt c (sl t.val) h x (k.val + 1))) := by
  have hk : k.val < 256 := lt_of_lt_of_eq k.isLt trips3
  unfold k0_t3_body
  simp only [smemLoad]
  rw [word_bind]
  iintro ⟨Hf, HI⟩
  iapply (wp_word c arg2 x ⟨k.val, hk⟩ (off10_eq k) _ _ _ _ _) $$ Hf
  iintro Hf %v %hv
  simp only [Prog.lift, Prog.bind_op, Prog.bind_ret, Prog.pure_eq_ret]
  have hchk : k0_chk3 v := by
    unfold k0_chk3; rw [hv]; exact inb_word _ (hx _)
  iapply (wp_assume Variants.none (c : Thread nD τ) none Set.univ hchk)
  iapply (drain_wait c (sl t.val) h x ⟨k.val, hk⟩ (off11_eq t) _ _ _ _) $$ HI
  iintro HI
  sl_step
  isplitl [Hf]; · iexact Hf
  iexact HI

/-! ## The loops -/

include hx in
/-- The first loop starts slot 0's copies. -/
theorem loop1 (t : Fin grid0.N) (h1 : k0_cond1 (grid0.coords t) = 1#1) {α : Type} (kk : Unit → Prog (TpuEff nD τ sig (Elt F) Λ₀ .tc) α) (Q : α → sProp 𝕄) :
    iprop(owns (c : Thread nD τ) arg2 fullShare x ∗ idle c 0 h)
      ⊢ iprop((iprop(owns (c : Thread nD τ) arg2 fullShare x ∗ flying c 0 h x) -∗ wp frame (wpE (defs₀ (F := F)) Variants.none (c : Thread nD τ) none) Set.univ (kk ()) Q)
        -∗ wp frame (wpE (defs₀ (F := F)) Variants.none (c : Thread nD τ) none) Set.univ
        (Scf.Loop.for k0_t1_loop (k0_t1_ok (grid0.coords t) h1) ⟨⟩
          (k0_t1_body (F := F) (grid0.coords t) arg1 harg1 arg2 harg2 arg3 harg3 (Memref.whole main_arg2) harg4 arg5 harg5 arg6 harg6 arg7 harg7 arg8 harg8
          arg9 harg9 arg10 harg10 (Memref.whole cc0_scratch0) harg11 cc0_scratch1 h1) >>= kk) Q) := by
  iintro ⟨Hx, HI⟩ Hk
  imod (idle_start c 0 h x) $$ HI with ⟨HI, Hd⟩
  iapply (Scf.wp_for_bind frame (wpE (defs₀ (F := F)) Variants.none (c : Thread nD τ) none) Set.univ _ _ _ (k0_t1_ok (grid0.coords t) h1) _ _
    (fun k _ => iprop(owns (c : Thread nD τ) arg2 fullShare x ∗ issueAt c 0 h x k)) ?trip) $$ [Hx HI]
  · intro k u
    exact trip1 c arg1 harg1 arg2 harg2 arg3 harg3 harg4 arg5 harg5 arg6 harg6 arg7 harg7 arg8 harg8 arg9 harg9 arg10 harg10 harg11 h x hx t h1 k
  · isplitl [Hx]; · iexact Hx
    iexact HI
  iintro %u ⟨Hx, HI⟩
  iapply Hk
  isplitl [Hx]; · iexact Hx
  iapply (issue_flying c 0 h x)
  isplitl [HI]
  · rw [show Scf.trips k0_t1_loop.lb k0_t1_loop.ub k0_t1_loop.st = 256 from trips1]; iexact HI
  iexact Hd

include hx in
/-- The second loop starts the next slot's copies. -/
theorem loop2 (t : Fin grid0.N) (h2 : k0_cond2 (grid0.coords t) = 1#1) {α : Type} (kk : Unit → Prog (TpuEff nD τ sig (Elt F) Λ₀ .tc) α) (Q : α → sProp 𝕄) :
    iprop(owns (c : Thread nD τ) arg3 fullShare x ∗ idle c (sl (t.val + 1)) h)
      ⊢ iprop((iprop(owns (c : Thread nD τ) arg3 fullShare x ∗ flying c (sl (t.val + 1)) h x) -∗ wp frame (wpE (defs₀ (F := F)) Variants.none (c : Thread nD τ) none) Set.univ (kk ()) Q)
        -∗ wp frame (wpE (defs₀ (F := F)) Variants.none (c : Thread nD τ) none) Set.univ
        (Scf.Loop.for k0_t2_loop (k0_t2_ok (grid0.coords t) h2) ⟨⟩
          (k0_t2_body (F := F) (grid0.coords t) arg1 harg1 arg2 harg2 arg3 harg3 (Memref.whole main_arg2) harg4 arg5 harg5 arg6 harg6 arg7 harg7 arg8 harg8
          arg9 harg9 arg10 harg10 (Memref.whole cc0_scratch0) harg11 cc0_scratch1 h2) >>= kk) Q) := by
  iintro ⟨Hx, HI⟩ Hk
  imod (idle_start c (sl (t.val + 1)) h x) $$ HI with ⟨HI, Hd⟩
  iapply (Scf.wp_for_bind frame (wpE (defs₀ (F := F)) Variants.none (c : Thread nD τ) none) Set.univ _ _ _ (k0_t2_ok (grid0.coords t) h2) _ _
    (fun k _ => iprop(owns (c : Thread nD τ) arg3 fullShare x ∗ issueAt c (sl (t.val + 1)) h x k)) ?trip) $$ [Hx HI]
  · intro k u
    exact trip2 c arg1 harg1 arg2 harg2 arg3 harg3 harg4 arg5 harg5 arg6 harg6 arg7 harg7 arg8 harg8 arg9 harg9 arg10 harg10 harg11 h x hx t h2 k
  · isplitl [Hx]; · iexact Hx
    iexact HI
  iintro %u ⟨Hx, HI⟩
  iapply Hk
  isplitl [Hx]; · iexact Hx
  iapply (issue_flying c (sl (t.val + 1)) h x)
  isplitl [HI]
  · rw [show Scf.trips k0_t2_loop.lb k0_t2_loop.ub k0_t2_loop.st = 256 from trips2]; iexact HI
  iexact Hd

include hx in
/-- The third loop waits for the slot's copies. -/
theorem loop3 (t : Fin grid0.N) {α : Type} (kk : Unit → Prog (TpuEff nD τ sig (Elt F) Λ₀ .tc) α) (Q : α → sProp 𝕄) :
    iprop(owns (c : Thread nD τ) arg2 fullShare x ∗ flying c (sl t.val) h x ∗ (∃ W, owes (c : Thread nD τ) 0 W))
      ⊢ iprop((iprop(owns (c : Thread nD τ) arg2 fullShare x ∗ landed c (sl t.val) h x ∗ (∃ W, owes (c : Thread nD τ) 0 W)) -∗ wp frame (wpE (defs₀ (F := F)) Variants.none (c : Thread nD τ) none) Set.univ (kk ()) Q)
        -∗ wp frame (wpE (defs₀ (F := F)) Variants.none (c : Thread nD τ) none) Set.univ
        (Scf.Loop.for k0_t3_loop k0_t3_ok ⟨⟩
          (k0_t3_body (F := F) (grid0.coords t) arg1 harg1 arg2 harg2 arg3 harg3 (Memref.whole main_arg2) harg4 arg5 harg5 arg6 harg6 arg7 harg7 arg8 harg8
          arg9 harg9 arg10 harg10 (Memref.whole cc0_scratch0) harg11 cc0_scratch1) >>= kk) Q) := by
  unfold flying
  iintro ⟨Hx, ⟨HB, HR, Hd⟩, HO⟩ Hk
  iapply (Scf.wp_for_bind frame (wpE (defs₀ (F := F)) Variants.none (c : Thread nD τ) none) Set.univ _ _ _ k0_t3_ok _ _
    (fun k _ => iprop(owns (c : Thread nD τ) arg2 fullShare x ∗ drainAt c (sl t.val) h x k)) ?trip) $$ [Hx HB HO]
  · intro k u
    exact trip3 c arg1 harg1 arg2 harg2 arg3 harg3 harg4 arg5 harg5 arg6 harg6 arg7 harg7 arg8 harg8 arg9 harg9 arg10 harg10 harg11 h x hx t k
  · isplitl [Hx]; · iexact Hx
    unfold drainAt
    isplitl [HO]; · iexact HO
    rw [if_pos (show 0 < 256 by decide), Nat.zero_mul]; iexact HB
  iintro %u ⟨Hx, HI⟩
  rw [show Scf.trips k0_t3_loop.lb k0_t3_loop.ub k0_t3_loop.st = 256 from trips3]
  unfold drainAt
  rw [if_neg (show ¬ 256 < 256 by decide)]
  icases HI with ⟨HO, HD, Hc⟩
  iapply Hk
  isplitl [Hx]; · iexact Hx
  isplitr [HO]
  · iapply (landed_of c (sl t.val) h x)
    isplitl [HD]; · iexact HD
    isplitl [Hc]; · iexact Hc
    isplitl [HR]; · iexact HR
    iexact Hd
  iexact HO

end Trips

end Cert.Kernel2Ideal.Run

end
-- ==== Proof.MoeIBody.lean ====
module

public import proofs.«01_k».proof.Proof.MoeITrip

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## Loads and stores of whole blocks -/

theorem read_full {sp : Space} {s : Shape} {e : EltTy} (m : Memref sig .tc sp s e) {o : Fin s.rank → Nat} (ho : ∀ a, o a = 0) (i : ∀ a, o a + s.size a ≤ s.size a)
    (f : m.view.ty.shape.Idx → Elt F m.view.ty.elt) : (m.access (Rect.unit (s := s) o s.size i)).read (Elt F) f = m.view.read (Elt F) f := by
  funext y
  show m.view.read (Elt F) f ((Rect.unit (s := s) o s.size i).emb y) = _
  congr 1
  funext a
  exact Fin.ext (by show o a + 1 * (y a).val = (y a).val; rw [ho a]; omega)

/-- A whole block read. -/
theorem wp_block (c : Dev nD) {cs : CoreSpace} {s : Shape} {e : EltTy} (m : Memref sig .tc cs s e) (x : s.Idx → Elt F e) {o : Fin s.rank → Nat} (ho : ∀ a, o a = 0)
    (i : ∀ a, o a + s.size a ≤ s.size a) {hl} {α : Type} (kk : (s.Idx → Elt F e) → Prog (TpuEff nD τ sig (Elt F) Λ₀ .tc) α) (Q : α → sProp 𝕄) :
    owns (c : Thread nD τ) m fullShare x ⊢ iprop((owns (c : Thread nD τ) m fullShare x -∗
        wp frame (wpE (defs₀ (F := F)) Variants.none (c : Thread nD τ) none) Set.univ (kk x) Q)
      -∗ wp frame (wpE (defs₀ (F := F)) Variants.none (c : Thread nD τ) none) Set.univ
        (.op (.load m (Rect.unit (s := s) o s.size i).toLoadRect hl) kk) Q) := by
  unfold owns
  iintro ⟨%f, %hf, Hf⟩ Hk
  iapply (wp_load_rect Variants.none (c : Thread nD τ) none Set.univ (m := m) (r := Rect.unit (s := s) o s.size i)
    (S := m.view.set) (q := fullShare) (f := f) (View.set_slice_subset m.view _)) $$ Hf
  rw [(read_full m ho i f).trans hf]
  iintro Hf
  iapply Hk
  iexists f; isplitr; · ipureintro; exact hf
  iexact Hf

/-- A whole block written. -/
theorem wp_put (c : Dev nD) {cs : CoreSpace} {s : Shape} {e : EltTy} (m : Memref sig .tc cs s e) (x w : s.Idx → Elt F e) {o : Fin s.rank → Nat} (ho : ∀ a, o a = 0)
    (i : ∀ a, o a + s.size a ≤ s.size a) {hx hm} {α : Type} (kk : PUnit → Prog (TpuEff nD τ sig (Elt F) Λ₀ .tc) α) (Q : α → sProp 𝕄) :
    owns (c : Thread nD τ) m fullShare x ⊢ iprop((owns (c : Thread nD τ) m fullShare w -∗
        wp frame (wpE (defs₀ (F := F)) Variants.none (c : Thread nD τ) none) Set.univ (kk ⟨⟩) Q)
      -∗ wp frame (wpE (defs₀ (F := F)) Variants.none (c : Thread nD τ) none) Set.univ
        (.op (.store m (Rect.unit (s := s) o s.size i) w Finset.univ hx hm) kk) Q) := by
  unfold owns
  iintro ⟨%f, %hf, Hf⟩ Hk
  iapply (wp_store Variants.none (c : Thread nD τ) none Set.univ (m := m) (r := Rect.unit (s := s) o s.size i) (w := w) (Mk := Finset.univ)
    (S := m.view.set) (f := f) (View.set_slice_subset m.view _)) $$ Hf
  iintro Hf
  iapply Hk
  iexists _; isplitr; swap; · iexact Hf
  ipureintro
  exact (read_full m ho i _).symm.trans (View.read_write_univ _ _)

/-- Slot `s` of both slots' contents. -/
def slotOf (f : S2x256x1024.Idx → Elt F .f32) (s : Fin 2) : S1x256x1024.Idx → Elt F .f32 := fun y => f (ix3 s (y 1) (y 2))

theorem slot_emb (s : Fin 2) {o : Fin 3 → Nat} (e : o = ![s.val, 0, 0]) (i : ∀ a, o a + S1x256x1024.size a ≤ S2x256x1024.size a) (y : S1x256x1024.Idx) :
    ((Memref.whole cc0_scratch0 : Memref sig .tc .vmem S2x256x1024 .f32).access (Rect.unit (s := S2x256x1024) o S1x256x1024.size i)).emb y = (ix3 s (y 1) (y 2) : S2x256x1024.Idx) := by
  subst e
  show (Rect.unit (s := S2x256x1024) ![s.val, 0, 0] S1x256x1024.size i).emb y = _
  funext a; fin_cases a
  · exact Fin.ext (by show s.val + 1 * (y 0).val = s.val; have : (y 0).val < 1 := (y 0).isLt; omega)
  · exact Fin.ext (by show 0 + 1 * (y 1).val = (y 1).val; omega)
  · exact Fin.ext (by show 0 + 1 * (y 2).val = (y 2).val; omega)

/-- A slot read. -/
theorem wp_slot (c : Dev nD) (s : Fin 2) (f : Buf (Elt F) (ℓx c)) {o : Fin 3 → Nat} (e : o = ![s.val, 0, 0])
    (i : ∀ a, o a + S1x256x1024.size a ≤ S2x256x1024.size a) {hl} {α : Type} (kk : (S1x256x1024.Idx → Elt F .f32) → Prog (TpuEff nD τ sig (Elt F) Λ₀ .tc) α) (Q : α → sProp 𝕄) :
    (ℓx c ↦[(slotSet s : Finset (Idx (ℓx c)))]{fullShare} f : sProp 𝕄) ⊢ iprop(((ℓx c ↦[(slotSet s : Finset (Idx (ℓx c)))]{fullShare} f) -∗
        wp frame (wpE (defs₀ (F := F)) Variants.none (c : Thread nD τ) none) Set.univ (kk (slotOf f s)) Q)
      -∗ wp frame (wpE (defs₀ (F := F)) Variants.none (c : Thread nD τ) none) Set.univ
        (.op (.load (Memref.whole cc0_scratch0 : Memref sig .tc .vmem S2x256x1024 .f32) (Rect.unit (s := S2x256x1024) o S1x256x1024.size i).toLoadRect hl) kk) Q) := by
  have hsub : ((Memref.whole cc0_scratch0 : Memref sig .tc .vmem S2x256x1024 .f32).access (Rect.unit (s := S2x256x1024) o S1x256x1024.size i)).set ⊆ slotSet s := by
    intro y hy
    obtain ⟨j, -, hj⟩ := Finset.mem_map.mp hy
    have e2 : y = ix3 s (j 1) (j 2) := hj.symm.trans (slot_emb s e i j)
    exact Finset.mem_filter.mpr ⟨Finset.mem_univ _, by rw [e2]⟩
  have hr : ((Memref.whole cc0_scratch0 : Memref sig .tc .vmem S2x256x1024 .f32).access (Rect.unit (s := S2x256x1024) o S1x256x1024.size i)).read (Elt F) f = slotOf f s := by
    funext y
    exact congrArg (fun z : S2x256x1024.Idx => f z) (slot_emb s e i y)
  iintro Hf Hk
  iapply (wp_load_rect Variants.none (c : Thread nD τ) none Set.univ (m := (Memref.whole cc0_scratch0 : Memref sig .tc .vmem S2x256x1024 .f32)) (r := Rect.unit (s := S2x256x1024) o S1x256x1024.size i)
    (S := slotSet s) (q := fullShare) (f := f) hsub) $$ Hf
  rw [hr]
  iintro Hf
  iapply Hk
  iexact Hf

/-- What one block of tokens comes out as, from its rows and its expert's blocks. -/
def kval (xs : S1x256x1024.Idx → Elt F .f32) (nv : S1x1024.Idx → Elt F .f32) (wg : S1x1024x2048.Idx → Elt F .bf16) (bg : S1x1x2048.Idx → Elt F .f32)
    (wd : S1x1024x1024.Idx → Elt F .bf16) (bd : S1x1x1024.Idx → Elt F .f32) : S256x1024.Idx → Elt F .f32 :=
  k0_pay1 (k0_pay4 (k0_pay2 xs) (k0_pay3 nv) wg bg) k0_pay5 0#32 wd bd

section Body
variable (c : Dev nD)
  (arg1 : Memref sig .tc .smem S544 .i32) (harg1 : arg1.IsWhole) (arg2 : Memref sig .tc .smem S1x1x256 .i32) (harg2 : arg2.IsWhole)
  (arg3 : Memref sig .tc .smem S1x1x256 .i32) (harg3 : arg3.IsWhole) (harg4 : (Memref.whole main_arg2 : Memref sig .tc .hbm S32768x1024 .f32).IsWhole)
  (arg5 : Memref sig .tc .vmem S1x1024 .f32) (harg5 : arg5.IsWhole) (arg6 : Memref sig .tc .vmem S1x1024x2048 .bf16) (harg6 : arg6.IsWhole)
  (arg7 : Memref sig .tc .vmem S1x1x2048 .f32) (harg7 : arg7.IsWhole) (arg8 : Memref sig .tc .vmem S1x1024x1024 .bf16) (harg8 : arg8.IsWhole)
  (arg9 : Memref sig .tc .vmem S1x1x1024 .f32) (harg9 : arg9.IsWhole) (arg10 : Memref sig .tc .vmem S256x1024 .f32) (harg10 : arg10.IsWhole)
  (harg11 : (Memref.whole cc0_scratch0 : Memref sig .tc .vmem S2x256x1024 .f32).IsWhole)
  (h : Buf (Elt F) (ℓh c)) (x x' : S1x1x256.Idx → BitVec 32) (hx : ∀ y, (x y).toNat < 32768) (hx' : ∀ y, (x' y).toNat < 32768)
  (nv : S1x1024.Idx → Elt F .f32) (wg : S1x1024x2048.Idx → Elt F .bf16) (bg : S1x1x2048.Idx → Elt F .f32)
  (wd : S1x1024x1024.Idx → Elt F .bf16) (bd : S1x1x1024.Idx → Elt F .f32) (d : S256x1024.Idx → Elt F .f32)

/-- The slot of grid point `n` as the point finds it: its copies started at the point before, except at the first. -/
def found (n : ℕ) (h : Buf (Elt F) (ℓh c)) (x : S1x1x256.Idx → BitVec 32) : sProp 𝕄 :=
  if 0 < n ∧ n < 544 then flying c (sl n) h x else idle c (sl n) h

/-- What the body holds at its windows. -/
def winsAt (o : S256x1024.Idx → Elt F .f32) : sProp 𝕄 :=
  iprop(owns (c : Thread nD τ) arg2 fullShare x ∗ owns (c : Thread nD τ) arg3 fullShare x' ∗ owns (c : Thread nD τ) arg5 fullShare nv
    ∗ owns (c : Thread nD τ) arg6 fullShare wg ∗ owns (c : Thread nD τ) arg7 fullShare bg ∗ owns (c : Thread nD τ) arg8 fullShare wd
    ∗ owns (c : Thread nD τ) arg9 fullShare bd ∗ owns (c : Thread nD τ) arg10 fullShare o)

/-- What the first part hands on. -/
def part1Post (t : Fin grid0.N) (r : Σ' (v32 : FVec F S256x1024 .f32), FVec F S256x1024 .f32) : sProp 𝕄 :=
  iprop(⌜r = ⟨k0_pay2 (slotOf (X h x) (sl t.val)), k0_pay3 nv⟩⌝ ∗ owns (c : Thread nD τ) arg2 fullShare x ∗ owns (c : Thread nD τ) arg5 fullShare nv
    ∗ idle c (sl t.val) h ∗ (∃ W, owes (c : Thread nD τ) 0 W))

include hx in
/-- The wait for the slot's rows and their read. -/
theorem tail3 (t : Fin grid0.N) (Q : (Σ' (v32 : FVec F S256x1024 .f32), FVec F S256x1024 .f32) → sProp 𝕄) :
    iprop(owns (c : Thread nD τ) arg2 fullShare x ∗ owns (c : Thread nD τ) arg5 fullShare nv ∗ flying c (sl t.val) h x ∗ (∃ W, owes (c : Thread nD τ) 0 W))
      ⊢ iprop((∀ r, part1Post c arg2 arg5 h x nv t r -∗ Q r) -∗ wp frame (wpE (defs₀ (F := F)) Variants.none (c : Thread nD τ) none) Set.univ
        (Scf.Loop.for k0_t3_loop k0_t3_ok PUnit.unit (k0_t3_body (F := F) (grid0.coords t) arg1 harg1 arg2 harg2 arg3 harg3 (Memref.whole main_arg2) harg4 arg5 harg5 arg6 harg6 arg7 harg7 arg8 harg8
          arg9 harg9 arg10 harg10 (Memref.whole cc0_scratch0) harg11 cc0_scratch1) >>= fun _ =>
          Prog.op (TpuEff.load (Memref.whole cc0_scratch0 : Memref sig .tc .vmem S2x256x1024 .f32) (Rect.unit (s := S2x256x1024) (k0_off15 (grid0.coords t)) S1x256x1024.size (k0_off15_inb (grid0.coords t))).toLoadRect (View.loadsAt_vmem h_S1x256x1024)) fun v19 =>
          Prog.op (TpuEff.load arg5 (Rect.unit (s := S1x1024) ![0, 0] S1x1024.size inb_S1x1024_S1x1024_0_0).toLoadRect (View.loadsAt_vmem h_S1x1024)) fun v21 =>
          Prog.ret ⟨k0_pay2 v19, k0_pay3 v21⟩) Q) := by
  iintro ⟨Hx, Hn, HF, HO⟩ HQ
  iapply (loop3 c arg1 harg1 arg2 harg2 arg3 harg3 harg4 arg5 harg5 arg6 harg6 arg7 harg7 arg8 harg8 arg9 harg9 arg10 harg10 harg11 h x hx t _ _) $$ [Hx HF HO]
  · isplitl [Hx]; · iexact Hx
    isplitl [HF]; · iexact HF
    iexact HO
  unfold landed
  iintro ⟨Hx, ⟨Hc, Hs, Hh⟩, HO⟩
  iapply (wp_slot c (sl t.val) (X h x) (off15_eq t) _ _ _) $$ Hs
  iintro Hs
  iapply (wp_block c arg5 nv (by decide) _ _ _) $$ Hn
  iintro Hn
  rw [Idealize.SL.Sem.wp_ret]
  imodintro
  iapply HQ
  unfold part1Post
  isplitr; · ipureintro; rfl
  isplitl [Hx]; · iexact Hx
  isplitl [Hn]; · iexact Hn
  isplitr [HO]
  · iapply (landed_idle c (sl t.val) h x)
    unfold landed
    isplitl [Hc]; · iexact Hc
    isplitl [Hs]; · iexact Hs
    iexact Hh
  iexact HO

include hx hx' in
theorem part1_spec (t : Fin grid0.N) :
    iprop(owns (c : Thread nD τ) arg2 fullShare x ∗ owns (c : Thread nD τ) arg3 fullShare x' ∗ owns (c : Thread nD τ) arg5 fullShare nv
      ∗ found c t.val h x ∗ idle c (sl (t.val + 1)) h ∗ (∃ W, owes (c : Thread nD τ) 0 W))
      ⊢ wp frame (wpE (defs₀ (F := F)) Variants.none (c : Thread nD τ) none) Set.univ
        (k0_part1 (F := F) (grid0.coords t) arg1 harg1 arg2 harg2 arg3 harg3 (Memref.whole main_arg2) harg4 arg5 harg5 arg6 harg6 arg7 harg7 arg8 harg8
          arg9 harg9 arg10 harg10 (Memref.whole cc0_scratch0) harg11 cc0_scratch1)
        (fun r => iprop(owns (c : Thread nD τ) arg3 fullShare x' ∗ found c (t.val + 1) h x' ∗ part1Post c arg2 arg5 h x nv t r)) := by
  rw [k0_part1_eq_skeleton]
  unfold k0_part1_skel
  simp only [Prog.lift, Prog.bind_op, Prog.bind_ret, Prog.pure_eq_ret, Prog.bind_assoc]
  have hN : t.val < 544 := lt_of_lt_of_eq t.isLt N_0
  by_cases h0 : t.val = 0
  · have h1 : k0_cond1 (grid0.coords t) = 1#1 := (cond1_iff t).mpr h0
    have h2 : k0_cond2 (grid0.coords t) = 1#1 := (cond2_iff t).mpr (by omega)
    simp only [dif_pos h1, dif_pos h2]
    unfold found
    rw [if_neg (show ¬ (0 < t.val ∧ t.val < 544) by omega), if_pos (show 0 < t.val + 1 ∧ t.val + 1 < 544 by omega)]
    rw [show sl t.val = 0 by rw [h0]; rfl]
    iintro ⟨Hx, Hx', Hn, HI, HJ, HO⟩
    iapply (loop1 c arg1 harg1 arg2 harg2 arg3 harg3 harg4 arg5 harg5 arg6 harg6 arg7 harg7 arg8 harg8 arg9 harg9 arg10 harg10 harg11 h x hx t h1 _ _) $$ [Hx HI]
    · isplitl [Hx]; · iexact Hx
      iexact HI
    iintro ⟨Hx, HF⟩
    iapply (loop2 c arg1 harg1 arg2 harg2 arg3 harg3 harg4 arg5 harg5 arg6 harg6 arg7 harg7 arg8 harg8 arg9 harg9 arg10 harg10 harg11 h x' hx' t h2 _ _) $$ [Hx' HJ]
    · isplitl [Hx']; · iexact Hx'
      iexact HJ
    iintro ⟨Hx', HG⟩
    iapply (tail3 c arg1 harg1 arg2 harg2 arg3 harg3 harg4 arg5 harg5 arg6 harg6 arg7 harg7 arg8 harg8 arg9 harg9 arg10 harg10 harg11 h x hx nv t _) $$ [Hx Hn HF HO]
    · isplitl [Hx]; · iexact Hx
      isplitl [Hn]; · iexact Hn
      isplitl [HF]; · rw [show sl t.val = 0 by rw [h0]; rfl]; iexact HF
      iexact HO
    iintro %r Hr
    isplitl [Hx']; · iexact Hx'
    isplitl [HG]; · iexact HG
    iexact Hr
  · have h1 : ¬ k0_cond1 (grid0.coords t) = 1#1 := fun e => h0 ((cond1_iff t).mp e)
    by_cases hl : t.val + 1 < 544
    · have h2 : k0_cond2 (grid0.coords t) = 1#1 := (cond2_iff t).mpr hl
      simp only [dif_neg h1, dif_pos h2]
      unfold found
      rw [if_pos (show 0 < t.val ∧ t.val < 544 by omega), if_pos (show 0 < t.val + 1 ∧ t.val + 1 < 544 by omega)]
      iintro ⟨Hx, Hx', Hn, HF, HJ, HO⟩
      iapply (loop2 c arg1 harg1 arg2 harg2 arg3 harg3 harg4 arg5 harg5 arg6 harg6 arg7 harg7 arg8 harg8 arg9 harg9 arg10 harg10 harg11 h x' hx' t h2 _ _) $$ [Hx' HJ]
      · isplitl [Hx']; · iexact Hx'
        iexact HJ
      iintro ⟨Hx', HG⟩
      iapply (tail3 c arg1 harg1 arg2 harg2 arg3 harg3 harg4 arg5 harg5 arg6 harg6 arg7 harg7 arg8 harg8 arg9 harg9 arg10 harg10 harg11 h x hx nv t _) $$ [Hx Hn HF HO]
      · isplitl [Hx]; · iexact Hx
        isplitl [Hn]; · iexact Hn
        isplitl [HF]; · iexact HF
        iexact HO
      iintro %r Hr
      isplitl [Hx']; · iexact Hx'
      isplitl [HG]; · iexact HG
      iexact Hr
    · have h2 : ¬ k0_cond2 (grid0.coords t) = 1#1 := fun e => hl ((cond2_iff t).mp e)
      simp only [dif_neg h1, dif_neg h2]
      unfold found
      rw [if_pos (show 0 < t.val ∧ t.val < 544 by omega), if_neg (show ¬ (0 < t.val + 1 ∧ t.val + 1 < 544) by omega)]
      iintro ⟨Hx, Hx', Hn, HF, HJ, HO⟩
      iapply (tail3 c arg1 harg1 arg2 harg2 arg3 harg3 harg4 arg5 harg5 arg6 harg6 arg7 harg7 arg8 harg8 arg9 harg9 arg10 harg10 harg11 h x hx nv t _) $$ [Hx Hn HF HO]
      · isplitl [Hx]; · iexact Hx
        isplitl [Hn]; · iexact Hn
        isplitl [HF]; · iexact HF
        iexact HO
      iintro %r Hr
      isplitl [Hx']; · iexact Hx'
      isplitl [HJ]; · iexact HJ
      iexact Hr

include hx hx' in
theorem body_spec (t : Fin grid0.N) :
    iprop(winsAt c arg2 arg3 arg5 arg6 arg7 arg8 arg9 arg10 x x' nv wg bg wd bd d ∗ found c t.val h x ∗ idle c (sl (t.val + 1)) h ∗ (∃ W, owes (c : Thread nD τ) 0 W))
      ⊢ wp frame (wpE (defs₀ (F := F)) Variants.none (c : Thread nD τ) none) Set.univ
        (cc0_moe (F := F) (grid0.coords t) arg1 harg1 arg2 harg2 arg3 harg3 (Memref.whole main_arg2) harg4 arg5 harg5 arg6 harg6 arg7 harg7 arg8 harg8
          arg9 harg9 arg10 harg10 (Memref.whole cc0_scratch0) harg11 cc0_scratch1)
        (fun _ => iprop(winsAt c arg2 arg3 arg5 arg6 arg7 arg8 arg9 arg10 x x' nv wg bg wd bd (kval (slotOf (X h x) (sl t.val)) nv wg bg wd bd)
          ∗ found c (t.val + 1) h x' ∗ idle c (sl t.val) h ∗ (∃ W, owes (c : Thread nD τ) 0 W))) := by
  rw [cc0_moe_eq_skeleton]
  unfold cc0_moe_skel
  rw [k0_part2_eq_skeleton]
  unfold k0_part2_skel
  simp only [Prog.lift, Prog.bind_op, Prog.bind_ret, Prog.pure_eq_ret, Prog.bind_assoc]
  rw [Idealize.SL.Sem.wp_bind]
  unfold winsAt
  iintro ⟨⟨Hx, Hx', Hn, Hwg, Hbg, Hwd, Hbd, Hd⟩, HF, HJ, HO⟩
  iapply (wp_wand_r frame (wpE (defs₀ (F := F)) Variants.none (c : Thread nD τ) none) Set.univ)
  isplitl [Hx Hx' Hn HF HJ HO]
  · iapply (part1_spec c arg1 harg1 arg2 harg2 arg3 harg3 harg4 arg5 harg5 arg6 harg6 arg7 harg7 arg8 harg8 arg9 harg9 arg10 harg10 harg11 h x x' hx hx' nv t)
    isplitl [Hx]; · iexact Hx
    isplitl [Hx']; · iexact Hx'
    isplitl [Hn]; · iexact Hn
    isplitl [HF]; · iexact HF
    isplitl [HJ]; · iexact HJ
    iexact HO
  unfold part1Post
  iintro %r ⟨Hx', HG, %hr, Hx, Hn, HI, HO⟩
  subst hr
  iapply (wp_block c arg6 wg (by decide) _ _ _) $$ Hwg
  iintro Hwg
  iapply (wp_block c arg7 bg (by decide) _ _ _) $$ Hbg
  iintro Hbg
  iapply (wp_block c arg8 wd (by decide) _ _ _) $$ Hwd
  iintro Hwd
  iapply (wp_block c arg9 bd (by decide) _ _ _) $$ Hbd
  iintro Hbd
  iapply (wp_block c arg10 d (by decide) _ _ _) $$ Hd
  iintro Hd
  iapply (wp_put c arg10 d _ (by decide) _ _ _) $$ Hd
  iintro Hd
  rw [Idealize.SL.Sem.wp_ret]
  imodintro
  isplitl [Hx Hx' Hn Hwg Hbg Hwd Hbd Hd]
  · isplitl [Hx]; · iexact Hx
    isplitl [Hx']; · iexact Hx'
    isplitl [Hn]; · iexact Hn
    isplitl [Hwg]; · iexact Hwg
    isplitl [Hbg]; · iexact Hbg
    isplitl [Hwd]; · iexact Hwd
    isplitl [Hbd]; · iexact Hbd
    unfold kval; iexact Hd
  isplitl [HG]; · iexact HG
  isplitl [HI]; · iexact HI
  iexact HO

end Body

end Cert.Kernel2Ideal.Run

end
-- ==== Proof.MoeIFrame.lean ====
module

public import proofs.«01_k».proof.Proof.MoeIBody
public import Idealize.ShloMosaic.Lib.Pipeline.Frame
public import Idealize.ShloMosaic.Lib.Claim

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg) (a : (pcfg0 (F := F)).Adm)

/-! ## The arrays as the launch finds them -/

/-- Buffer `b` after the operations before the launch. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor
theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

/-- A buffer no operation before the launch writes is found as it was. -/
theorem V_kept (c : Dev nD) (b : Ref sig .tc) (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  V_kept m c _ (by
    simp only [hostOps0, List.Forall, StableHlo.nullary_writes, StableHlo.unary_writes, StableHlo.binary_writes, StableHlo.reshape_writes, Finset.mem_singleton]
    repeat' apply And.intro
    all_goals exact StableHlo.devRef_ne_of_ne (by decide))
theorem V_main_arg1 (c : Dev nD) : V m c main_arg1 = m ((c : Thread nD τ).loc main_arg1) :=
  V_kept m c _ (by
    simp only [hostOps0, List.Forall, StableHlo.nullary_writes, StableHlo.unary_writes, StableHlo.binary_writes, StableHlo.reshape_writes, Finset.mem_singleton]
    repeat' apply And.intro
    all_goals exact StableHlo.devRef_ne_of_ne (by decide))
theorem V_main_arg2 (c : Dev nD) : V m c main_arg2 = m ((c : Thread nD τ).loc main_arg2) :=
  V_kept m c _ (by
    simp only [hostOps0, List.Forall, StableHlo.nullary_writes, StableHlo.unary_writes, StableHlo.binary_writes, StableHlo.reshape_writes, Finset.mem_singleton]
    repeat' apply And.intro
    all_goals exact StableHlo.devRef_ne_of_ne (by decide))
theorem V_main_arg3 (c : Dev nD) : V m c main_arg3 = m ((c : Thread nD τ).loc main_arg3) :=
  V_kept m c _ (by
    simp only [hostOps0, List.Forall, StableHlo.nullary_writes, StableHlo.unary_writes, StableHlo.binary_writes, StableHlo.reshape_writes, Finset.mem_singleton]
    repeat' apply And.intro
    all_goals exact StableHlo.devRef_ne_of_ne (by decide))
theorem V_main_arg4 (c : Dev nD) : V m c main_arg4 = m ((c : Thread nD τ).loc main_arg4) :=
  V_kept m c _ (by
    simp only [hostOps0, List.Forall, StableHlo.nullary_writes, StableHlo.unary_writes, StableHlo.binary_writes, StableHlo.reshape_writes, Finset.mem_singleton]
    repeat' apply And.intro
    all_goals exact StableHlo.devRef_ne_of_ne (by decide))
theorem V_main_arg5 (c : Dev nD) : V m c main_arg5 = m ((c : Thread nD τ).loc main_arg5) :=
  V_kept m c _ (by
    simp only [hostOps0, List.Forall, StableHlo.nullary_writes, StableHlo.unary_writes, StableHlo.binary_writes, StableHlo.reshape_writes, Finset.mem_singleton]
    repeat' apply And.intro
    all_goals exact StableHlo.devRef_ne_of_ne (by decide))
theorem V_main_arg6 (c : Dev nD) : V m c main_arg6 = m ((c : Thread nD τ).loc main_arg6) :=
  V_kept m c _ (by
    simp only [hostOps0, List.Forall, StableHlo.nullary_writes, StableHlo.unary_writes, StableHlo.binary_writes, StableHlo.reshape_writes, Finset.mem_singleton]
    repeat' apply And.intro
    all_goals exact StableHlo.devRef_ne_of_ne (by decide))
theorem V_main_arg7 (c : Dev nD) : V m c main_arg7 = m ((c : Thread nD τ).loc main_arg7) :=
  V_kept m c _ (by
    simp only [hostOps0, List.Forall, StableHlo.nullary_writes, StableHlo.unary_writes, StableHlo.binary_writes, StableHlo.reshape_writes, Finset.mem_singleton]
    repeat' apply And.intro
    all_goals exact StableHlo.devRef_ne_of_ne (by decide))

/-! ## The table of experts: in range, every block is inside its array -/

theorem ex3 : ∀ n : Fin 32, ∃ h : (∀ a, ((![n.val, 0, 0] : Fin 3 → Nat) a + 1) * S1x1024x2048.size a ≤ S32x1024x2048.size a),
    EltTy.bits .bf16 = 32 ∨ (Rect.block (s := S32x1024x2048) S1x1024x2048.size ![n.val, 0, 0] h).WholeWords (EltTy.packing .bf16) := by decide +kernel
theorem ex4 : ∀ n : Fin 32, ∃ h : (∀ a, ((![n.val, 0, 0] : Fin 3 → Nat) a + 1) * S1x1x2048.size a ≤ S32x1x2048.size a),
    EltTy.bits .f32 = 32 ∨ (Rect.block (s := S32x1x2048) S1x1x2048.size ![n.val, 0, 0] h).WholeWords (EltTy.packing .f32) := by decide +kernel
theorem ex5 : ∀ n : Fin 32, ∃ h : (∀ a, ((![n.val, 0, 0] : Fin 3 → Nat) a + 1) * S1x1024x1024.size a ≤ S32x1024x1024.size a),
    EltTy.bits .bf16 = 32 ∨ (Rect.block (s := S32x1024x1024) S1x1024x1024.size ![n.val, 0, 0] h).WholeWords (EltTy.packing .bf16) := by decide +kernel
theorem ex6 : ∀ n : Fin 32, ∃ h : (∀ a, ((![n.val, 0, 0] : Fin 3 → Nat) a + 1) * S1x1x1024.size a ≤ S32x1x1024.size a),
    EltTy.bits .f32 = 32 ∨ (Rect.block (s := S32x1x1024) S1x1x1024.size ![n.val, 0, 0] h).WholeWords (EltTy.packing .f32) := by decide +kernel

theorem ok_of (pf : pre0.Contents (Elt F)) (hb : ∀ y : S544.Idx, BitVec.toNat (w := 32) (pf 0 y) < 32) : ok0 pf :=
  ⟨fun i => ex3 ⟨_, hb _⟩, fun i => ex4 ⟨_, hb _⟩, fun i => ex5 ⟨_, hb _⟩, fun i => ex6 ⟨_, hb _⟩⟩

/-- The tables as launched (one device). -/
def tbl : pre0.Contents (Elt F) := fun k => V m 0 (pre0.ref k)

/-! ## What each window holds -/

/-- Window `w`'s block at point `t`. -/
def iblk (c : Dev nD) (w : Fin 8) (t : Fin (cfg0 a).N) : ((((cfg0 a)).win w).xblock ((cfg0 a).grid.coords t)).Idx → Elt F ((cfg0 a).win w).elt :=
  (((cfg0 a).win w).blk t).view.read (Elt F) (V m c (Pipeline.arrRef spec0 w))

/-- The token numbers of block `n`. -/
def tb (w : S544x1x256.Idx → BitVec 32) (n : ℕ) : S1x1x256.Idx → BitVec 32 := fun y => w (ix3 ⟨n % 544, Nat.mod_lt _ (by decide)⟩ 0 (y 2))

theorem idx0 : ∀ t : Fin grid0.N, cc0_transform_0 (grid0.coords t) = ![t.val, 0, 0] := by decide +kernel
theorem idx1 : ∀ t : Fin grid0.N, cc0_transform_1 (grid0.coords t) = ![min (t.val + 1) 543, 0, 0] := by decide +kernel

theorem row_emb {o : Fin 3 → Nat} {n : Fin 544} (e : o = ![n.val, 0, 0]) (h) (y : S1x1x256.Idx) :
    (Rect.block (s := S544x1x256) S1x1x256.size o h).emb y = (ix3 n 0 (y 2) : S544x1x256.Idx) := by
  subst e
  have h0 : (y 0).val = 0 := by have := (y 0).isLt; change (y 0).val < 1 at this; omega
  have h1 : (y 1).val = 0 := by have := (y 1).isLt; change (y 1).val < 1 at this; omega
  funext b
  fin_cases b
  · exact Fin.ext (by show n.val * 1 + 1 * (y 0).val = n.val; omega)
  · exact Fin.ext (by show 0 * 1 + 1 * (y 1).val = 0; omega)
  · exact Fin.ext (by show 0 * 256 + 1 * (y 2).val = (y 2).val; omega)

theorem iblk_0 (c : Dev nD) (t : Fin grid0.N) : iblk m a c 0 t = tb (V m c main_arg1) t.val := by
  have ht : t.val < 544 := t.isLt
  funext y
  show V m c main_arg1 ((Rect.block (s := S544x1x256) S1x1x256.size (cc0_transform_0 (grid0.coords t)) (hinb0_0 (grid0.coords t))).emb y) = _
  rw [row_emb (n := ⟨t.val, ht⟩) (idx0 t)]
  unfold tb
  congr 2
  exact Fin.ext (Nat.mod_eq_of_lt ht).symm
theorem iblk_1 (c : Dev nD) (t : Fin grid0.N) (h : t.val + 1 < 544) : iblk m a c 1 t = tb (V m c main_arg1) (t.val + 1) := by
  funext y
  show V m c main_arg1 ((Rect.block (s := S544x1x256) S1x1x256.size (cc0_transform_1 (grid0.coords t)) (hinb0_1 (grid0.coords t))).emb y) = _
  rw [row_emb (n := ⟨t.val + 1, h⟩) ((idx1 t).trans (by rw [Nat.min_eq_left (by omega)]))]
  unfold tb
  congr 2
  exact Fin.ext (Nat.mod_eq_of_lt h).symm

/-- The result's block. -/
def out (c : Dev nD) (t : Fin grid0.N) : S256x1024.Idx → Elt F .f32 :=
  kval (slotOf (X (V m c main_arg2) (tb (V m c main_arg1) t.val)) (sl t.val)) (iblk m a c 2 t) (iblk m a c 3 t) (iblk m a c 4 t) (iblk m a c 5 t) (iblk m a c 6 t)

/-- Between points: the tables, and the two slots. -/
def Φs (c : Dev nD) (n : ℕ) : sProp 𝕄 :=
  iprop((∃ r, prngReg c r) ∗ Pipeline.ΦT pre0 a.1 c ∗ (ℓh c ↦{Transfers.shareDrop fullShare 2} (V m c main_arg2))
    ∗ found c n (V m c main_arg2) (tb (V m c main_arg1) n) ∗ idle c (sl (n + 1)) (V m c main_arg2))

/-- The proof data of the pipeline. -/
def dats (_ : Fin 1) (c : Dev nD) : Dat τ (Elt F) Unit ℕ (Pipeline.UD sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => iblk m a c 5 t
    | ⟨6, _⟩ => iblk m a c 6 t
    | ⟨7, _⟩ => out m a c t
    | ⟨_ + 8, h⟩ => absurd h (Nat.not_lt.2 (Nat.le_add_left _ _))
  Φ t := Φs m a c t.val
  q w := Pipeline.shareOf spec0 w
  owed _ := 0

theorem A_eq (c : Dev nD) (w : Fin (cfg0 a).W) : (dats m a 0 c).A w = V m c (Pipeline.arrRef spec0 w) := by dsimp only [dats]
theorem after0_0 (c : Dev nD) (t : Fin (cfg0 a).N) : (dats m a 0 c).after 0 t = iblk m a c 0 t := by dsimp only [dats]; rfl
theorem after0_1 (c : Dev nD) (t : Fin (cfg0 a).N) : (dats m a 0 c).after 1 t = iblk m a c 1 t := by dsimp only [dats]; rfl
theorem after0_2 (c : Dev nD) (t : Fin (cfg0 a).N) : (dats m a 0 c).after 2 t = iblk m a c 2 t := by dsimp only [dats]; rfl
theorem after0_3 (c : Dev nD) (t : Fin (cfg0 a).N) : (dats m a 0 c).after 3 t = iblk m a c 3 t := by dsimp only [dats]; rfl
theorem after0_4 (c : Dev nD) (t : Fin (cfg0 a).N) : (dats m a 0 c).after 4 t = iblk m a c 4 t := by dsimp only [dats]; rfl
theorem after0_5 (c : Dev nD) (t : Fin (cfg0 a).N) : (dats m a 0 c).after 5 t = iblk m a c 5 t := by dsimp only [dats]; rfl
theorem after0_6 (c : Dev nD) (t : Fin (cfg0 a).N) : (dats m a 0 c).after 6 t = iblk m a c 6 t := by dsimp only [dats]; rfl
theorem after0_7 (c : Dev nD) (t : Fin (cfg0 a).N) : (dats m a 0 c).after 7 t = out m a c t := by dsimp only [dats]; rfl

theorem before0_0 (c : Dev nD) (t : Fin (cfg0 a).N) (d) : (dats m a 0 c).before 0 t d = iblk m a c 0 t :=
  ((dats m a 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dats m a 0 c).before 1 t d = iblk m a c 1 t :=
  ((dats m a 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dats m a 0 c).before 2 t d = iblk m a c 2 t :=
  ((dats m a 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 a).N) (d) : (dats m a 0 c).before 3 t d = iblk m a c 3 t :=
  ((dats m a 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 a).N) (d) : (dats m a 0 c).before 4 t d = iblk m a c 4 t :=
  ((dats m a 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 a).N) (d) : (dats m a 0 c).before 5 t d = iblk m a c 5 t :=
  ((dats m a 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfg0 a).N) (d) : (dats m a 0 c).before 6 t d = iblk m a c 6 t :=
  ((dats m a 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body's obligation -/

abbrev ms0_0 (t : Fin (cfg0 a).N) := spec0_0.stage ((cfg0 a).slots t 0)
abbrev ms0_1 (t : Fin (cfg0 a).N) := spec0_1.stage ((cfg0 a).slots t 1)
abbrev ms0_2 (t : Fin (cfg0 a).N) := spec0_2.stage ((cfg0 a).slots t 2)
abbrev ms0_3 (t : Fin (cfg0 a).N) := spec0_3.stage ((cfg0 a).slots t 3)
abbrev ms0_4 (t : Fin (cfg0 a).N) := spec0_4.stage ((cfg0 a).slots t 4)
abbrev ms0_5 (t : Fin (cfg0 a).N) := spec0_5.stage ((cfg0 a).slots t 5)
abbrev ms0_6 (t : Fin (cfg0 a).N) := spec0_6.stage ((cfg0 a).slots t 6)
abbrev ms0_7 (t : Fin (cfg0 a).N) := spec0_7.stage ((cfg0 a).slots t 7)

/-- The body at point `t`. -/
abbrev bodyAt0 (t : Fin (cfg0 a).N) : Prog (TpuEff nD τ sig (Elt F) Λ₀ .tc) PUnit :=
  cc0_moe (grid0.coords t) (Memref.whole main_arg0) (Memref.isWhole_whole _) (ms0_0 a t) (hstage0_0 (((cfg0 a).slots t 0).cast nbuf0_0)) (ms0_1 a t) (hstage0_1 (((cfg0 a).slots t 1).cast nbuf0_1)) (Memref.whole main_arg2) (Memref.isWhole_whole _) (ms0_2 a t) (hstage0_2 (((cfg0 a).slots t 2).cast nbuf0_2)) (ms0_3 a t) (hstage0_3 (((cfg0 a).slots t 3).cast nbuf0_3)) (ms0_4 a t) (hstage0_4 (((cfg0 a).slots t 4).cast nbuf0_4)) (ms0_5 a t) (hstage0_5 (((cfg0 a).slots t 5).cast nbuf0_5)) (ms0_6 a t) (hstage0_6 (((cfg0 a).slots t 6).cast nbuf0_6)) (ms0_7 a t) (hstage0_7 (((cfg0 a).slots t 7).cast nbuf0_7)) (Memref.whole cc0_scratch0) (Memref.isWhole_whole _) cc0_scratch1

/-- What the body is called with at a point, and what it returns. -/
def bodyPre (c : Dev nD) (t : Fin (cfg0 a).N) : sProp 𝕄 :=
  iprop((dats m a 0 c).Φ t.castSucc ∗ (dats m a 0 c).owesAt () t.castSucc ∗ (∃ d, owns (c : Thread nD τ) (ms0_0 a t) fullShare ((dats m a 0 c).before 0 t d)) ∗ (∃ d, owns (c : Thread nD τ) (ms0_1 a t) fullShare ((dats m a 0 c).before 1 t d)) ∗ (∃ d, owns (c : Thread nD τ) (ms0_2 a t) fullShare ((dats m a 0 c).before 2 t d)) ∗ (∃ d, owns (c : Thread nD τ) (ms0_3 a t) fullShare ((dats m a 0 c).before 3 t d)) ∗ (∃ d, owns (c : Thread nD τ) (ms0_4 a t) fullShare ((dats m a 0 c).before 4 t d)) ∗ (∃ d, owns (c : Thread nD τ) (ms0_5 a t) fullShare ((dats m a 0 c).before 5 t d)) ∗ (∃ d, owns (c : Thread nD τ) (ms0_6 a t) fullShare ((dats m a 0 c).before 6 t d)) ∗ (∃ d, owns (c : Thread nD τ) (ms0_7 a t) fullShare ((dats m a 0 c).before 7 t d)))
def bodyPost (c : Dev nD) (t : Fin (cfg0 a).N) : sProp 𝕄 :=
  iprop((dats m a 0 c).Φ t.succ ∗ (dats m a 0 c).owesAt () t.succ ∗ owns (c : Thread nD τ) (ms0_0 a t) fullShare ((dats m a 0 c).after 0 t) ∗ owns (c : Thread nD τ) (ms0_1 a t) fullShare ((dats m a 0 c).after 1 t) ∗ owns (c : Thread nD τ) (ms0_2 a t) fullShare ((dats m a 0 c).after 2 t) ∗ owns (c : Thread nD τ) (ms0_3 a t) fullShare ((dats m a 0 c).after 3 t) ∗ owns (c : Thread nD τ) (ms0_4 a t) fullShare ((dats m a 0 c).after 4 t) ∗ owns (c : Thread nD τ) (ms0_5 a t) fullShare ((dats m a 0 c).after 5 t) ∗ owns (c : Thread nD τ) (ms0_6 a t) fullShare ((dats m a 0 c).after 6 t) ∗ owns (c : Thread nD τ) (ms0_7 a t) fullShare ((dats m a 0 c).after 7 t))

/-- What the next point finds does not depend on the numbers after the last block. -/
theorem found_next (c : Dev nD) (t : Fin grid0.N) (h : Buf (Elt F) (ℓh c)) : found c (t.val + 1) h (iblk m a c 1 t) ⊢ found c (t.val + 1) h (tb (V m c main_arg1) (t.val + 1)) := by
  by_cases hl : t.val + 1 < 544
  · rw [iblk_1 m a c t hl]
  · unfold found
    rw [if_neg (by omega), if_neg (by omega)]

theorem sl_two (n : ℕ) : sl (n + 1 + 1) = sl n := Fin.ext (by show (n + 1 + 1) % 2 = n % 2; omega)

theorem tb_lt (w : S544x1x256.Idx → BitVec 32) (hw : ∀ y, (w y).toNat < 32768) (n : ℕ) (y : S1x1x256.Idx) : (tb w n y).toNat < 32768 := hw _
theorem iblk_1_lt (c : Dev nD) (t : Fin grid0.N) (hw : ∀ y : S544x1x256.Idx, BitVec.toNat (w := 32) (V m c main_arg1 y) < 32768) (y : S1x1x256.Idx) :
    BitVec.toNat (w := 32) (iblk m a c 1 t y) < 32768 := hw _

set_option maxHeartbeats 2000000 in
/-- The body at any point. -/
theorem sound_body (c : Dev nD) (hw : ∀ y : S544x1x256.Idx, BitVec.toNat (w := 32) (V m c main_arg1 y) < 32768) (t : Fin (cfg0 a).N) :
    bodyPre m a c t ⊢ wp frame (wpE (defs₀ (F := F)) Variants.none (c : Thread nD τ) none) Set.univ (bodyAt0 a t) (fun _ => bodyPost m a c t) := by
  unfold bodyPre bodyPost
  simp only [before0_0, before0_1, before0_2, before0_3, before0_4, before0_5, before0_6]
  unfold Dat.owesAt Pipeline.owesWithin
  rw [show (dats m a 0 c).owed t.castSucc = 0 from rfl, show (dats m a 0 c).owed t.succ = 0 from rfl,
    show (dats m a 0 c).Φ t.castSucc = Φs m a c t.val from rfl, show (dats m a 0 c).Φ t.succ = Φs m a c (t.val + 1) from rfl,
    after0_0, after0_1, after0_2, after0_3, after0_4, after0_5, after0_6, after0_7]
  unfold Φs
  iintro ⟨⟨Hg, HT, Hh, HF, HJ⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r frame (wpE (defs₀ (F := F)) Variants.none (c : Thread nD τ) none) Set.univ)
  isplitl [HF HJ HW H0 H1 H2 H3 H4 H5 H6 H7]
  · iapply (body_spec c (Memref.whole main_arg0) (Memref.isWhole_whole _) (ms0_0 a t) (hstage0_0 (((cfg0 a).slots t 0).cast nbuf0_0)) (ms0_1 a t) (hstage0_1 (((cfg0 a).slots t 1).cast nbuf0_1)) (Memref.isWhole_whole _) (ms0_2 a t) (hstage0_2 (((cfg0 a).slots t 2).cast nbuf0_2)) (ms0_3 a t) (hstage0_3 (((cfg0 a).slots t 3).cast nbuf0_3)) (ms0_4 a t) (hstage0_4 (((cfg0 a).slots t 4).cast nbuf0_4)) (ms0_5 a t) (hstage0_5 (((cfg0 a).slots t 5).cast nbuf0_5)) (ms0_6 a t) (hstage0_6 (((cfg0 a).slots t 6).cast nbuf0_6)) (ms0_7 a t) (hstage0_7 (((cfg0 a).slots t 7).cast nbuf0_7)) (Memref.isWhole_whole _)
      (V m c main_arg2) (tb (V m c main_arg1) t.val) (iblk m a c 1 t) (tb_lt _ hw t.val) (iblk_1_lt m a c t hw)
      (iblk m a c 2 t) (iblk m a c 3 t) (iblk m a c 4 t) (iblk m a c 5 t) (iblk m a c 6 t) ((dats m a 0 c).before 7 t d7) t)
    isplitl [H0 H1 H2 H3 H4 H5 H6 H7]
    · unfold winsAt
      isplitl [H0]; · rw [← iblk_0 m a c t]; iexact H0
      isplitl [H1]; · iexact H1
      isplitl [H2]; · iexact H2
      isplitl [H3]; · iexact H3
      isplitl [H4]; · iexact H4
      isplitl [H5]; · iexact H5
      isplitl [H6]; · iexact H6
      iexact H7
    isplitl [HF]; · iexact HF
    isplitl [HJ]; · iexact HJ
    iexists W; iexact HW
  unfold winsAt
  iintro %_ ⟨⟨H0, H1, H2, H3, H4, H5, H6, H7⟩, HF, HJ, ⟨%W', HW⟩⟩
  isplitl [Hg HT Hh HF HJ]
  · isplitl [Hg]; · iexact Hg
    isplitl [HT]; · iexact HT
    isplitl [Hh]; · iexact Hh
    isplitl [HF]; · iapply (found_next m a c t (V m c main_arg2)); iexact HF
    rw [sl_two]; iexact HJ
  isplitl [HW]
  · iexists W'; isplitr
    · ipureintro; exact fun _ _ => Or.inl trivial
    iexact HW
  isplitl [H0]; · rw [iblk_0 m a c t]; iexact H0
  isplitl [H1]; · iexact H1
  isplitl [H2]; · iexact H2
  isplitl [H3]; · iexact H3
  isplitl [H4]; · iexact H4
  isplitl [H5]; · iexact H5
  isplitl [H6]; · iexact H6
  unfold out; iexact H7

theorem defs₀_row (t : Fin (cfg0 a).N) :
    defs₀ (F := F) .tc (cfg0 a).body ((cfg0 a).bodyArgs t ((cfg0 a).slots t)) = bodyAt0 a t := by
  unfold defs₀; rw [Defs.onTc_tc]

set_option maxHeartbeats 2000000 in
/-- The library's body obligation, at every point. -/
theorem body_obligation (c : Dev nD) (hw : ∀ y : S544x1x256.Idx, BitVec.toNat (w := 32) (V m c main_arg1 y) < 32768) :
    BodyObligation (dats (F := F) m a 0 c) (defs₀ (F := F)) Variants.none () Set.univ := fun t => by
  rw [bigSep_W0, bigSep_W0, defs₀_row]
  exact triple_restated (sound_body m a c hw t) rfl .rfl fun _ => .rfl

/-! ## The launch -/

/-- The kernel's own semaphores: one a slot. -/
def osem0 (s : Fin 2) : SemLoc sig := SemLoc.dma (cell s)
theorem ownSemFacts0 : Pipeline.OwnSemFacts spec0 osem0 := by decide
/-- The array the copies read. -/
def H0 : Finset (Ref sig .tc) := {main_arg2}
theorem H0_sub : H0 ⊆ Pipeline.restRefsP sig pre0 spec0 := by decide

theorem two (Φ : Fin 2 → sProp 𝕄) : bigSep Finset.univ Φ = iprop(Φ 0 ∗ Φ 1) := by
  rw [bigSep_univ_eq_bigSepL [0, 1] (by decide) (by decide)]; rfl

/-- Both slots idle, from the scratch buffer, its semaphores and the array. -/
theorem slots_open (c : Dev nD) (h : Buf (Elt F) (ℓh c)) :
    iprop((∃ f, ℓx c ↦{fullShare} f) ∗ bigSep Finset.univ (fun s => semVal ((c : Thread nD τ), SemLoc.dma (cell s)) 0) ∗ (ℓh c ↦{fullShare} h))
      ⊢ (iprop((ℓh c ↦{Transfers.shareDrop fullShare 2} h) ∗ idle c 0 h ∗ idle c 1 h) : sProp 𝕄) := by
  rw [two]
  unfold idle
  iintro ⟨⟨%f, Hx⟩, ⟨S0, S1⟩, Hh⟩
  ihave Hx := (Entails.of_eq (Ring.pointsTo_blocks (fun s => (slotSet s : Finset (Idx (ℓx c)))) slots_disjoint slots_cover f)) $$ Hx
  ihave Hx := (Entails.of_eq (two _)) $$ Hx
  ihave Hh := (Transfers.pointsTo_toks_split fullShare 2) $$ Hh
  icases Hh with ⟨Hd, HQ⟩
  ihave HQ := (Entails.of_eq (two _)) $$ HQ
  icases Hx with ⟨X0, X1⟩
  icases HQ with ⟨Q0, Q1⟩
  isplitl [Hd]; · iexact Hd
  isplitl [S0 X0 Q0]
  · isplitl [S0]; · iexact S0
    isplitl [X0]; · iexists f; iexact X0
    iexact Q0
  isplitl [S1]; · iexact S1
  isplitl [X1]; · iexists f; iexact X1
  iexact Q1

/-- and back. -/
theorem slots_close (c : Dev nD) (h : Buf (Elt F) (ℓh c)) :
    (iprop((ℓh c ↦{Transfers.shareDrop fullShare 2} h) ∗ idle c 0 h ∗ idle c 1 h) : sProp 𝕄)
      ⊢ iprop((∃ f, ℓx c ↦{fullShare} f) ∗ bigSep Finset.univ (fun s => semVal ((c : Thread nD τ), SemLoc.dma (cell s)) 0) ∗ (ℓh c ↦{fullShare} h)) := by
  rw [two]
  unfold idle
  iintro ⟨Hd, ⟨S0, ⟨%f0, X0⟩, Q0⟩, S1, ⟨%f1, X1⟩, Q1⟩
  isplitl [X0 X1]
  · iapply (Ring.pointsTo_blocks_join_exists (fun s => (slotSet s : Finset (Idx (ℓx c)))) slots_disjoint slots_cover f0)
    iapply (Entails.of_eq (two _).symm)
    isplitl [X0]; · iexists f0; iexact X0
    iexists f1; iexact X1
  isplitl [S0 S1]
  · isplitl [S0]; · iexact S0
    iexact S1
  iapply (Transfers.pointsTo_toks_join fullShare 2)
  isplitl [Hd]; · iexact Hd
  iapply (Entails.of_eq (two _).symm)
  isplitl [Q0]; · iexact Q0
  iexact Q1

theorem phi_in (c : Dev nD) : iprop(Pipeline.ΦD osem0 spec0 H0 (V m) c ∗ Pipeline.ΦT pre0 a.1 c) ⊢ (Φs m a c 0 : sProp 𝕄) := by
  rw [Pipeline.ΦD_eq, scopedRest0_eq]
  unfold Pipeline.ownSems0 H0 osem0 Φs found
  rw [bigSep_singleton, if_neg (by decide)]
  iintro ⟨⟨Hx, Hg, HS, Hh⟩, HT⟩
  isplitl [Hg]; · iexact Hg
  isplitl [HT]; · iexact HT
  iapply (slots_open c (V m c main_arg2))
  isplitl [Hx]; · iexact Hx
  isplitl [HS]; · iexact HS
  iexact Hh

theorem phi_out (c : Dev nD) : (Φs m a c 544 : sProp 𝕄) ⊢ Pipeline.ΦD osem0 spec0 H0 (V m) c := by
  rw [Pipeline.ΦD_eq, scopedRest0_eq]
  unfold Pipeline.ownSems0 H0 osem0 Φs found
  rw [bigSep_singleton, if_neg (by decide)]
  iintro ⟨Hg, -, Hh, I0, I1⟩
  ihave HH := (slots_close c (V m c main_arg2)) $$ [Hh I0 I1]
  · isplitl [Hh]; · iexact Hh
    isplitl [I0]; · iexact I0
    iexact I1
  icases HH with ⟨Hx, HS, Hh⟩
  isplitl [Hx]; · iexact Hx
  isplitl [Hg]; · iexact Hg
  isplitl [HS]; · iexact HS
  iexact Hh

/-- The numbers drawn in range: the experts' and the tokens'. -/
def InRange : Prop := (∀ y : S544.Idx, BitVec.toNat (w := 32) (m (((0 : Dev nD) : Thread nD τ).loc main_arg0) y) < 32)
  ∧ ∀ y : S544x1x256.Idx, BitVec.toNat (w := 32) (m (((0 : Dev nD) : Thread nD τ).loc main_arg1) y) < 32768

theorem tbl_ok (hr : InRange m) : ok0 (tbl m) := ok_of _ fun y => by
  have := hr.1 y
  rw [← V_main_arg0 m 0] at this
  exact this

/-- The tables' contents, in range. -/
def adm (hr : InRange m) : (pcfg0 (F := F)).Adm := ⟨tbl m, tbl_ok m hr⟩

theorem dev_eq (c : Dev nD) : c = 0 := by revert c; decide

theorem words_lt (hr : InRange m) (c : Dev nD) (y : S544x1x256.Idx) : BitVec.toNat (w := 32) (V m c main_arg1 y) < 32768 := by
  obtain rfl := dev_eq c
  have := hr.2 y
  rw [← V_main_arg1 m 0] at this
  exact this

set_option backward.isDefEq.respectTransparency.types false in
/-- The launch, and every semaphore counter at zero at every final state. -/
theorem run_main_quiescent (hr : InRange m) : θ_run defs (onTc (τ := τ) (main (F := F))) (s₀ m ρ)
    (fun r => (Pipeline.FramePost (Pipeline.pin pcfgs (fun _ => adm m hr)) (dats m (adm m hr)) 0 (V m)) r ∧ r.2.sem = fun _ => 0) :=
  Pipeline.θ_run_frameP_dma_shared (Q' := _) pcfgs (fun _ => adm m hr) (dats m (adm m hr)) (0 : Fin 1) launch₀0 osem0 defs₀ Variants.none
    ownSemFacts0 H0 H0_sub m ρ main
    (hbody := fun c => (body_obligation m (adm m hr) c (words_lt m hr c)).loose) (hq := fun _ _ _ => rfl)
    (howed := fun _ _ => rfl) (V := V m) (hmain := hmain m Variants.none) (hA := A_eq m (adm m hr))
    (hpf := fun c k => by obtain rfl := dev_eq c; rfl)
    (hin := phi_in m (adm m hr)) (hout := phi_out m (adm m hr))

/-- Every array of the pipeline ends at what the proof data says. -/
theorem run_main (hr : InRange m) : θ_run defs (onTc (τ := τ) (main (F := F))) (s₀ m ρ)
    (Pipeline.FramePost (Pipeline.pin pcfgs (fun _ => adm m hr)) (dats m (adm m hr)) 0 (V m)) :=
  (θ_run defs _ _).mono (fun _ h => h.1) (run_main_quiescent m ρ hr)

theorem rest_ne {b : Ref sig .tc} (h : ∀ w : Fin 8, (spec0 w).arr.view.ref ≠ b) (w : Fin (cfg0 a).W) : ((cfg0 a).spec w).arr.view.ref ≠ b := h w

/-- The arguments end unchanged, and every semaphore counter at zero. -/
theorem frame_moe (hr : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hq => ⟨fun c => by
    have h := hq.1
    exact ⟨((h c).2 main_arg0 (Pipeline.mem_restRefs_of main_arg0 (by decide) (rest_ne (adm m hr) (by decide)))).trans (V_main_arg0 m c),
      ((h c).1 0).trans (((dats m (adm m hr) 0 c).arrAt_in 0 rfl _).trans ((A_eq m (adm m hr) c 0).trans (V_main_arg1 m c))),
      ((h c).2 main_arg2 (Pipeline.mem_restRefs_of main_arg2 (by decide) (rest_ne (adm m hr) (by decide)))).trans (V_main_arg2 m c),
      ((h c).2 main_arg3 (Pipeline.mem_restRefs_of main_arg3 (by decide) (rest_ne (adm m hr) (by decide)))).trans (V_main_arg3 m c),
      ((h c).2 main_arg4 (Pipeline.mem_restRefs_of main_arg4 (by decide) (rest_ne (adm m hr) (by decide)))).trans (V_main_arg4 m c),
      ((h c).2 main_arg5 (Pipeline.mem_restRefs_of main_arg5 (by decide) (rest_ne (adm m hr) (by decide)))).trans (V_main_arg5 m c),
      ((h c).2 main_arg6 (Pipeline.mem_restRefs_of main_arg6 (by decide) (rest_ne (adm m hr) (by decide)))).trans (V_main_arg6 m c),
      ((h c).2 main_arg7 (Pipeline.mem_restRefs_of main_arg7 (by decide) (rest_ne (adm m hr) (by decide)))).trans (V_main_arg7 m c)⟩, hq.2⟩) (run_main_quiescent m ρ hr)

end Cert.Kernel2Ideal.Run

end
-- ==== Proof.MoeFrames.lean ====
module

public import proofs.«01_k».proof.Defs
public import proofs.«01_k».proof.Proof.Gen.Pre_rows_in_range
public import proofs.«01_k».proof.Proof.MoeFrame
public import proofs.«01_k».proof.Proof.MoeIFrame

@[expose] public section

set_option maxRecDepth 16384

noncomputable section

namespace Cert.Proof

open Idealize.ShloMosaic Idealize.SL.Sem

/-! ## The experts' call: its numbers in range, its frames -/

theorem andi_ofBool (p q : Bool) : IntOp.andi (BitVec.ofBool p) (BitVec.ofBool q) = BitVec.ofBool (p && q) := by cases p <;> cases q <;> decide
theorem ofBool_eq_one (p : Bool) : (BitVec.ofBool p = 1#1) ↔ p = true := by cases p <;> decide

/-- A word at or above zero and below `k`, as an unsigned number. -/
theorem word_lt {x : BitVec 32} (k : ℕ) (hk : k < 2147483648) (hge : (0#32).sle x = true) (hlt : x.slt (BitVec.ofNat 32 k) = true) : x.toNat < k := by
  simp only [BitVec.sle, BitVec.slt, decide_eq_true_eq, BitVec.toInt, BitVec.toNat_ofNat] at hge hlt
  have := x.isLt
  omega

theorem range_Kernel2 {m : (ℓ : Loc Cert.Kernel2.nD Cert.Kernel2.τ Cert.Kernel2.sig) → Buf (Elt Bits) ℓ} (h : Cert.Pre_Kernel2 m) : Cert.Kernel2.Run.InRange m := by
  refine ⟨fun y => ?_, fun y => ?_⟩
  · have e := congrFun (h 0).1 y
    simp only [Cert.Pre_rows_in_range.fn, andi, cmpi, broadcastInDim, constantI, IntOp.cmpi, andi_ofBool, ofBool_eq_one, Bool.and_eq_true] at e
    exact word_lt 32 (by decide) e.1 e.2
  · have e := congrFun (h 0).2 y
    simp only [Cert.Pre_rows_in_range.fn, andi, cmpi, broadcastInDim, constantI, IntOp.cmpi, andi_ofBool, ofBool_eq_one, Bool.and_eq_true] at e
    exact word_lt 32768 (by decide) e.1 e.2

theorem range_Kernel2Ideal {m : (ℓ : Loc Cert.Kernel2Ideal.nD Cert.Kernel2Ideal.τ Cert.Kernel2Ideal.sig) → Buf (Elt Ideal) ℓ} (h : Cert.Pre_Kernel2Ideal m) : Cert.Kernel2Ideal.Run.InRange m := by
  refine ⟨fun y => ?_, fun y => ?_⟩
  · have e := congrFun (h 0).1 y
    simp only [Cert.Pre_rows_in_range.fn, andi, cmpi, broadcastInDim, constantI, IntOp.cmpi, andi_ofBool, ofBool_eq_one, Bool.and_eq_true] at e
    exact word_lt 32 (by decide) e.1 e.2
  · have e := congrFun (h 0).2 y
    simp only [Cert.Pre_rows_in_range.fn, andi, cmpi, broadcastInDim, constantI, IntOp.cmpi, andi_ofBool, ofBool_eq_one, Bool.and_eq_true] at e
    exact word_lt 32768 (by decide) e.1 e.2

theorem frame_Kernel2 : Cert.quiescent_Kernel2 := fun m g h => Cert.Kernel2.Run.frame_moe m g (range_Kernel2 h)
theorem frame_Kernel2Ideal : Cert.quiescent_Kernel2Ideal := fun m g h => Cert.Kernel2Ideal.Run.frame_moe m g (range_Kernel2Ideal h)

end Cert.Proof

end
-- ==== Proof.MoeSpec.lean ====
/- What one row of the experts' call holds, over extended reals and plain coordinates. -/
module

public import proofs.«01_k».proof.Proof.Spec

@[expose] public section

noncomputable section

namespace Cert.Moe

open Idealize.ShloMosaic Cert.Mix

/-- The constants of the activation. -/
abbrev one : EReal := Ideal.ofBits .f32 0x3F800000#32
abbrev seven : EReal := Ideal.ofBits .f32 0x40E00000#32
abbrev neg7 : EReal := Ideal.ofBits .f32 0xC0E00000#32
abbrev slope : EReal := Ideal.ofBits .f32 0x3FD9DB23#32

theorem one_eq : one = 1 := by
  simp [one, Ideal.ofBits, Ideal.ieee]
  rw [← EReal.coe_mul, ← EReal.coe_one]
  exact congrArg _ (by norm_num)

/-- A normalised token through the first product, its bias added. -/
def hid (x g : Fin 1024 → EReal) (w : Fin 1024 → Fin 2048 → EReal) (b : Fin 2048 → EReal) (j : Fin 2048) : EReal :=
  ∑ k, rmsN c1024 x g k * w k j + b j

/-- The gated activation of a gate and the value beside it. -/
def gate (u v : EReal) : EReal := (min seven (max neg7 v) + one) * (min u seven * Ideal.logistic (slope * min u seven))

/-- Entry `f` of the activations: the gate at column `2 f`, the value at column `2 f + 1`. -/
def act (h : Fin 2048 → EReal) (f : Fin 1024) : EReal := gate (h ⟨2 * f.val, by omega⟩) (h ⟨2 * f.val + 1, by omega⟩)

/-- The row's result: the activations through the second product, its bias added. -/
def row (x g : Fin 1024 → EReal) (w : Fin 1024 → Fin 2048 → EReal) (b : Fin 2048 → EReal) (wd : Fin 1024 → Fin 1024 → EReal) (bd : Fin 1024 → EReal) (d : Fin 1024) : EReal :=
  ∑ f, act (hid x g w b) f * wd f d + bd d

/-- Where lane `l` of the packed activations comes from. -/
def lane (l : Fin 1024) : Fin 1024 := ⟨l.val % 2 * 512 + l.val / 2, by omega⟩

/-- Each activation sits at one lane. -/
def lanes : Fin 1024 ≃ Fin 1024 where
  toFun := lane
  invFun f := ⟨if f.val < 512 then 2 * f.val else 2 * (f.val - 512) + 1, by split_ifs <;> omega⟩
  left_inv l := by
    refine Fin.ext ?_
    show (if l.val % 2 * 512 + l.val / 2 < 512 then 2 * (l.val % 2 * 512 + l.val / 2) else 2 * (l.val % 2 * 512 + l.val / 2 - 512) + 1) = l.val
    split_ifs <;> omega
  right_inv f := by
    refine Fin.ext ?_
    show (if f.val < 512 then 2 * f.val else 2 * (f.val - 512) + 1) % 2 * 512 + (if f.val < 512 then 2 * f.val else 2 * (f.val - 512) + 1) / 2 = f.val
    split_ifs <;> omega

/-- The packed activations: an even lane holds the one at its own column, an odd lane the one 1023 columns on. -/
theorem packed (h : Fin 2048 → EReal) (l : Fin 1024) (u v : Fin 2048)
    (hu : u.val = if l.val % 2 = 0 then l.val else 1023 + l.val) (hv : v.val = u.val + 1) : gate (h u) (h v) = act h (lane l) := by
  unfold act
  have e : u.val = 2 * (lane l).val := by
    show u.val = 2 * (l.val % 2 * 512 + l.val / 2)
    rw [hu]; split_ifs <;> omega
  congr 2 <;> refine Fin.ext ?_
  · exact e
  · exact hv.trans (by rw [e])

/-- The sum over the lanes is the sum over the activations. -/
theorem row_lanes (x g : Fin 1024 → EReal) (w : Fin 1024 → Fin 2048 → EReal) (b : Fin 2048 → EReal) (wd : Fin 1024 → Fin 1024 → EReal) (bd : Fin 1024 → EReal) (d : Fin 1024) :
    ∑ l, act (hid x g w b) (lane l) * wd (lane l) d + bd d = row x g w b wd bd d := by
  unfold row
  exact congrArg (· + bd d) (Equiv.sum_comp lanes fun f => act (hid x g w b) f * wd f d)

end Cert.Moe

end
-- ==== Proof.MoeKv.lean ====
/- What the experts' body computes, read at a row and a column. -/
module

public import proofs.«01_k».proof.Proof.MoeSpec
public import proofs.«01_k».proof.Proof.MoeIBody
public import Idealize.ShloMosaic.Lib.Pointwise

@[expose] public section

set_option maxRecDepth 16384

noncomputable section

namespace Cert.Kernel2Ideal.Val

open Cert.Kernel2Ideal Cert.Kernel2Ideal.Gen Cert.Mix Cert.Moe
open Idealize.ShloMosaic Idealize.ShloMosaic.TcCoe Idealize.SL.Sem

variable (xs : FVec Ideal S1x256x1024 .f32) (nv : FVec Ideal S1x1024 .f32) (wg : FVec Ideal S1x1024x2048 .bf16) (bg : FVec Ideal S1x1x2048 .f32)
  (wd : FVec Ideal S1x1024x1024 .bf16) (bd : FVec Ideal S1x1x1024 .f32)

theorem pay4_at (r : Fin 256) (l : Fin 2048) : k0_pay4 (F := Ideal) (k0_pay2 xs) (k0_pay3 nv) wg bg (ix2 r l)
    = gate (hid (fun k => xs (ix3 0 r k)) (fun k => nv (ix2 0 k)) (fun k j => wg (ix3 0 k j)) (fun j => bg (ix3 0 0 j)) l)
        (hid (fun k => xs (ix3 0 r k)) (fun k => nv (ix2 0 k)) (fun k j => wg (ix3 0 k j)) (fun j => bg (ix3 0 0 j)) ⟨(l.val + 2048 - 2047) % 2048, by omega⟩) := by
  unfold gate hid rmsN
  pointwise [k0_pay4, k0_pay3, k0_pay2]

theorem pay5_at (r : Fin 256) (l : Fin 1024) : k0_pay5 (ix2 r l) = BitVec.ofNat 32 (l.val % 2) := by
  have h : ∀ l : Fin 1024, k0_pay5 (ix2 0 l) = BitVec.ofNat 32 (l.val % 2) := by decide +kernel
  exact h l

theorem pay1_at (a : FVec Ideal S256x2048 .f32) (p : IVec S256x1024 32) (r : Fin 256) (d : Fin 1024) :
    k0_pay1 (F := Ideal) a p 0#32 wd bd (ix2 r d)
      = ∑ l : Fin 1024, (if p (ix2 r l) = 0#32 then a (ix2 r ⟨l.val, by omega⟩) else a (ix2 r ⟨1024 + (l.val + 1024 - 1) % 1024, by omega⟩)) * wd (ix3 0 l d) + bd (ix3 0 0 d) := by
  pointwise [k0_pay1]
  refine congrArg (· + _) (Finset.sum_congr rfl fun l _ => congrArg (· * _) ?_)
  by_cases h : p (ix2 r l) = 0#32
  · rw [if_pos h, h]; rfl
  · have hb : (p (ix2 r l) == 0#32) = false := by simpa using h
    rw [if_neg h]; simp [Scalar.select, IntOp.cmpi, hb]

/-- A block's entry is the row's result, once the second weights sit where the packed activations do. -/
theorem kval_at (x g : Fin 1024 → EReal) (w : Fin 1024 → Fin 2048 → EReal) (b : Fin 2048 → EReal) (w2 : Fin 1024 → Fin 1024 → EReal) (b2 : Fin 1024 → EReal)
    (r : Fin 256) (d : Fin 1024) (hx : ∀ k, xs (ix3 0 r k) = x k) (hg : ∀ k, nv (ix2 0 k) = g k) (hw : ∀ k j, wg (ix3 0 k j) = w k j) (hb : ∀ j, bg (ix3 0 0 j) = b j)
    (hw2 : ∀ l d, wd (ix3 0 l d) = w2 (lane l) d) (hb2 : ∀ d, bd (ix3 0 0 d) = b2 d) : Run.kval (F := Ideal) xs nv wg bg wd bd (ix2 r d) = row x g w b w2 b2 d := by
  unfold Run.kval
  rw [pay1_at, ← row_lanes, hb2]
  refine congrArg (· + _) (Finset.sum_congr rfl fun l _ => ?_)
  rw [hw2]
  refine congrArg (· * _) ?_
  rw [pay5_at, pay4_at, pay4_at]
  simp only [hx, hg, hw, hb]
  have hl := l.isLt
  rcases Nat.mod_two_eq_zero_or_one l.val with e | e <;> rw [e]
  · rw [if_pos rfl]
    exact packed _ l _ _ (by rw [if_pos e]) (by show (l.val + 2048 - 2047) % 2048 = l.val + 1; omega)
  · rw [if_neg (by decide)]
    exact packed _ l _ _ (by rw [if_neg (by omega)]; show 1024 + (l.val + 1024 - 1) % 1024 = _; omega)
      (by show (1024 + (l.val + 1024 - 1) % 1024 + 2048 - 2047) % 2048 = 1024 + (l.val + 1024 - 1) % 1024 + 1; omega)

end Cert.Kernel2Ideal.Val

end
-- ==== Proof.MoeKb.lean ====
/- The experts' blocks and the result array they make. -/
module

public import proofs.«01_k».proof.Proof.MoeKv
public import proofs.«01_k».proof.Proof.MoeIFrame
public import Idealize.ShloMosaic.Lib.Pipeline.ValueKit
public import Idealize.ShloMosaic.Lib.StableHlo.RunRead
public import Idealize.ShloMosaic.Lib.Pipeline.TableIdle

@[expose] public section

set_option maxRecDepth 16384

noncomputable section

namespace Cert.Kernel2Ideal.Val

open Cert.Kernel2Ideal Cert.Kernel2Ideal.Gen Cert.Kernel2Ideal.Run Cert.Mix Cert.Moe
open Idealize.ShloMosaic Idealize.ShloMosaic.TcCoe Idealize.SL.Sem

variable (m : (ℓ : Loc nD τ sig) → Buf (Elt Ideal) ℓ) (c : Dev nD)

/-! ## The operands the host operations prepare -/

theorem v4_at (k : Fin 1024) : V m c main_v4 (ix2 0 k) = m (c.tc.loc main_arg3) (ix2 0 k) := by
  unfold V
  simp only [hostOps0]
  after_reads_simp
  pointwise
theorem v6_at (e : Fin 32) (k : Fin 1024) (j : Fin 2048) : V m c main_v6 (ix3 e k j) = m (c.tc.loc main_arg4) (ix4 0 e k j) := by
  unfold V
  simp only [hostOps0]
  after_reads_simp
  pointwise
theorem v8_at (e : Fin 32) (j : Fin 2048) : V m c main_v8 (ix3 e 0 j) = m (c.tc.loc main_arg5) (ix3 0 e j) := by
  unfold V
  simp only [hostOps0]
  after_reads_simp
  pointwise
theorem v10_at (e : Fin 32) (l d : Fin 1024) : V m c main_v10 (ix3 e l d) = m (c.tc.loc main_arg6) (ix4 0 e (lane l) d) := by
  unfold V
  simp only [hostOps0]
  after_reads_simp
  pointwise
  rfl
theorem v12_at (e : Fin 32) (d : Fin 1024) : V m c main_v12 (ix3 e 0 d) = m (c.tc.loc main_arg7) (ix3 0 e d) := by
  unfold V
  simp only [hostOps0]
  after_reads_simp
  pointwise

/-! ## The blocks -/

theorem slab_emb {A B C : ℕ} {o : Fin 3 → Nat} {n : Fin A} (e : o = ![n.val, 0, 0]) (h) (i : Fin B) (j : Fin C) :
    (Rect.block (s := (⟨3, ![A, B, C]⟩ : Shape)) (⟨3, ![1, B, C]⟩ : Shape).size o h).emb (ix3 0 i j) = (ix3 n i j : (⟨3, ![A, B, C]⟩ : Shape).Idx) := by
  subst e
  funext b
  fin_cases b
  · exact Fin.ext (by show n.val * 1 + 1 * 0 = n.val; omega)
  · exact Fin.ext (by show 0 * B + 1 * i.val = i.val; omega)
  · exact Fin.ext (by show 0 * C + 1 * j.val = j.val; omega)

variable (hr : InRange m) (t : Fin grid0.N)

/-- The expert of a point. -/
def ex : Fin 32 := ⟨BitVec.toNat (w := 32) (m (((0 : Dev nD) : Thread nD τ).loc main_arg0) (ix1 ⟨t.val, t.isLt⟩)), hr.1 _⟩

theorem off1 : ∀ t : Fin grid0.N, k0_off1 (grid0.coords t) 0 = t.val := by decide +kernel

theorem idx4 (h1 h2) : cc0_transform_4 h1 h2 (tbl m) (grid0.coords t) = ![(ex m hr t).val, 0, 0] := by
  have e : cc0_transform_4 h1 h2 (tbl m) (grid0.coords t) = ![BitVec.toNat (w := 32) (V m 0 main_arg0 (ix1 ⟨t.val, t.isLt⟩)), 0, 0] := by
    unfold cc0_transform_4
    dsimp only
    congr 2
    show V m 0 main_arg0 _ = V m 0 main_arg0 _
    congr 1
    funext b
    obtain ⟨b, hb⟩ := b
    obtain rfl : b = 0 := by have : b < 1 := hb; omega
    refine Fin.ext ?_
    show k0_off1 (grid0.coords t) 0 + 1 * 0 = t.val
    rw [off1]
    rfl
  rw [e, V_main_arg0]
  rfl

theorem blk2 (k : Fin 1024) : iblk m (adm m hr) c 2 t (ix2 0 k) = V m c main_v4 (ix2 0 k) := by
  show V m c main_v4 _ = V m c main_v4 _
  congr 1
  funext b
  fin_cases b
  · rfl
  · exact Fin.ext (by show 0 * 1024 + 1 * k.val = k.val; omega)
theorem blk3 (k : Fin 1024) (j : Fin 2048) : iblk m (adm m hr) c 3 t (ix3 0 k j) = V m c main_v6 (ix3 (ex m hr t) k j) :=
  congrArg (V m c main_v6) (slab_emb (idx4 m hr t _ _) (by rw [idx4 m hr t]; exact (ex3 (ex m hr t)).fst) k j)
theorem blk4 (j : Fin 2048) : iblk m (adm m hr) c 4 t (ix3 0 0 j) = V m c main_v8 (ix3 (ex m hr t) 0 j) :=
  congrArg (V m c main_v8) (slab_emb (idx4 m hr t _ _) (by rw [idx4 m hr t]; exact (ex4 (ex m hr t)).fst) 0 j)
theorem blk5 (k j : Fin 1024) : iblk m (adm m hr) c 5 t (ix3 0 k j) = V m c main_v10 (ix3 (ex m hr t) k j) :=
  congrArg (V m c main_v10) (slab_emb (idx4 m hr t _ _) (by rw [idx4 m hr t]; exact (ex5 (ex m hr t)).fst) k j)
theorem blk6 (j : Fin 1024) : iblk m (adm m hr) c 6 t (ix3 0 0 j) = V m c main_v12 (ix3 (ex m hr t) 0 j) :=
  congrArg (V m c main_v12) (slab_emb (idx4 m hr t _ _) (by rw [idx4 m hr t]; exact (ex6 (ex m hr t)).fst) 0 j)

/-! ## The result array -/

/-- The call's result over the arrays as launched: row `256 n + r` is block `n`'s row `r`. -/
def res : FVec Ideal S139264x1024 .f32 := fun i =>
  row (fun k => m (((0 : Dev nD) : Thread nD τ).loc main_arg2) (ix2 (⟨BitVec.toNat (w := 32) (m (((0 : Dev nD) : Thread nD τ).loc main_arg1) (ix3 (⟨(i 0).val / 256, Nat.div_lt_of_lt_mul (i 0).isLt⟩ : Fin 544) 0 (⟨(i 0).val % 256, Nat.mod_lt _ (by decide)⟩ : Fin 256))), hr.2 _⟩ : Fin 32768) k))
    (fun k => m (((0 : Dev nD) : Thread nD τ).loc main_arg3) (ix2 0 k))
    (fun k j => m (((0 : Dev nD) : Thread nD τ).loc main_arg4) (ix4 0 (ex m hr ⟨(i 0).val / 256, Nat.div_lt_of_lt_mul (i 0).isLt⟩) k j))
    (fun j => m (((0 : Dev nD) : Thread nD τ).loc main_arg5) (ix3 0 (ex m hr ⟨(i 0).val / 256, Nat.div_lt_of_lt_mul (i 0).isLt⟩) j))
    (fun f d => m (((0 : Dev nD) : Thread nD τ).loc main_arg6) (ix4 0 (ex m hr ⟨(i 0).val / 256, Nat.div_lt_of_lt_mul (i 0).isLt⟩) f d))
    (fun d => m (((0 : Dev nD) : Thread nD τ).loc main_arg7) (ix3 0 (ex m hr ⟨(i 0).val / 256, Nat.div_lt_of_lt_mul (i 0).isLt⟩) d)) (i 1)

/-- The row a block reads for its token. -/
theorem slot_at (r : Fin 256) (k : Fin 1024) : slotOf (F := Ideal) (X (V m 0 main_arg2) (tb (V m 0 main_arg1) t.val)) (sl t.val) (ix3 0 r k)
    = m (((0 : Dev nD) : Thread nD τ).loc main_arg2) (ix2 (⟨BitVec.toNat (w := 32) (m (((0 : Dev nD) : Thread nD τ).loc main_arg1) (ix3 (⟨t.val, t.isLt⟩ : Fin 544) 0 r)), hr.2 _⟩ : Fin 32768) k) := by
  show V m 0 main_arg2 (ix2 (tok (V m 0 main_arg1 (ix3 (⟨t.val % 544, Nat.mod_lt _ (by decide)⟩ : Fin 544) 0 r))) k) = _
  rw [V_main_arg2, V_main_arg1]
  have e : (⟨t.val % 544, Nat.mod_lt _ (by decide)⟩ : Fin 544) = ⟨t.val, t.isLt⟩ := Fin.ext (Nat.mod_eq_of_lt t.isLt)
  rw [e]
  have e2 : tok (m (((0 : Dev nD) : Thread nD τ).loc main_arg1) (ix3 (⟨t.val, t.isLt⟩ : Fin 544) 0 r))
      = ⟨BitVec.toNat (w := 32) (m (((0 : Dev nD) : Thread nD τ).loc main_arg1) (ix3 (⟨t.val, t.isLt⟩ : Fin 544) 0 r)), hr.2 _⟩ := Fin.ext (Nat.mod_eq_of_lt (hr.2 _))
  rw [e2]

theorem out_at (r : Fin 256) (d : Fin 1024) (R : Fin 139264) (hR : R.val = t.val * 256 + r.val) : out m (adm m hr) 0 t (ix2 r d) = res m hr (ix2 R d) := by
  have hn : (⟨R.val / 256, Nat.div_lt_of_lt_mul R.isLt⟩ : Fin 544) = ⟨t.val, t.isLt⟩ := Fin.ext (by show R.val / 256 = t.val; omega)
  have hm : (⟨R.val % 256, Nat.mod_lt _ (by decide)⟩ : Fin 256) = r := Fin.ext (by show R.val % 256 = r.val; omega)
  unfold out
  refine (kval_at _ _ _ _ _ _ _ _ _ _ (fun f d => m (((0 : Dev nD) : Thread nD τ).loc main_arg6) (ix4 0 (ex m hr t) f d)) _ r d (fun k => slot_at m hr t r k) (fun k => (blk2 m 0 hr t k).trans (v4_at m 0 k)) (fun k j => (blk3 m 0 hr t k j).trans (v6_at m 0 _ k j))
    (fun j => (blk4 m 0 hr t j).trans (v8_at m 0 _ j)) (fun l d => (blk5 m 0 hr t l d).trans (v10_at m 0 _ l d))
    (fun d => (blk6 m 0 hr t d).trans (v12_at m 0 _ d))).trans ?_
  show _ = row (fun k => m (((0 : Dev nD) : Thread nD τ).loc main_arg2) (ix2 (⟨BitVec.toNat (w := 32) (m (((0 : Dev nD) : Thread nD τ).loc main_arg1) (ix3 (⟨R.val / 256, Nat.div_lt_of_lt_mul R.isLt⟩ : Fin 544) 0 (⟨R.val % 256, Nat.mod_lt _ (by decide)⟩ : Fin 256))), hr.2 _⟩ : Fin 32768) k))
    (fun k => m (((0 : Dev nD) : Thread nD τ).loc main_arg3) (ix2 0 k))
    (fun k j => m (((0 : Dev nD) : Thread nD τ).loc main_arg4) (ix4 0 (ex m hr (⟨R.val / 256, Nat.div_lt_of_lt_mul R.isLt⟩ : Fin 544)) k j))
    (fun j => m (((0 : Dev nD) : Thread nD τ).loc main_arg5) (ix3 0 (ex m hr (⟨R.val / 256, Nat.div_lt_of_lt_mul R.isLt⟩ : Fin 544)) j))
    (fun f d => m (((0 : Dev nD) : Thread nD τ).loc main_arg6) (ix4 0 (ex m hr (⟨R.val / 256, Nat.div_lt_of_lt_mul R.isLt⟩ : Fin 544)) f d))
    (fun d => m (((0 : Dev nD) : Thread nD τ).loc main_arg7) (ix3 0 (ex m hr (⟨R.val / 256, Nat.div_lt_of_lt_mul R.isLt⟩ : Fin 544)) d)) d
  simp only [hn, hm]
  rfl

theorem idx8 : ∀ t : Fin grid0.N, cc0_transform_8 (grid0.coords t) = ![t.val, 0] := by decide +kernel

variable (a : (pcfg0 (F := Ideal)).Adm)

/-- Every point writes its block back. -/
theorem flush7 (t : Fin (cfg0 a).N) : ((cfg0 a).win 7).flush t = true := by
  rw [Pipeline.Window.flush_eq_flushF]
  unfold Pipeline.Window.flushF
  rw [Bool.and_eq_true]
  refine ⟨rfl, ?_⟩
  rw [Bool.or_eq_true, decide_eq_true_eq, decide_eq_true_eq]
  by_cases h : t.val + 1 = (cfg0 a).grid.N
  · exact Or.inl h
  · have ht : t.val + 1 < (cfg0 a).grid.N := by have : t.val < (cfg0 a).grid.N := t.isLt; omega
    refine Or.inr ⟨ht, (0 : Fin 2), ?_⟩
    show cc0_transform_8 (grid0.coords ⟨t.val + 1, ht⟩) 0 ≠ cc0_transform_8 (grid0.coords t) 0
    rw [idx8, idx8]
    show t.val + 1 ≠ t.val
    omega

theorem covers7 : ((cfg0 a).win 7).Covers := by
  refine ⟨(by decide : ∀ b : Fin 2, 0 < S256x1024.size b), fun β => ?_⟩
  have h0 : (β (0 : Fin 2)).val < 544 := lt_of_lt_of_eq (β (0 : Fin 2)).isLt (by decide : (139264 + 256 - 1) / 256 = 544)
  have h1 : (β (1 : Fin 2)).val < 1 := lt_of_lt_of_eq (β (1 : Fin 2)).isLt (by decide : (1024 + 1024 - 1) / 1024 = 1)
  refine ⟨(⟨(β (0 : Fin 2)).val, h0⟩ : Fin grid0.N), flush7 a _, fun b => ⟨?_, Or.inl rfl⟩⟩
  show cc0_transform_8 (grid0.coords ⟨(β (0 : Fin 2)).val, h0⟩) b = (β b).val
  rw [idx8]
  match b with
  | ⟨0, _⟩ => rfl
  | ⟨1, _⟩ => exact (Nat.lt_one_iff.mp h1).symm

/-- The result array after the run. -/
theorem final : (dats m (adm m hr) 0 0).arrAt 7 (cfg0 (adm m hr)).N = res m hr := by
  refine (dats m (adm m hr) 0 0).arrAt_eq_of_covers 7 _ (covers7 _) (fun t _ y => ?_) (Memref.isWhole_whole _)
  show (dats m (adm m hr) 0 0).after 7 t y = res m hr ((Rect.block (s := S139264x1024) S256x1024.size (cc0_transform_8 (grid0.coords t)) (hinb0_7 (grid0.coords t))).emb y)
  rw [after0_7]
  obtain ⟨r, d, rfl⟩ : ∃ (r : Fin 256) (d : Fin 1024), y = ix2 r d := ⟨y (0 : Fin 2), y (1 : Fin 2), by funext k; match k with | ⟨0, _⟩ => rfl | ⟨1, _⟩ => rfl⟩
  have ht : t.val < 544 := t.isLt
  refine (out_at m hr t r d ⟨t.val * 256 + r.val, by omega⟩ rfl).trans (congrArg (res m hr) ?_)
  funext b
  match b with
  | ⟨0, _⟩ =>
    refine Fin.ext ?_
    show t.val * 256 + r.val = cc0_transform_8 (grid0.coords t) 0 * 256 + 1 * r.val
    rw [idx8, Nat.one_mul]
    rfl
  | ⟨1, _⟩ =>
    refine Fin.ext ?_
    show d.val = cc0_transform_8 (grid0.coords t) 1 * 1024 + 1 * d.val
    rw [idx8, Nat.one_mul]
    exact (Nat.zero_add _).symm

end Cert.Kernel2Ideal.Val

end
-- ==== Proof.MoeRv.lean ====
/- The experts' reference, read at a row and a column. -/
module

public import proofs.«01_k».proof.Proof.MoeSpec
public import proofs.«01_k».proof.Proof.Gen.Reference2Ideal.Read
public import Idealize.ShloMosaic.Lib.Pointwise

@[expose] public section

set_option maxRecDepth 16384

noncomputable section

namespace Cert.Reference2Ideal.Val

open Cert.Reference2Ideal Cert.Reference2Ideal.Gen Cert.Reference2Ideal.Read Cert.Mix Cert.Moe
open Idealize.ShloMosaic Idealize.ShloMosaic.TcCoe Idealize.SL.Sem

/-- A small word as a starting index, clamped. -/
theorem clamp (w : BitVec 32) (N : ℕ) (h : w.toNat < N) (hN : N < 2 ^ 31) : min w.toInt.toNat (N - 1) = w.toNat := by
  rw [BitVec.toInt_eq_toNat_cond, if_pos (by omega), Int.toNat_natCast]
  omega

section
variable {α : Type}

/-- The tokens' rows the numbers name. -/
theorem gather_tok (x : S32768x1024.Idx → α) (idx : IVec S544x256x1 32) (n : Fin 544) (r : Fin 256) (d : Fin 1024) (w : BitVec 32) (hw : idx (ix3 n r 0) = w) (h : w.toNat < 32768) :
    Host.gather gather_S32768x1024_S544x256x1_S544x256x1024_2_0_n_n_0_2_11024 x idx (ix3 n r d) = x (ix2 ⟨w.toNat, h⟩ d) := by
  subst hw
  unfold Host.gather
  congr 1
  funext a
  refine Fin.ext ?_
  show GatherDims.start (gather_S32768x1024_S544x256x1_S544x256x1024_2_0_n_n_0_2_11024) _ idx a + GatherDims.batchCoord _ _ a + GatherDims.offCoord _ _ a = _
  rw [GatherDims.batchCoord_eq_zero _ _ _ List.not_mem_nil]
  match a with
  | ⟨0, _⟩ =>
    show GatherDims.start (gather_S32768x1024_S544x256x1_S544x256x1024_2_0_n_n_0_2_11024) (ix3 n r d) idx 0 + 0 + GatherDims.offCoord (gather_S32768x1024_S544x256x1_S544x256x1024_2_0_n_n_0_2_11024) (ix3 n r d) 0 = (idx (ix3 n r 0)).toNat
    rw [GatherDims.offCoord_eq_zero _ _ _ (fun h => ((GatherDims.mem_sKept _ _).mp h).1 (List.mem_singleton.mpr rfl))]
    unfold GatherDims.start
    rw [dif_pos (show (0 : Fin 2) ∈ (gather_S32768x1024_S544x256x1_S544x256x1024_2_0_n_n_0_2_11024).startIndexMap from List.mem_singleton.mpr rfl)]
    have e : GatherDims.siIdx (gather_S32768x1024_S544x256x1_S544x256x1024_2_0_n_n_0_2_11024) (ix3 n r d) ⟨List.idxOf (0 : Fin 2) (gather_S32768x1024_S544x256x1_S544x256x1024_2_0_n_n_0_2_11024).startIndexMap, List.idxOf_lt_length_iff.2 (List.mem_singleton.mpr rfl)⟩ = ix3 n r 0 := by
      funext b
      fin_cases b <;> rfl
    exact (congrArg (fun i => min (idx i).toInt.toNat (32768 - 1)) e).trans (clamp _ 32768 h (by decide))
  | ⟨1, _⟩ =>
    show GatherDims.start (gather_S32768x1024_S544x256x1_S544x256x1024_2_0_n_n_0_2_11024) (ix3 n r d) idx 1 + 0 + GatherDims.offCoord (gather_S32768x1024_S544x256x1_S544x256x1024_2_0_n_n_0_2_11024) (ix3 n r d) 1 = d.val
    unfold GatherDims.start
    rw [dif_neg (show ¬ (1 : Fin 2) ∈ (gather_S32768x1024_S544x256x1_S544x256x1024_2_0_n_n_0_2_11024).startIndexMap from (by decide : ¬ (1 : Fin 2) ∈ [0]))]
    exact Nat.zero_add _

/-- The dimension numbers of the experts' matrices, of any height and width. -/
abbrev matDims (B C : ℕ) (wf : GatherDims.WF ⟨3, ![32, B, C]⟩ ⟨2, ![544, 1]⟩ ⟨3, ![544, B, C]⟩ [1, 2] [0] [] [0] [] 1 ![1, B, C]) :
    GatherDims ⟨3, ![32, B, C]⟩ ⟨2, ![544, 1]⟩ ⟨3, ![544, B, C]⟩ where
  offsetDims := [1, 2]
  collapsedSliceDims := [0]
  operandBatchingDims := []
  startIndicesBatchingDims := []
  startIndexMap := [0]
  indexVectorDim := 1
  sliceSizes := ![1, B, C]
  wf := wf

/-- The experts' matrices the numbers name. -/
theorem gather_mat {B C : ℕ} (wf) (x : (⟨3, ![32, B, C]⟩ : Shape).Idx → α) (idx : IVec ⟨2, ![544, 1]⟩ 32) (n : Fin 544) (i : Fin B) (j : Fin C) (w : BitVec 32)
    (hw : idx (ix2 n 0) = w) (h : w.toNat < 32) : Host.gather (matDims B C wf) x idx (ix3 n i j) = x (ix3 ⟨w.toNat, h⟩ i j) := by
  subst hw
  unfold Host.gather
  congr 1
  funext a
  refine Fin.ext ?_
  show GatherDims.start (matDims B C wf) _ idx a + GatherDims.batchCoord _ _ a + GatherDims.offCoord _ _ a = _
  rw [GatherDims.batchCoord_eq_zero _ _ _ List.not_mem_nil]
  match a with
  | ⟨0, _⟩ =>
    show GatherDims.start (matDims B C wf) (ix3 n i j) idx 0 + 0 + GatherDims.offCoord (matDims B C wf) (ix3 n i j) 0 = (idx (ix2 n 0)).toNat
    rw [GatherDims.offCoord_eq_zero _ _ _ (fun h => ((GatherDims.mem_sKept _ _).mp h).1 (List.mem_singleton.mpr rfl))]
    unfold GatherDims.start
    rw [dif_pos (show (0 : Fin 3) ∈ (matDims B C wf).startIndexMap from List.mem_singleton.mpr rfl)]
    have e : GatherDims.siIdx (matDims B C wf) (ix3 n i j) ⟨List.idxOf (0 : Fin 3) (matDims B C wf).startIndexMap, List.idxOf_lt_length_iff.2 (List.mem_singleton.mpr rfl)⟩ = ix2 n 0 := by
      funext b
      fin_cases b <;> rfl
    exact (congrArg (fun i => min (idx i).toInt.toNat (32 - 1)) e).trans (clamp _ 32 h (by decide))
  | ⟨1, _⟩ =>
    show GatherDims.start (matDims B C wf) (ix3 n i j) idx 1 + 0 + GatherDims.offCoord (matDims B C wf) (ix3 n i j) 1 = i.val
    unfold GatherDims.start
    rw [dif_neg (show ¬ (1 : Fin 3) ∈ (matDims B C wf).startIndexMap from (by decide : ¬ (1 : Fin 3) ∈ [0]))]
    exact Nat.zero_add _
  | ⟨2, _⟩ =>
    show GatherDims.start (matDims B C wf) (ix3 n i j) idx 2 + 0 + GatherDims.offCoord (matDims B C wf) (ix3 n i j) 2 = j.val
    unfold GatherDims.start
    rw [dif_neg (show ¬ (2 : Fin 3) ∈ (matDims B C wf).startIndexMap from (by decide : ¬ (2 : Fin 3) ∈ [0]))]
    exact Nat.zero_add _

/-- The dimension numbers of the experts' biases, of any width. -/
abbrev vecDims (C : ℕ) (wf : GatherDims.WF ⟨2, ![32, C]⟩ ⟨2, ![544, 1]⟩ ⟨2, ![544, C]⟩ [1] [0] [] [0] [] 1 ![1, C]) :
    GatherDims ⟨2, ![32, C]⟩ ⟨2, ![544, 1]⟩ ⟨2, ![544, C]⟩ where
  offsetDims := [1]
  collapsedSliceDims := [0]
  operandBatchingDims := []
  startIndicesBatchingDims := []
  startIndexMap := [0]
  indexVectorDim := 1
  sliceSizes := ![1, C]
  wf := wf

/-- The experts' biases the numbers name. -/
theorem gather_vec {C : ℕ} (wf) (x : (⟨2, ![32, C]⟩ : Shape).Idx → α) (idx : IVec ⟨2, ![544, 1]⟩ 32) (n : Fin 544) (j : Fin C) (w : BitVec 32)
    (hw : idx (ix2 n 0) = w) (h : w.toNat < 32) : Host.gather (vecDims C wf) x idx (ix2 n j) = x (ix2 ⟨w.toNat, h⟩ j) := by
  subst hw
  unfold Host.gather
  congr 1
  funext a
  refine Fin.ext ?_
  show GatherDims.start (vecDims C wf) _ idx a + GatherDims.batchCoord _ _ a + GatherDims.offCoord _ _ a = _
  rw [GatherDims.batchCoord_eq_zero _ _ _ List.not_mem_nil]
  match a with
  | ⟨0, _⟩ =>
    show GatherDims.start (vecDims C wf) (ix2 n j) idx 0 + 0 + GatherDims.offCoord (vecDims C wf) (ix2 n j) 0 = (idx (ix2 n 0)).toNat
    rw [GatherDims.offCoord_eq_zero _ _ _ (fun h => ((GatherDims.mem_sKept _ _).mp h).1 (List.mem_singleton.mpr rfl))]
    unfold GatherDims.start
    rw [dif_pos (show (0 : Fin 2) ∈ (vecDims C wf).startIndexMap from List.mem_singleton.mpr rfl)]
    have e : GatherDims.siIdx (vecDims C wf) (ix2 n j) ⟨List.idxOf (0 : Fin 2) (vecDims C wf).startIndexMap, List.idxOf_lt_length_iff.2 (List.mem_singleton.mpr rfl)⟩ = ix2 n 0 := by
      funext b
      fin_cases b <;> rfl
    exact (congrArg (fun i => min (idx i).toInt.toNat (32 - 1)) e).trans (clamp _ 32 h (by decide))
  | ⟨1, _⟩ =>
    show GatherDims.start (vecDims C wf) (ix2 n j) idx 1 + 0 + GatherDims.offCoord (vecDims C wf) (ix2 n j) 1 = j.val
    unfold GatherDims.start
    rw [dif_neg (show ¬ (1 : Fin 2) ∈ (vecDims C wf).startIndexMap from (by decide : ¬ (1 : Fin 2) ∈ [0]))]
    exact Nat.zero_add _
end

variable (x0 : IVec S544 32) (x1 : IVec S544x1x256 32) (x2 : FVec Ideal S32768x1024 .f32) (x3 : FVec Ideal S1x1024 .f32) (x4 : FVec Ideal S1x32x1024x2048 .f32)
  (x5 : FVec Ideal S1x32x2048 .f32) (x6 : FVec Ideal S1x32x1024x1024 .f32) (x7 : FVec Ideal S1x32x1024 .f32)
  (h0 : ∀ n, (x0 n).toNat < 32) (h1 : ∀ n, (x1 n).toNat < 32768)

theorem v13_at (t : Fin 32768) (d : Fin 1024) : val_main_v13 (F := Ideal) x2 x3 (ix2 t d) = rmsN c1024 (fun k => x2 (ix2 t k)) (fun k => x3 (ix2 0 k)) d := by
  unfold rmsN
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v16_at (n : Fin 544) (r : Fin 256) (d : Fin 1024) : val_main_v16 (F := Ideal) x1 x2 x3 (ix3 n r d)
    = rmsN c1024 (fun k => x2 (ix2 ⟨(x1 (ix3 n 0 r)).toNat, h1 _⟩ k)) (fun k => x3 (ix2 0 k)) d :=
  (gather_tok _ _ n r d (x1 (ix3 n 0 r)) (by pointwise [val_main_v15, val_main_v14]) (h1 _)).trans (v13_at x2 x3 _ d)

theorem v19_at (n : Fin 544) (k : Fin 1024) (j : Fin 2048) : val_main_v19 (F := Ideal) x0 x4 (ix3 n k j) = x4 (ix4 0 ⟨(x0 (ix1 n)).toNat, h0 _⟩ k j) :=
  (gather_mat _ _ _ n k j (x0 (ix1 n)) (by pointwise [val_main_v18]) (h0 _)).trans (by pointwise [val_main_v17])

theorem v23_at (n : Fin 544) (j : Fin 2048) : val_main_v23 (F := Ideal) x0 x5 (ix2 n j) = x5 (ix3 0 ⟨(x0 (ix1 n)).toNat, h0 _⟩ j) :=
  (gather_vec _ _ _ n j (x0 (ix1 n)) (by pointwise [val_main_v22]) (h0 _)).trans (by pointwise [val_main_v21])

theorem v46_at (n : Fin 544) (k j : Fin 1024) : val_main_v46 (F := Ideal) x0 x6 (ix3 n k j) = x6 (ix4 0 ⟨(x0 (ix1 n)).toNat, h0 _⟩ k j) :=
  (gather_mat _ _ _ n k j (x0 (ix1 n)) (by pointwise [val_main_v45]) (h0 _)).trans (by pointwise [val_main_v44])

theorem v50_at (n : Fin 544) (j : Fin 1024) : val_main_v50 (F := Ideal) x0 x7 (ix2 n j) = x7 (ix3 0 ⟨(x0 (ix1 n)).toNat, h0 _⟩ j) :=
  (gather_vec _ _ _ n j (x0 (ix1 n)) (by pointwise [val_main_v49]) (h0 _)).trans (by pointwise [val_main_v48])

theorem v26_at (n : Fin 544) (r : Fin 256) (j : Fin 2048) : val_main_v26 (F := Ideal) x0 x1 x2 x3 x4 x5 (ix3 n r j)
    = hid (fun k => x2 (ix2 ⟨(x1 (ix3 n 0 r)).toNat, h1 _⟩ k)) (fun k => x3 (ix2 0 k)) (fun k j => x4 (ix4 0 ⟨(x0 (ix1 n)).toNat, h0 _⟩ k j))
        (fun j => x5 (ix3 0 ⟨(x0 (ix1 n)).toNat, h0 _⟩ j)) j := by
  unfold hid
  pointwise [val_main_v26, val_main_v25, val_main_v24, val_main_v20]
  simp only [v16_at x1 x2 x3 h1, v19_at x0 x4 h0, v23_at x0 x5 h0]

/-- The logistic function as the reference writes it. -/
theorem logistic_eq (x : EReal) : Ideal.logistic x = Ideal.div one (one + Ideal.exp (-x)) := by
  rw [one_eq]; rfl

theorem v43_at (n : Fin 544) (r : Fin 256) (f : Fin 1024) : val_main_v43 (F := Ideal) x0 x1 x2 x3 x4 x5 (ix3 n r f)
    = act (fun j => val_main_v26 (F := Ideal) x0 x1 x2 x3 x4 x5 (ix3 n r j)) f := by
  unfold act gate
  rw [logistic_eq]
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst_2, val_main_cst_3, val_main_cst_4, val_main_cst_5, val_main_cst_6, val_main_cst_7, val_main_cst_8, val_main_call0_v0, val_main_call0_v1, val_main_call0_v2, val_main_call0_v3, val_main_call0_v4]
  simp only [id_eq, Nat.add_comm 1]
  rfl

/-- The reference's result at a row and a column. -/
theorem v54_at (R : Fin 139264) (n : Fin 544) (r : Fin 256) (hR : R.val = 256 * n.val + r.val) (d : Fin 1024) : val_main_v54 (F := Ideal) x0 x1 x2 x3 x4 x5 x6 x7 (ix2 R d)
    = row (fun k => x2 (ix2 ⟨(x1 (ix3 n 0 r)).toNat, h1 _⟩ k)) (fun k => x3 (ix2 0 k)) (fun k j => x4 (ix4 0 ⟨(x0 (ix1 n)).toNat, h0 _⟩ k j))
        (fun j => x5 (ix3 0 ⟨(x0 (ix1 n)).toNat, h0 _⟩ j)) (fun f d => x6 (ix4 0 ⟨(x0 (ix1 n)).toNat, h0 _⟩ f d)) (fun d => x7 (ix3 0 ⟨(x0 (ix1 n)).toNat, h0 _⟩ d)) d := by
  have e : val_main_v54 (F := Ideal) x0 x1 x2 x3 x4 x5 x6 x7 (ix2 R d) = val_main_v53 (F := Ideal) x0 x1 x2 x3 x4 x5 x6 x7 (ix3 n r d) := by
    have a : n = ⟨R.val / 256, Nat.div_lt_of_lt_mul R.isLt⟩ := Fin.ext (by show n.val = R.val / 256; omega)
    have b : r = ⟨R.val % 256, Nat.mod_lt _ (by omega)⟩ := Fin.ext (by show r.val = R.val % 256; omega)
    rw [a, b]
    pointwise [val_main_v54]
  rw [e]
  unfold row
  pointwise [val_main_v53, val_main_v52, val_main_v51, val_main_v47]
  simp only [v43_at, v26_at x0 x1 x2 x3 x4 x5 h0 h1, v46_at x0 x6 h0, v50_at x0 x7 h0]

end Cert.Reference2Ideal.Val

end
-- ==== Proof.MoeValue.lean ====
/- The experts' call: its result and the reference's are the same function of the arguments. -/
module

public import proofs.«01_k».proof.Proof.MoeFrames
public import proofs.«01_k».proof.Proof.MoeKb
public import proofs.«01_k».proof.Proof.MoeRv
public import Idealize.ShloMosaic.Lib.Claim

@[expose] public section

set_option maxRecDepth 16384

noncomputable section

namespace Cert.Proof

open Idealize.ShloMosaic Idealize.ShloMosaic.TcCoe Idealize.SL.Sem

theorem frame_Reference2Ideal : Cert.quiescent_Reference2Ideal := fun m g _ =>
  (θ_run Cert.Reference2Ideal.defs _ _).mono
    (fun r h => ⟨fun c => (h c).2, sem_eq_zero_of_no_sems (by decide) r.2⟩) (Cert.Reference2Ideal.Value.run m g)
theorem same2 : Cert.preserves_Kernel2_Kernel2Ideal := trivial

open Cert.Kernel2Ideal in
/-- The reference's term as the result array. -/
theorem ref_res2 (m : (ℓ : Loc nD τ sig) → Buf (Elt Ideal) ℓ) (hr : Run.InRange m) :
    Cert.Reference2Ideal.Read.val_main_v54 (F := Ideal) (m (((0 : Dev nD) : Thread nD τ).loc main_arg0)) (m (((0 : Dev nD) : Thread nD τ).loc main_arg1)) (m (((0 : Dev nD) : Thread nD τ).loc main_arg2))
      (m (((0 : Dev nD) : Thread nD τ).loc main_arg3)) (m (((0 : Dev nD) : Thread nD τ).loc main_arg4)) (m (((0 : Dev nD) : Thread nD τ).loc main_arg5))
      (m (((0 : Dev nD) : Thread nD τ).loc main_arg6)) (m (((0 : Dev nD) : Thread nD τ).loc main_arg7)) = Val.res m hr := by
  funext i
  obtain ⟨R, d, rfl⟩ : ∃ (R : Fin 139264) (d : Fin 1024), i = ix2 R d := ⟨i (0 : Fin 2), i (1 : Fin 2), by funext k; match k with | ⟨0, _⟩ => rfl | ⟨1, _⟩ => rfl⟩
  exact Cert.Reference2Ideal.Val.v54_at _ _ _ _ _ _ _ _ hr.1 hr.2 R ⟨R.val / 256, Nat.div_lt_of_lt_mul R.isLt⟩ ⟨R.val % 256, Nat.mod_lt _ (by decide)⟩
    (by show R.val = 256 * (R.val / 256) + R.val % 256; omega) d

set_option maxHeartbeats 1600000 in
/-- The value claim of the experts' call. -/
theorem algebraic2 : Cert.algebraic_Kernel2Ideal_Reference2Ideal := by
  intro m g m' g' hpre hagree
  have hr := range_Kernel2Ideal hpre
  refine ⟨fun c => Cert.Kernel2Ideal.Val.res m hr, ?_, ?_⟩
  · refine (θ_run Cert.Kernel2Ideal.defs _ _).mono (fun r h c => ⟨?_, h.1.1 c⟩) (θ_run_and (Cert.Kernel2Ideal.Run.frame_moe m g hr) (Cert.Kernel2Ideal.Run.run_main m g hr))
    obtain rfl := Cert.Kernel2Ideal.Run.dev_eq c
    exact ((h.2 0).1 7).trans (Cert.Kernel2Ideal.Val.final m hr)
  · refine (θ_run Cert.Reference2Ideal.defs _ _).mono (fun r h c => ⟨((h c).1.trans (Cert.Reference2Ideal.Read.val_main_v54_eq m' c)).trans ?_, (h c).2⟩) (Cert.Reference2Ideal.Value.run m' g')
    obtain ⟨a0, a1, a2, a3, a4, a5, a6, a7⟩ := hagree c
    rw [a0, a1, a2, a3, a4, a5, a6, a7]
    obtain rfl := Cert.Kernel2Ideal.Run.dev_eq c
    exact ref_res2 m hr

end Cert.Proof

end
-- ==== Proof.lean ====
module

public import proofs.«01_k».proof.Defs
public import proofs.«01_k».proof.Proof.Gen.ReferenceIdeal.Read
public import proofs.«01_k».proof.Proof.Gen.Reference2Ideal.Read
public import proofs.«01_k».proof.Proof.Frames
public import proofs.«01_k».proof.Proof.Value
public import proofs.«01_k».proof.Proof.MoeFrames
public import proofs.«01_k».proof.Proof.MoeValue

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, preFacts, Cert.Pre_rows_in_range.Gen.facts, frame_Kernel, frame_KernelIdeal,
    frame_KernelIdeal_pre, frame_ReferenceIdeal, frame_ReferenceIdeal_pre, frame_Kernel2, frame_Kernel2Ideal, frame_Reference2Ideal,
    same, algebraic, same2, algebraic2⟩

end Cert.Proof

end
